-- ==== Defs.lean ====
def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11)
      ∧ r.2.mem ((c.tc : Thread Cert.Post.nD Cert.Post.τ).loc Cert.Post.main_arg12) = m ((c.tc : Thread Cert.Post.nD Cert.Post.τ).loc Cert.Post.main_arg12)
      ∧ r.2.mem ((c.tc : Thread Cert.Post.nD Cert.Post.τ).loc Cert.Post.main_arg13) = m ((c.tc : Thread Cert.Post.nD Cert.Post.τ).loc Cert.Post.main_arg13)
      ∧ r.2.mem ((c.tc : Thread Cert.Post.nD Cert.Post.τ).loc Cert.Post.main_arg14) = m ((c.tc : Thread Cert.Post.nD Cert.Post.τ).loc Cert.Post.main_arg14)
      ∧ r.2.mem ((c.tc : Thread Cert.Post.nD Cert.Post.τ).loc Cert.Post.main_arg15) = m ((c.tc : Thread Cert.Post.nD Cert.Post.τ).loc Cert.Post.main_arg15)
      ∧ r.2.mem ((c.tc : Thread Cert.Post.nD Cert.Post.τ).loc Cert.Post.main_arg16) = m ((c.tc : Thread Cert.Post.nD Cert.Post.τ).loc Cert.Post.main_arg16)
      ∧ r.2.mem ((c.tc : Thread Cert.Post.nD Cert.Post.τ).loc Cert.Post.main_arg17) = m ((c.tc : Thread Cert.Post.nD Cert.Post.τ).loc Cert.Post.main_arg17))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
      ∧ r.2.mem ((c.tc : Thread Cert.PostIdeal.nD Cert.PostIdeal.τ).loc Cert.PostIdeal.main_arg13) = m ((c.tc : Thread Cert.PostIdeal.nD Cert.PostIdeal.τ).loc Cert.PostIdeal.main_arg13)
      ∧ r.2.mem ((c.tc : Thread Cert.PostIdeal.nD Cert.PostIdeal.τ).loc Cert.PostIdeal.main_arg14) = m ((c.tc : Thread Cert.PostIdeal.nD Cert.PostIdeal.τ).loc Cert.PostIdeal.main_arg14)
      ∧ r.2.mem ((c.tc : Thread Cert.PostIdeal.nD Cert.PostIdeal.τ).loc Cert.PostIdeal.main_arg15) = m ((c.tc : Thread Cert.PostIdeal.nD Cert.PostIdeal.τ).loc Cert.PostIdeal.main_arg15)
      ∧ r.2.mem ((c.tc : Thread Cert.PostIdeal.nD Cert.PostIdeal.τ).loc Cert.PostIdeal.main_arg16) = m ((c.tc : Thread Cert.PostIdeal.nD Cert.PostIdeal.τ).loc Cert.PostIdeal.main_arg16)
      ∧ r.2.mem ((c.tc : Thread Cert.PostIdeal.nD Cert.PostIdeal.τ).loc Cert.PostIdeal.main_arg17) = m ((c.tc : Thread Cert.PostIdeal.nD Cert.PostIdeal.τ).loc Cert.PostIdeal.main_arg17))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10)
      ∧ r.2.mem ((c.tc : Thread Cert.PostRefIdeal.nD Cert.PostRefIdeal.τ).loc Cert.PostRefIdeal.main_arg11) = m ((c.tc : Thread Cert.PostRefIdeal.nD Cert.PostRefIdeal.τ).loc Cert.PostRefIdeal.main_arg11)
      ∧ r.2.mem ((c.tc : Thread Cert.PostRefIdeal.nD Cert.PostRefIdeal.τ).loc Cert.PostRefIdeal.main_arg12) = m ((c.tc : Thread Cert.PostRefIdeal.nD Cert.PostRefIdeal.τ).loc Cert.PostRefIdeal.main_arg12)
      ∧ r.2.mem ((c.tc : Thread Cert.PostRefIdeal.nD Cert.PostRefIdeal.τ).loc Cert.PostRefIdeal.main_arg13) = m ((c.tc : Thread Cert.PostRefIdeal.nD Cert.PostRefIdeal.τ).loc Cert.PostRefIdeal.main_arg13)
      ∧ r.2.mem ((c.tc : Thread Cert.PostRefIdeal.nD Cert.PostRefIdeal.τ).loc Cert.PostRefIdeal.main_arg14) = m ((c.tc : Thread Cert.PostRefIdeal.nD Cert.PostRefIdeal.τ).loc Cert.PostRefIdeal.main_arg14)
      ∧ r.2.mem ((c.tc : Thread Cert.PostRefIdeal.nD Cert.PostRefIdeal.τ).loc Cert.PostRefIdeal.main_arg15) = m ((c.tc : Thread Cert.PostRefIdeal.nD Cert.PostRefIdeal.τ).loc Cert.PostRefIdeal.main_arg15)
      ∧ r.2.mem ((c.tc : Thread Cert.PostRefIdeal.nD Cert.PostRefIdeal.τ).loc Cert.PostRefIdeal.main_arg16) = m ((c.tc : Thread Cert.PostRefIdeal.nD Cert.PostRefIdeal.τ).loc Cert.PostRefIdeal.main_arg16)
      ∧ r.2.mem ((c.tc : Thread Cert.PostRefIdeal.nD Cert.PostRefIdeal.τ).loc Cert.PostRefIdeal.main_arg17) = m ((c.tc : Thread Cert.PostRefIdeal.nD Cert.PostRefIdeal.τ).loc Cert.PostRefIdeal.main_arg17))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5)
      ∧ r.2.mem ((c.tc : Thread Cert.In.nD Cert.In.τ).loc Cert.In.main_arg6) = m ((c.tc : Thread Cert.In.nD Cert.In.τ).loc Cert.In.main_arg6)
      ∧ r.2.mem ((c.tc : Thread Cert.In.nD Cert.In.τ).loc Cert.In.main_arg7) = m ((c.tc : Thread Cert.In.nD Cert.In.τ).loc Cert.In.main_arg7)
      ∧ r.2.mem ((c.tc : Thread Cert.In.nD Cert.In.τ).loc Cert.In.main_arg8) = m ((c.tc : Thread Cert.In.nD Cert.In.τ).loc Cert.In.main_arg8)
      ∧ r.2.mem ((c.tc : Thread Cert.In.nD Cert.In.τ).loc Cert.In.main_arg9) = m ((c.tc : Thread Cert.In.nD Cert.In.τ).loc Cert.In.main_arg9)
      ∧ r.2.mem ((c.tc : Thread Cert.In.nD Cert.In.τ).loc Cert.In.main_arg10) = m ((c.tc : Thread Cert.In.nD Cert.In.τ).loc Cert.In.main_arg10))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)
      ∧ r.2.mem ((c.tc : Thread Cert.InIdeal.nD Cert.InIdeal.τ).loc Cert.InIdeal.main_arg6) = m ((c.tc : Thread Cert.InIdeal.nD Cert.InIdeal.τ).loc Cert.InIdeal.main_arg6)
      ∧ r.2.mem ((c.tc : Thread Cert.InIdeal.nD Cert.InIdeal.τ).loc Cert.InIdeal.main_arg7) = m ((c.tc : Thread Cert.InIdeal.nD Cert.InIdeal.τ).loc Cert.InIdeal.main_arg7)
      ∧ r.2.mem ((c.tc : Thread Cert.InIdeal.nD Cert.InIdeal.τ).loc Cert.InIdeal.main_arg8) = m ((c.tc : Thread Cert.InIdeal.nD Cert.InIdeal.τ).loc Cert.InIdeal.main_arg8)
      ∧ r.2.mem ((c.tc : Thread Cert.InIdeal.nD Cert.InIdeal.τ).loc Cert.InIdeal.main_arg9) = m ((c.tc : Thread Cert.InIdeal.nD Cert.InIdeal.τ).loc Cert.InIdeal.main_arg9)
      ∧ r.2.mem ((c.tc : Thread Cert.InIdeal.nD Cert.InIdeal.τ).loc Cert.InIdeal.main_arg10) = m ((c.tc : Thread Cert.InIdeal.nD Cert.InIdeal.τ).loc Cert.InIdeal.main_arg10))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6)
      ∧ r.2.mem ((c.tc : Thread Cert.InRefIdeal.nD Cert.InRefIdeal.τ).loc Cert.InRefIdeal.main_arg7) = m ((c.tc : Thread Cert.InRefIdeal.nD Cert.InRefIdeal.τ).loc Cert.InRefIdeal.main_arg7)
      ∧ r.2.mem ((c.tc : Thread Cert.InRefIdeal.nD Cert.InRefIdeal.τ).loc Cert.InRefIdeal.main_arg8) = m ((c.tc : Thread Cert.InRefIdeal.nD Cert.InRefIdeal.τ).loc Cert.InRefIdeal.main_arg8)
      ∧ r.2.mem ((c.tc : Thread Cert.InRefIdeal.nD Cert.InRefIdeal.τ).loc Cert.InRefIdeal.main_arg9) = m ((c.tc : Thread Cert.InRefIdeal.nD Cert.InRefIdeal.τ).loc Cert.InRefIdeal.main_arg9)
      ∧ r.2.mem ((c.tc : Thread Cert.InRefIdeal.nD Cert.InRefIdeal.τ).loc Cert.InRefIdeal.main_arg10) = m ((c.tc : Thread Cert.InRefIdeal.nD Cert.InRefIdeal.τ).loc Cert.InRefIdeal.main_arg10))
      ∧ r.2.sem = fun _ => 0)

def preserves_Post_PostIdeal : Prop :=
  IdealRules.named_const.Statement Cert.PostIdeal.κ "k3" .f32 0xBDD2D3E8#32 (((-((6693141 / 4194304) * (Real.log 2)⁻¹)) * (12003091 / 268435456) : ℝ) : EReal)
  ∧ IdealRules.named_const.Statement Cert.PostIdeal.κ "k1" .f32 0xC0135761#32 ((-((6693141 / 4194304) * (Real.log 2)⁻¹) : ℝ) : EReal)

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)
      ∧ m' ((c.tc : Thread Cert.PostRefIdeal.nD Cert.PostRefIdeal.τ).loc Cert.PostRefIdeal.main_arg10) = m ((c.tc : Thread Cert.PostIdeal.nD Cert.PostIdeal.τ).loc Cert.PostIdeal.main_arg10)
      ∧ m' ((c.tc : Thread Cert.PostRefIdeal.nD Cert.PostRefIdeal.τ).loc Cert.PostRefIdeal.main_arg11) = m ((c.tc : Thread Cert.PostIdeal.nD Cert.PostIdeal.τ).loc Cert.PostIdeal.main_arg11)
      ∧ m' ((c.tc : Thread Cert.PostRefIdeal.nD Cert.PostRefIdeal.τ).loc Cert.PostRefIdeal.main_arg12) = m ((c.tc : Thread Cert.PostIdeal.nD Cert.PostIdeal.τ).loc Cert.PostIdeal.main_arg12)
      ∧ m' ((c.tc : Thread Cert.PostRefIdeal.nD Cert.PostRefIdeal.τ).loc Cert.PostRefIdeal.main_arg13) = m ((c.tc : Thread Cert.PostIdeal.nD Cert.PostIdeal.τ).loc Cert.PostIdeal.main_arg13)
      ∧ m' ((c.tc : Thread Cert.PostRefIdeal.nD Cert.PostRefIdeal.τ).loc Cert.PostRefIdeal.main_arg14) = m ((c.tc : Thread Cert.PostIdeal.nD Cert.PostIdeal.τ).loc Cert.PostIdeal.main_arg14)
      ∧ m' ((c.tc : Thread Cert.PostRefIdeal.nD Cert.PostRefIdeal.τ).loc Cert.PostRefIdeal.main_arg15) = m ((c.tc : Thread Cert.PostIdeal.nD Cert.PostIdeal.τ).loc Cert.PostIdeal.main_arg15)
      ∧ m' ((c.tc : Thread Cert.PostRefIdeal.nD Cert.PostRefIdeal.τ).loc Cert.PostRefIdeal.main_arg16) = m ((c.tc : Thread Cert.PostIdeal.nD Cert.PostIdeal.τ).loc Cert.PostIdeal.main_arg16)
      ∧ m' ((c.tc : Thread Cert.PostRefIdeal.nD Cert.PostRefIdeal.τ).loc Cert.PostRefIdeal.main_arg17) = m ((c.tc : Thread Cert.PostIdeal.nD Cert.PostIdeal.τ).loc Cert.PostIdeal.main_arg17)) →
    ∃ (v0 : (c : Dev Cert.PostIdeal.nD) → Buf (Elt Ideal) ((c.tc : Thread Cert.PostIdeal.nD Cert.PostIdeal.τ).loc Cert.PostIdeal.main_v12)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v12) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
          ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
          ∧ r.2.mem ((c.tc : Thread Cert.PostIdeal.nD Cert.PostIdeal.τ).loc Cert.PostIdeal.main_arg13) = m ((c.tc : Thread Cert.PostIdeal.nD Cert.PostIdeal.τ).loc Cert.PostIdeal.main_arg13)
          ∧ r.2.mem ((c.tc : Thread Cert.PostIdeal.nD Cert.PostIdeal.τ).loc Cert.PostIdeal.main_arg14) = m ((c.tc : Thread Cert.PostIdeal.nD Cert.PostIdeal.τ).loc Cert.PostIdeal.main_arg14)
          ∧ r.2.mem ((c.tc : Thread Cert.PostIdeal.nD Cert.PostIdeal.τ).loc Cert.PostIdeal.main_arg15) = m ((c.tc : Thread Cert.PostIdeal.nD Cert.PostIdeal.τ).loc Cert.PostIdeal.main_arg15)
          ∧ r.2.mem ((c.tc : Thread Cert.PostIdeal.nD Cert.PostIdeal.τ).loc Cert.PostIdeal.main_arg16) = m ((c.tc : Thread Cert.PostIdeal.nD Cert.PostIdeal.τ).loc Cert.PostIdeal.main_arg16)
          ∧ r.2.mem ((c.tc : Thread Cert.PostIdeal.nD Cert.PostIdeal.τ).loc Cert.PostIdeal.main_arg17) = m ((c.tc : Thread Cert.PostIdeal.nD Cert.PostIdeal.τ).loc Cert.PostIdeal.main_arg17))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v116) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9)
          ∧ r.2.mem ((c.tc : Thread Cert.PostRefIdeal.nD Cert.PostRefIdeal.τ).loc Cert.PostRefIdeal.main_arg10) = m' ((c.tc : Thread Cert.PostRefIdeal.nD Cert.PostRefIdeal.τ).loc Cert.PostRefIdeal.main_arg10)
          ∧ r.2.mem ((c.tc : Thread Cert.PostRefIdeal.nD Cert.PostRefIdeal.τ).loc Cert.PostRefIdeal.main_arg11) = m' ((c.tc : Thread Cert.PostRefIdeal.nD Cert.PostRefIdeal.τ).loc Cert.PostRefIdeal.main_arg11)
          ∧ r.2.mem ((c.tc : Thread Cert.PostRefIdeal.nD Cert.PostRefIdeal.τ).loc Cert.PostRefIdeal.main_arg12) = m' ((c.tc : Thread Cert.PostRefIdeal.nD Cert.PostRefIdeal.τ).loc Cert.PostRefIdeal.main_arg12)
          ∧ r.2.mem ((c.tc : Thread Cert.PostRefIdeal.nD Cert.PostRefIdeal.τ).loc Cert.PostRefIdeal.main_arg13) = m' ((c.tc : Thread Cert.PostRefIdeal.nD Cert.PostRefIdeal.τ).loc Cert.PostRefIdeal.main_arg13)
          ∧ r.2.mem ((c.tc : Thread Cert.PostRefIdeal.nD Cert.PostRefIdeal.τ).loc Cert.PostRefIdeal.main_arg14) = m' ((c.tc : Thread Cert.PostRefIdeal.nD Cert.PostRefIdeal.τ).loc Cert.PostRefIdeal.main_arg14)
          ∧ r.2.mem ((c.tc : Thread Cert.PostRefIdeal.nD Cert.PostRefIdeal.τ).loc Cert.PostRefIdeal.main_arg15) = m' ((c.tc : Thread Cert.PostRefIdeal.nD Cert.PostRefIdeal.τ).loc Cert.PostRefIdeal.main_arg15)
          ∧ r.2.mem ((c.tc : Thread Cert.PostRefIdeal.nD Cert.PostRefIdeal.τ).loc Cert.PostRefIdeal.main_arg16) = m' ((c.tc : Thread Cert.PostRefIdeal.nD Cert.PostRefIdeal.τ).loc Cert.PostRefIdeal.main_arg16)
          ∧ r.2.mem ((c.tc : Thread Cert.PostRefIdeal.nD Cert.PostRefIdeal.τ).loc Cert.PostRefIdeal.main_arg17) = m' ((c.tc : Thread Cert.PostRefIdeal.nD Cert.PostRefIdeal.τ).loc Cert.PostRefIdeal.main_arg17))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)
      ∧ m' ((c.tc : Thread Cert.InRefIdeal.nD Cert.InRefIdeal.τ).loc Cert.InRefIdeal.main_arg5) = m ((c.tc : Thread Cert.InIdeal.nD Cert.InIdeal.τ).loc Cert.InIdeal.main_arg5)
      ∧ m' ((c.tc : Thread Cert.InRefIdeal.nD Cert.InRefIdeal.τ).loc Cert.InRefIdeal.main_arg6) = m ((c.tc : Thread Cert.InIdeal.nD Cert.InIdeal.τ).loc Cert.InIdeal.main_arg6)
      ∧ m' ((c.tc : Thread Cert.InRefIdeal.nD Cert.InRefIdeal.τ).loc Cert.InRefIdeal.main_arg7) = m ((c.tc : Thread Cert.InIdeal.nD Cert.InIdeal.τ).loc Cert.InIdeal.main_arg7)
      ∧ m' ((c.tc : Thread Cert.InRefIdeal.nD Cert.InRefIdeal.τ).loc Cert.InRefIdeal.main_arg8) = m ((c.tc : Thread Cert.InIdeal.nD Cert.InIdeal.τ).loc Cert.InIdeal.main_arg8)
      ∧ m' ((c.tc : Thread Cert.InRefIdeal.nD Cert.InRefIdeal.τ).loc Cert.InRefIdeal.main_arg9) = m ((c.tc : Thread Cert.InIdeal.nD Cert.InIdeal.τ).loc Cert.InIdeal.main_arg9)
      ∧ m' ((c.tc : Thread Cert.InRefIdeal.nD Cert.InRefIdeal.τ).loc Cert.InRefIdeal.main_arg10) = m ((c.tc : Thread Cert.InIdeal.nD Cert.InIdeal.τ).loc Cert.InIdeal.main_arg10)) →
    ∃ (v0 : (c : Dev Cert.InIdeal.nD) → Buf (Elt Ideal) ((c.tc : Thread Cert.InIdeal.nD Cert.InIdeal.τ).loc Cert.InIdeal.main_v25_0)) (v1 : (c : Dev Cert.InIdeal.nD) → Buf (Elt Ideal) ((c.tc : Thread Cert.InIdeal.nD Cert.InIdeal.τ).loc Cert.InIdeal.main_v25_1)) (v2 : (c : Dev Cert.InIdeal.nD) → Buf (Elt Ideal) ((c.tc : Thread Cert.InIdeal.nD Cert.InIdeal.τ).loc Cert.InIdeal.main_v25_2)) (v3 : (c : Dev Cert.InIdeal.nD) → Buf (Elt Ideal) ((c.tc : Thread Cert.InIdeal.nD Cert.InIdeal.τ).loc Cert.InIdeal.main_v25_3)) (v4 : (c : Dev Cert.InIdeal.nD) → Buf (Elt Ideal) ((c.tc : Thread Cert.InIdeal.nD Cert.InIdeal.τ).loc Cert.InIdeal.main_v25_4)) (v5 : (c : Dev Cert.InIdeal.nD) → Buf (Elt Ideal) ((c.tc : Thread Cert.InIdeal.nD Cert.InIdeal.τ).loc Cert.InIdeal.main_v25_5)) (v6 : (c : Dev Cert.InIdeal.nD) → Buf (Elt Ideal) ((c.tc : Thread Cert.InIdeal.nD Cert.InIdeal.τ).loc Cert.InIdeal.main_v25_6)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v25_0) = v0 c
          ∧ r.2.mem ((c.tc : Thread Cert.InIdeal.nD Cert.InIdeal.τ).loc Cert.InIdeal.main_v25_1) = v1 c
          ∧ r.2.mem ((c.tc : Thread Cert.InIdeal.nD Cert.InIdeal.τ).loc Cert.InIdeal.main_v25_2) = v2 c
          ∧ r.2.mem ((c.tc : Thread Cert.InIdeal.nD Cert.InIdeal.τ).loc Cert.InIdeal.main_v25_3) = v3 c
          ∧ r.2.mem ((c.tc : Thread Cert.InIdeal.nD Cert.InIdeal.τ).loc Cert.InIdeal.main_v25_4) = v4 c
          ∧ r.2.mem ((c.tc : Thread Cert.InIdeal.nD Cert.InIdeal.τ).loc Cert.InIdeal.main_v25_5) = v5 c
          ∧ r.2.mem ((c.tc : Thread Cert.InIdeal.nD Cert.InIdeal.τ).loc Cert.InIdeal.main_v25_6) = v6 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5)
          ∧ r.2.mem ((c.tc : Thread Cert.InIdeal.nD Cert.InIdeal.τ).loc Cert.InIdeal.main_arg6) = m ((c.tc : Thread Cert.InIdeal.nD Cert.InIdeal.τ).loc Cert.InIdeal.main_arg6)
          ∧ r.2.mem ((c.tc : Thread Cert.InIdeal.nD Cert.InIdeal.τ).loc Cert.InIdeal.main_arg7) = m ((c.tc : Thread Cert.InIdeal.nD Cert.InIdeal.τ).loc Cert.InIdeal.main_arg7)
          ∧ r.2.mem ((c.tc : Thread Cert.InIdeal.nD Cert.InIdeal.τ).loc Cert.InIdeal.main_arg8) = m ((c.tc : Thread Cert.InIdeal.nD Cert.InIdeal.τ).loc Cert.InIdeal.main_arg8)
          ∧ r.2.mem ((c.tc : Thread Cert.InIdeal.nD Cert.InIdeal.τ).loc Cert.InIdeal.main_arg9) = m ((c.tc : Thread Cert.InIdeal.nD Cert.InIdeal.τ).loc Cert.InIdeal.main_arg9)
          ∧ r.2.mem ((c.tc : Thread Cert.InIdeal.nD Cert.InIdeal.τ).loc Cert.InIdeal.main_arg10) = m ((c.tc : Thread Cert.InIdeal.nD Cert.InIdeal.τ).loc Cert.InIdeal.main_arg10))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v137) = v0 c
          ∧ r.2.mem ((c.tc : Thread Cert.InRefIdeal.nD Cert.InRefIdeal.τ).loc Cert.InRefIdeal.main_v140) = v1 c
          ∧ r.2.mem ((c.tc : Thread Cert.InRefIdeal.nD Cert.InRefIdeal.τ).loc Cert.InRefIdeal.main_v142) = v2 c
          ∧ r.2.mem ((c.tc : Thread Cert.InRefIdeal.nD Cert.InRefIdeal.τ).loc Cert.InRefIdeal.main_v148) = v3 c
          ∧ r.2.mem ((c.tc : Thread Cert.InRefIdeal.nD Cert.InRefIdeal.τ).loc Cert.InRefIdeal.main_v151) = v4 c
          ∧ r.2.mem ((c.tc : Thread Cert.InRefIdeal.nD Cert.InRefIdeal.τ).loc Cert.InRefIdeal.main_v154) = v5 c
          ∧ r.2.mem ((c.tc : Thread Cert.InRefIdeal.nD Cert.InRefIdeal.τ).loc Cert.InRefIdeal.main_v164) = v6 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5)
          ∧ r.2.mem ((c.tc : Thread Cert.InRefIdeal.nD Cert.InRefIdeal.τ).loc Cert.InRefIdeal.main_arg6) = m' ((c.tc : Thread Cert.InRefIdeal.nD Cert.InRefIdeal.τ).loc Cert.InRefIdeal.main_arg6)
          ∧ r.2.mem ((c.tc : Thread Cert.InRefIdeal.nD Cert.InRefIdeal.τ).loc Cert.InRefIdeal.main_arg7) = m' ((c.tc : Thread Cert.InRefIdeal.nD Cert.InRefIdeal.τ).loc Cert.InRefIdeal.main_arg7)
          ∧ r.2.mem ((c.tc : Thread Cert.InRefIdeal.nD Cert.InRefIdeal.τ).loc Cert.InRefIdeal.main_arg8) = m' ((c.tc : Thread Cert.InRefIdeal.nD Cert.InRefIdeal.τ).loc Cert.InRefIdeal.main_arg8)
          ∧ r.2.mem ((c.tc : Thread Cert.InRefIdeal.nD Cert.InRefIdeal.τ).loc Cert.InRefIdeal.main_arg9) = m' ((c.tc : Thread Cert.InRefIdeal.nD Cert.InRefIdeal.τ).loc Cert.InRefIdeal.main_arg9)
          ∧ r.2.mem ((c.tc : Thread Cert.InRefIdeal.nD Cert.InRefIdeal.τ).loc Cert.InRefIdeal.main_arg10) = m' ((c.tc : Thread Cert.InRefIdeal.nD Cert.InRefIdeal.τ).loc Cert.InRefIdeal.main_arg10))

def Claim : Prop :=
  ∃ (hPost : Cert.Post.Facts) (hPostIdeal : Cert.PostIdeal.Facts) (hPostRefIdeal : Cert.PostRefIdeal.Facts) (hIn : Cert.In.Facts) (hInIdeal : Cert.InIdeal.Facts) (hInRefIdeal : Cert.InRefIdeal.Facts),
    quiescent_Post (hPost := hPost)
    ∧ quiescent_PostIdeal (hPostIdeal := hPostIdeal)
    ∧ quiescent_PostRefIdeal (hPostRefIdeal := hPostRefIdeal)
    ∧ quiescent_In (hIn := hIn)
    ∧ quiescent_InIdeal (hInIdeal := hInIdeal)
    ∧ quiescent_InRefIdeal (hInRefIdeal := hInRefIdeal)
    ∧ preserves_Post_PostIdeal
    ∧ algebraic_PostIdeal_PostRefIdeal (hPostIdeal := hPostIdeal) (hPostRefIdeal := hPostRefIdeal)
    ∧ preserves_In_InIdeal
    ∧ algebraic_InIdeal_InRefIdeal (hInIdeal := hInIdeal) (hInRefIdeal := hInRefIdeal)
-- ==== Post.lean ====
abbrev S8x4096x1024 : Shape := ⟨3, ![8, 4096, 1024]⟩
abbrev S8x4096x512 : Shape := ⟨3, ![8, 4096, 512]⟩
abbrev S8x4096x2048 : Shape := ⟨3, ![8, 4096, 2048]⟩
abbrev S8x4096x256 : Shape := ⟨3, ![8, 4096, 256]⟩
abbrev S512x1024 : Shape := ⟨2, ![512, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S256x1024 : Shape := ⟨2, ![256, 1024]⟩
abbrev S1x1024 : Shape := ⟨2, ![1, 1024]⟩
abbrev S1x5632 : Shape := ⟨2, ![1, 5632]⟩
abbrev S1x512x1024 : Shape := ⟨3, ![1, 512, 1024]⟩
abbrev S1x512x512 : Shape := ⟨3, ![1, 512, 512]⟩
abbrev S1x512x2048 : Shape := ⟨3, ![1, 512, 2048]⟩
abbrev S1x512x256 : Shape := ⟨3, ![1, 512, 256]⟩
abbrev S264x5632 : Shape := ⟨2, ![264, 5632]⟩
abbrev S8x5632 : Shape := ⟨2, ![8, 5632]⟩
abbrev S1x256x2048 : Shape := ⟨3, ![1, 256, 2048]⟩
abbrev S256x2048 : Shape := ⟨2, ![256, 2048]⟩
abbrev S1x256x512 : Shape := ⟨3, ![1, 256, 512]⟩
abbrev S256x512 : Shape := ⟨2, ![256, 512]⟩
abbrev S1x256x1024 : Shape := ⟨3, ![1, 256, 1024]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩
abbrev S1x256x256 : Shape := ⟨3, ![1, 256, 256]⟩
abbrev S256x256 : Shape := ⟨2, ![256, 256]⟩

abbrev nBuf : Space → Nat
  | .hbm => 31
  | .vmem => 26
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S8x4096x2048, .bf16⟩
  | .hbm, ⟨4, _⟩ => ⟨S8x4096x256, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x5632, .f32⟩
  | .hbm, ⟨11, _⟩ => ⟨S3x5632, .f32⟩
  | .hbm, ⟨12, _⟩ => ⟨S5632, .f32⟩
  | .hbm, ⟨13, _⟩ => ⟨S2816x1024, .f32⟩
  | .hbm, ⟨14, _⟩ => ⟨S1024, .f32⟩
  | .hbm, ⟨15, _⟩ => ⟨S1024, .f32⟩
  | .hbm, ⟨16, _⟩ => ⟨S1024x1024, .f32⟩
  | .hbm, ⟨17, _⟩ => ⟨S256x1024, .f32⟩
  | .hbm, ⟨18, _⟩ => ⟨S512x1024, .bf16⟩
  | .hbm, ⟨19, _⟩ => ⟨S512x1024, .bf16⟩
  | .hbm, ⟨20, _⟩ => ⟨S1024x1024, .bf16⟩
  | .hbm, ⟨21, _⟩ => ⟨S1x1024, .f32⟩
  | .hbm, ⟨22, _⟩ => ⟨S1x1024, .f32⟩
  | .hbm, ⟨23, _⟩ => ⟨S1024x5632, .bf16⟩
  | .hbm, ⟨24, _⟩ => ⟨S1x5632, .f32⟩
  | .hbm, ⟨25, _⟩ => ⟨S2816x1024, .bf16⟩
  | .hbm, ⟨26, _⟩ => ⟨S1x1024, .f32⟩
  | .hbm, ⟨27, _⟩ => ⟨S1x1024, .f32⟩
  | .hbm, ⟨28, _⟩ => ⟨S1024x1024, .bf16⟩
  | .hbm, ⟨29, _⟩ => ⟨S256x1024, .bf16⟩
  | .hbm, ⟨30, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S1x512x256, .f32⟩
  | .local _ .vmem, ⟨9, _⟩ => ⟨S1x512x256, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x5632, .bf16⟩
  | .local _ .vmem, ⟨16, _⟩ => ⟨S3x5632, .f32⟩
  | .local _ .vmem, ⟨17, _⟩ => ⟨S1x5632, .f32⟩
  | .local _ .vmem, ⟨18, _⟩ => ⟨S2816x1024, .bf16⟩
  | .local _ .vmem, ⟨19, _⟩ => ⟨S1x1024, .f32⟩
  | .local _ .vmem, ⟨20, _⟩ => ⟨S1x1024, .f32⟩
  | .local _ .vmem, ⟨21, _⟩ => ⟨S1024x1024, .bf16⟩
  | .local _ .vmem, ⟨22, _⟩ => ⟨S256x1024, .bf16⟩
  | .local _ .vmem, ⟨23, _⟩ => ⟨S1x512x1024, .f32⟩
  | .local _ .vmem, ⟨24, _⟩ => ⟨S1x512x1024, .f32⟩
  | .local _ .vmem, ⟨25, _⟩ => ⟨S264x5632, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg18_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem18_1 : DmaSem sig := 24

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x5632 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S3x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x5632 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S256x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== PostIdeal.lean ====
variable {F : FTy → Type} [FloatOps F] [Named F]
def κ : String → Option EReal := fun
  | "k1" => some ((-((6693141 / 4194304) * (Real.log 2)⁻¹) : ℝ) : EReal)
  | "k3" => some (((-((6693141 / 4194304) * (Real.log 2)⁻¹)) * (12003091 / 268435456) : ℝ) : EReal)
  | _ => none
-- ==== PostRefIdeal.lean ====
abbrev S8x4096x1024 : Shape := ⟨3, ![8, 4096, 1024]⟩
abbrev S8x4096x512 : Shape := ⟨3, ![8, 4096, 512]⟩
abbrev S8x4096x2048 : Shape := ⟨3, ![8, 4096, 2048]⟩
abbrev S8x4096x256 : Shape := ⟨3, ![8, 4096, 256]⟩
abbrev S512x1024 : Shape := ⟨2, ![512, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S256x1024 : Shape := ⟨2, ![256, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4098x5632 : Shape := ⟨3, ![8, 4098, 5632]⟩
abbrev S1x5632 : Shape := ⟨2, ![1, 5632]⟩
abbrev S1x1x5632 : Shape := ⟨3, ![1, 1, 5632]⟩
abbrev S8x4096x2816 : Shape := ⟨3, ![8, 4096, 2816]⟩

abbrev nBuf : Space → Nat
  | .hbm => 155
  | .vmem => 0
  | .smem => 0
  | _ => 0

abbrev hbmTy0_0 (i : Nat) : BufTy := match i % 128 with
  | 0 => ⟨S8x4096x1024, .f32⟩
  | 1 => ⟨S8x4096x512, .bf16⟩
  | 2 => ⟨S8x4096x512, .bf16⟩
  | 3 => ⟨S8x4096x2048, .bf16⟩
  | 4 => ⟨S8x4096x256, .f32⟩
  | 5 => ⟨S512x1024, .f32⟩
  | 6 => ⟨S512x1024, .f32⟩
  | 7 => ⟨S1024x1024, .f32⟩
  | 8 => ⟨S1024, .f32⟩
  | 9 => ⟨S1024, .f32⟩
  | 10 => ⟨S1024x5632, .f32⟩
  | 11 => ⟨S3x5632, .f32⟩
  | 12 => ⟨S5632, .f32⟩
  | 13 => ⟨S2816x1024, .f32⟩
  | 14 => ⟨S1024, .f32⟩
  | 15 => ⟨S1024, .f32⟩
  | 16 => ⟨S1024x1024, .f32⟩
  | 17 => ⟨S256x1024, .f32⟩
  | 18 => ⟨S8x4096x512, .f32⟩
  | 19 => ⟨S8x4096x512, .f32⟩
  | 20 => ⟨S8x4096x2048, .f32⟩
  | 21 => ⟨S8x4096x1024, .f32⟩
  | 22 => ⟨S8x4096x1024, .f32⟩
  | 23 => ⟨S8x4096x1024, .f32⟩
  | 24 => ⟨S8x4096x1024, .f32⟩
  | 25 => ⟨S8x4096x1024, .f32⟩
  | 26 => ⟨S8x4096x1024, .f32⟩
  | 27 => ⟨S8x4096x1024, .f32⟩
  | 28 => ⟨S8x4096x1024, .f32⟩
  | 29 => ⟨S8x4096x1024, .f32⟩
  | 30 => ⟨S_, .f32⟩
  | 31 => ⟨S8x4096, .f32⟩
  | 32 => ⟨S8x4096x1, .f32⟩
  | 33 => ⟨S_, .f32⟩
  | 34 => ⟨S8x4096x1, .f32⟩
  | 35 => ⟨S8x4096x1, .f32⟩
  | 36 => ⟨S_, .f32⟩
  | 37 => ⟨S8x4096x1, .f32⟩
  | 38 => ⟨S8x4096x1, .f32⟩
  | 39 => ⟨S8x4096x1, .f32⟩
  | 40 => ⟨S8x4096x1024, .f32⟩
  | 41 => ⟨S8x4096x1024, .f32⟩
  | 42 => ⟨S1x1x1024, .f32⟩
  | 43 => ⟨S8x4096x1024, .f32⟩
  | 44 => ⟨S8x4096x1024, .f32⟩
  | 45 => ⟨S8x4096x1024, .f32⟩
  | 46 => ⟨S8x4096x1024, .f32⟩
  | 47 => ⟨S_, .f32⟩
  | 48 => ⟨S8x4096, .f32⟩
  | 49 => ⟨S8x4096x1, .f32⟩
  | 50 => ⟨S_, .f32⟩
  | 51 => ⟨S8x4096x1, .f32⟩
  | 52 => ⟨S8x4096x1, .f32⟩
  | 53 => ⟨S_, .f32⟩
  | 54 => ⟨S8x4096x1, .f32⟩
  | 55 => ⟨S8x4096x1, .f32⟩
  | 56 => ⟨S8x4096x1, .f32⟩
  | 57 => ⟨S8x4096x1024, .f32⟩
  | 58 => ⟨S8x4096x1024, .f32⟩
  | 59 => ⟨S1x1x1024, .f32⟩
  | 60 => ⟨S8x4096x1024, .f32⟩
  | 61 => ⟨S8x4096x1024, .f32⟩
  | 62 => ⟨S8x4096x5632, .f32⟩
  | 63 => ⟨S_, .i32⟩
  | 64 => ⟨S_, .f32⟩
  | 65 => ⟨S8x4098x5632, .f32⟩
  | 66 => ⟨S1x5632, .f32⟩
  | 67 => ⟨S5632, .f32⟩
  | 68 => ⟨S8x4096x5632, .f32⟩
  | 69 => ⟨S1x1x5632, .f32⟩
  | 70 => ⟨S8x4096x5632, .f32⟩
  | 71 => ⟨S8x4096x5632, .f32⟩
  | 72 => ⟨S1x5632, .f32⟩
  | 73 => ⟨S5632, .f32⟩
  | 74 => ⟨S8x4096x5632, .f32⟩
  | 75 => ⟨S1x1x5632, .f32⟩
  | 76 => ⟨S8x4096x5632, .f32⟩
  | 77 => ⟨S8x4096x5632, .f32⟩
  | 78 => ⟨S8x4096x5632, .f32⟩
  | 79 => ⟨S1x5632, .f32⟩
  | 80 => ⟨S5632, .f32⟩
  | 81 => ⟨S8x4096x5632, .f32⟩
  | 82 => ⟨S1x1x5632, .f32⟩
  | 83 => ⟨S8x4096x5632, .f32⟩
  | 84 => ⟨S8x4096x5632, .f32⟩
  | 85 => ⟨S8x4096x5632, .f32⟩
  | 86 => ⟨S1x1x5632, .f32⟩
  | 87 => ⟨S8x4096x5632, .f32⟩
  | 88 => ⟨S8x4096x5632, .f32⟩
  | 89 => ⟨S8x4096x2816, .f32⟩
  | 90 => ⟨S8x4096x2816, .f32⟩
  | 91 => ⟨S8x4096x2816, .f32⟩
  | 92 => ⟨S8x4096x2816, .f32⟩
  | 93 => ⟨S_, .f32⟩
  | 94 => ⟨S8x4096x2816, .f32⟩
  | 95 => ⟨S8x4096x2816, .f32⟩
  | 96 => ⟨S8x4096x2816, .f32⟩
  | 97 => ⟨S_, .f32⟩
  | 98 => ⟨S8x4096x2816, .f32⟩
  | 99 => ⟨S8x4096x2816, .f32⟩
  | 100 => ⟨S8x4096x2816, .f32⟩
  | 101 => ⟨S_, .f32⟩
  | 102 => ⟨S8x4096x2816, .f32⟩
  | 103 => ⟨S8x4096x2816, .f32⟩
  | 104 => ⟨S_, .f32⟩
  | 105 => ⟨S8x4096x2816, .f32⟩
  | 106 => ⟨S8x4096x2816, .f32⟩
  | 107 => ⟨S8x4096x2816, .f32⟩
  | 108 => ⟨S8x4096x2816, .f32⟩
  | 109 => ⟨S8x4096x1024, .f32⟩
  | 110 => ⟨S8x4096x1024, .f32⟩
  | 111 => ⟨S_, .f32⟩
  | 112 => ⟨S8x4096, .f32⟩
  | 113 => ⟨S8x4096x1, .f32⟩
  | 114 => ⟨S_, .f32⟩
  | 115 => ⟨S8x4096x1, .f32⟩
  | 116 => ⟨S8x4096x1, .f32⟩
  | 117 => ⟨S_, .f32⟩
  | 118 => ⟨S8x4096x1, .f32⟩
  | 119 => ⟨S8x4096x1, .f32⟩
  | 120 => ⟨S8x4096x1, .f32⟩
  | 121 => ⟨S8x4096x1024, .f32⟩
  | 122 => ⟨S8x4096x1024, .f32⟩
  | 123 => ⟨S1x1x1024, .f32⟩
  | 124 => ⟨S8x4096x1024, .f32⟩
  | 125 => ⟨S8x4096x1024, .f32⟩
  | 126 => ⟨S8x4096x1024, .f32⟩
  | 127 => ⟨S8x4096x1024, .f32⟩
  | _ => ⟨S8x4096x1024, .f32⟩

abbrev hbmTy0_1 (i : Nat) : BufTy := match i % 128 with
  | 0 => ⟨S8x4096x1024, .f32⟩
  | 1 => ⟨S_, .f32⟩
  | 2 => ⟨S8x4096, .f32⟩
  | 3 => ⟨S8x4096x1, .f32⟩
  | 4 => ⟨S_, .f32⟩
  | 5 => ⟨S8x4096x1, .f32⟩
  | 6 => ⟨S8x4096x1, .f32⟩
  | 7 => ⟨S_, .f32⟩
  | 8 => ⟨S8x4096x1, .f32⟩
  | 9 => ⟨S8x4096x1, .f32⟩
  | 10 => ⟨S8x4096x1, .f32⟩
  | 11 => ⟨S8x4096x1024, .f32⟩
  | 12 => ⟨S8x4096x1024, .f32⟩
  | 13 => ⟨S1x1x1024, .f32⟩
  | 14 => ⟨S8x4096x1024, .f32⟩
  | 15 => ⟨S8x4096x1024, .f32⟩
  | 16 => ⟨S8x4096x1024, .f32⟩
  | 17 => ⟨S8x4096x1024, .f32⟩
  | 18 => ⟨S8x4096x1024, .f32⟩
  | 19 => ⟨S_, .f32⟩
  | 20 => ⟨S8x4096x1024, .f32⟩
  | 21 => ⟨S8x4096x1024, .f32⟩
  | 22 => ⟨S_, .f32⟩
  | 23 => ⟨S8x4096x1024, .f32⟩
  | 24 => ⟨S8x4096x1024, .f32⟩
  | 25 => ⟨S8x4096x1024, .f32⟩
  | 26 => ⟨S8x4096x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_v13 : Ref sig .tc := ⟨.hbm, 32, rfl⟩
abbrev main_cst_0 : Ref sig .tc := ⟨.hbm, 33, rfl⟩
abbrev main_v14 : Ref sig .tc := ⟨.hbm, 34, rfl⟩
abbrev main_v15 : Ref sig .tc := ⟨.hbm, 35, rfl⟩
abbrev main_cst_1 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_2 : Ref sig .tc := ⟨.hbm, 47, rfl⟩
abbrev main_v26 : Ref sig .tc := ⟨.hbm, 48, rfl⟩
abbrev main_v27 : Ref sig .tc := ⟨.hbm, 49, rfl⟩
abbrev main_cst_3 : Ref sig .tc := ⟨.hbm, 50, rfl⟩
abbrev main_v28 : Ref sig .tc := ⟨.hbm, 51, rfl⟩
abbrev main_v29 : Ref sig .tc := ⟨.hbm, 52, rfl⟩
abbrev main_cst_4 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c : Ref sig .tc := ⟨.hbm, 63, rfl⟩
abbrev main_call0_v0 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_5 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_6 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_7 : Ref sig .tc := ⟨.hbm, 101, rfl⟩
abbrev main_v73 : Ref sig .tc := ⟨.hbm, 102, rfl⟩
abbrev main_v74 : Ref sig .tc := ⟨.hbm, 103, rfl⟩
abbrev main_cst_8 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_9 : Ref sig .tc := ⟨.hbm, 111, rfl⟩
abbrev main_v81 : Ref sig .tc := ⟨.hbm, 112, rfl⟩
abbrev main_v82 : Ref sig .tc := ⟨.hbm, 113, rfl⟩
abbrev main_cst_10 : Ref sig .tc := ⟨.hbm, 114, rfl⟩
abbrev main_v83 : Ref sig .tc := ⟨.hbm, 115, rfl⟩
abbrev main_v84 : Ref sig .tc := ⟨.hbm, 116, rfl⟩
abbrev main_cst_11 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_cst_12 : Ref sig .tc := ⟨.hbm, 129, rfl⟩
abbrev main_v96 : Ref sig .tc := ⟨.hbm, 130, rfl⟩
abbrev main_v97 : Ref sig .tc := ⟨.hbm, 131, rfl⟩
abbrev main_cst_13 : Ref sig .tc := ⟨.hbm, 132, rfl⟩
abbrev main_v98 : Ref sig .tc := ⟨.hbm, 133, rfl⟩
abbrev main_v99 : Ref sig .tc := ⟨.hbm, 134, rfl⟩
abbrev main_cst_14 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_cst_15 : Ref sig .tc := ⟨.hbm, 147, rfl⟩
abbrev main_v111 : Ref sig .tc := ⟨.hbm, 148, rfl⟩
abbrev main_v112 : Ref sig .tc := ⟨.hbm, 149, rfl⟩
abbrev main_cst_16 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩

abbrev nD : Nat := 1
abbrev τ : Topo := Topo.v7x

variable {F : FTy → Type} [FloatOps F]
-- ==== In.lean ====
abbrev S8x4096x1024 : Shape := ⟨3, ![8, 4096, 1024]⟩
abbrev S8x4096 : Shape := ⟨2, ![8, 4096]⟩
abbrev S32 : Shape := ⟨1, ![32]⟩
abbrev S16 : Shape := ⟨1, ![16]⟩
abbrev S1024 : Shape := ⟨1, ![1024]⟩
abbrev S1024x3232 : Shape := ⟨2, ![1024, 3232]⟩
abbrev S2048 : Shape := ⟨1, ![2048]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S8x1x4096 : Shape := ⟨3, ![8, 1, 4096]⟩
abbrev S32x1 : Shape := ⟨2, ![32, 1]⟩
abbrev S16x1 : Shape := ⟨2, ![16, 1]⟩
abbrev S1024x1184 : Shape := ⟨2, ![1024, 1184]⟩
abbrev S1184x1024 : Shape := ⟨2, ![1184, 1024]⟩
abbrev S1024x2048 : Shape := ⟨2, ![1024, 2048]⟩
abbrev S256x8x96 : Shape := ⟨3, ![256, 8, 96]⟩
abbrev S_ : Shape := ⟨0, ![]⟩
abbrev S256x8x128 : Shape := ⟨3, ![256, 8, 128]⟩
abbrev S256x1024 : Shape := ⟨2, ![256, 1024]⟩
abbrev S1024x256 : Shape := ⟨2, ![1024, 256]⟩
abbrev S128x8x128 : Shape := ⟨3, ![128, 8, 128]⟩
abbrev S128x8x64 : Shape := ⟨3, ![128, 8, 64]⟩
abbrev S128x512 : Shape := ⟨2, ![128, 512]⟩
abbrev S1024x128 : Shape := ⟨2, ![1024, 128]⟩
abbrev S1x1024 : Shape := ⟨2, ![1, 1024]⟩
abbrev S1x2048 : Shape := ⟨2, ![1, 2048]⟩
abbrev S256x1 : Shape := ⟨2, ![256, 1]⟩
abbrev S128x1 : Shape := ⟨2, ![128, 1]⟩
abbrev S8x512x4096 : Shape := ⟨3, ![8, 512, 4096]⟩
abbrev S8x128x4096 : Shape := ⟨3, ![8, 128, 4096]⟩
abbrev S8x1024x4096 : Shape := ⟨3, ![8, 1024, 4096]⟩
abbrev S8x4096x2048 : Shape := ⟨3, ![8, 4096, 2048]⟩
abbrev S1x1024x1024 : Shape := ⟨3, ![1, 1024, 1024]⟩
abbrev S1x1x1024 : Shape := ⟨3, ![1, 1, 1024]⟩
abbrev S1x512x1024 : Shape := ⟨3, ![1, 512, 1024]⟩
abbrev S1x128x1024 : Shape := ⟨3, ![1, 128, 1024]⟩
abbrev S1x1024x2048 : Shape := ⟨3, ![1, 1024, 2048]⟩
abbrev S32x256 : Shape := ⟨2, ![32, 256]⟩
abbrev S1x256x1024 : Shape := ⟨3, ![1, 256, 1024]⟩
abbrev S1184x256 : Shape := ⟨2, ![1184, 256]⟩
abbrev S256x2048 : Shape := ⟨2, ![256, 2048]⟩
abbrev S1x256x2048 : Shape := ⟨3, ![1, 256, 2048]⟩
abbrev S1x1x256 : Shape := ⟨3, ![1, 1, 256]⟩
abbrev S1x256 : Shape := ⟨2, ![1, 256]⟩
abbrev S16x256 : Shape := ⟨2, ![16, 256]⟩
abbrev S1x32x256 : Shape := ⟨3, ![1, 32, 256]⟩
abbrev S128x256 : Shape := ⟨2, ![128, 256]⟩
abbrev S1x128x256 : Shape := ⟨3, ![1, 128, 256]⟩
abbrev S256x256 : Shape := ⟨2, ![256, 256]⟩
abbrev S64x256 : Shape := ⟨2, ![64, 256]⟩
abbrev S1x64x256 : Shape := ⟨3, ![1, 64, 256]⟩
abbrev S1x16x256 : Shape := ⟨3, ![1, 16, 256]⟩
abbrev S256x128 : Shape := ⟨2, ![256, 128]⟩
abbrev S1x256x128 : Shape := ⟨3, ![1, 256, 128]⟩
abbrev S512x256 : Shape := ⟨2, ![512, 256]⟩
abbrev S1x512x256 : Shape := ⟨3, ![1, 512, 256]⟩

abbrev nBuf : Space → Nat
  | .hbm => 45
  | .vmem => 28
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S32, .f32⟩
  | .hbm, ⟨3, _⟩ => ⟨S16, .f32⟩
  | .hbm, ⟨4, _⟩ => ⟨S1024, .f32⟩
  | .hbm, ⟨5, _⟩ => ⟨S1024x3232, .f32⟩
  | .hbm, ⟨6, _⟩ => ⟨S2048, .f32⟩
  | .hbm, ⟨7, _⟩ => ⟨S256, .f32⟩
  | .hbm, ⟨8, _⟩ => ⟨S256x768, .f32⟩
  | .hbm, ⟨9, _⟩ => ⟨S128, .f32⟩
  | .hbm, ⟨10, _⟩ => ⟨S128x1024, .f32⟩
  | .hbm, ⟨11, _⟩ => ⟨S8x4096, .f32⟩
  | .hbm, ⟨12, _⟩ => ⟨S8x1x4096, .f32⟩
  | .hbm, ⟨13, _⟩ => ⟨S32x1, .f32⟩
  | .hbm, ⟨14, _⟩ => ⟨S16x1, .f32⟩
  | .hbm, ⟨15, _⟩ => ⟨S1024x3232, .bf16⟩
  | .hbm, ⟨16, _⟩ => ⟨S1024x1184, .bf16⟩
  | .hbm, ⟨17, _⟩ => ⟨S1184x1024, .bf16⟩
  | .hbm, ⟨18, _⟩ => ⟨S1024x2048, .bf16⟩
  | .hbm, ⟨19, _⟩ => ⟨S256x768, .bf16⟩
  | .hbm, ⟨20, _⟩ => ⟨S256x8x96, .bf16⟩
  | .hbm, ⟨21, _⟩ => ⟨S_, .i32⟩
  | .hbm, ⟨22, _⟩ => ⟨S_, .bf16⟩
  | .hbm, ⟨23, _⟩ => ⟨S256x8x128, .bf16⟩
  | .hbm, ⟨24, _⟩ => ⟨S256x1024, .bf16⟩
  | .hbm, ⟨25, _⟩ => ⟨S1024x256, .bf16⟩
  | .hbm, ⟨26, _⟩ => ⟨S128x1024, .bf16⟩
  | .hbm, ⟨27, _⟩ => ⟨S128x8x128, .bf16⟩
  | .hbm, ⟨28, _⟩ => ⟨S128x8x64, .bf16⟩
  | .hbm, ⟨29, _⟩ => ⟨S128x512, .bf16⟩
  | .hbm, ⟨30, _⟩ => ⟨S128x8x64, .bf16⟩
  | .hbm, ⟨31, _⟩ => ⟨S128x512, .bf16⟩
  | .hbm, ⟨32, _⟩ => ⟨S128x1024, .bf16⟩
  | .hbm, ⟨33, _⟩ => ⟨S1024x128, .bf16⟩
  | .hbm, ⟨34, _⟩ => ⟨S1x1024, .f32⟩
  | .hbm, ⟨35, _⟩ => ⟨S1x2048, .f32⟩
  | .hbm, ⟨36, _⟩ => ⟨S256x1, .f32⟩
  | .hbm, ⟨37, _⟩ => ⟨S128x1, .f32⟩
  | .hbm, ⟨38, _⟩ => ⟨S8x512x4096, .bf16⟩
  | .hbm, ⟨39, _⟩ => ⟨S8x128x4096, .bf16⟩
  | .hbm, ⟨40, _⟩ => ⟨S8x128x4096, .bf16⟩
  | .hbm, ⟨41, _⟩ => ⟨S8x1024x4096, .bf16⟩
  | .hbm, ⟨42, _⟩ => ⟨S8x4096x1024, .bf16⟩
  | .hbm, ⟨43, _⟩ => ⟨S8x512x4096, .bf16⟩
  | .hbm, ⟨44, _⟩ => ⟨S8x4096x2048, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024, .f32⟩
  | .local _ .vmem, ⟨5, _⟩ => ⟨S1184x1024, .bf16⟩
  | .local _ .vmem, ⟨6, _⟩ => ⟨S1024x2048, .bf16⟩
  | .local _ .vmem, ⟨7, _⟩ => ⟨S1x2048, .f32⟩
  | .local _ .vmem, ⟨8, _⟩ => ⟨S256x1, .f32⟩
  | .local _ .vmem, ⟨9, _⟩ => ⟨S128x1, .f32⟩
  | .local _ .vmem, ⟨10, _⟩ => ⟨S1024x256, .bf16⟩
  | .local _ .vmem, ⟨11, _⟩ => ⟨S1024x128, .bf16⟩
  | .local _ .vmem, ⟨12, _⟩ => ⟨S32x1, .f32⟩
  | .local _ .vmem, ⟨13, _⟩ => ⟨S16x1, .f32⟩
  | .local _ .vmem, ⟨14, _⟩ => ⟨S1x512x1024, .bf16⟩
  | .local _ .vmem, ⟨15, _⟩ => ⟨S1x512x1024, .bf16⟩
  | .local _ .vmem, ⟨16, _⟩ => ⟨S1x128x1024, .bf16⟩
  | .local _ .vmem, ⟨17, _⟩ => ⟨S1x128x1024, .bf16⟩
  | .local _ .vmem, ⟨18, _⟩ => ⟨S1x128x1024, .bf16⟩
  | .local _ .vmem, ⟨19, _⟩ => ⟨S1x128x1024, .bf16⟩
  | .local _ .vmem, ⟨20, _⟩ => ⟨S1x1024x1024, .bf16⟩
  | .local _ .vmem, ⟨21, _⟩ => ⟨S1x1024x1024, .bf16⟩
  | .local _ .vmem, ⟨22, _⟩ => ⟨S1x1024x1024, .bf16⟩
  | .local _ .vmem, ⟨23, _⟩ => ⟨S1x1024x1024, .bf16⟩
  | .local _ .vmem, ⟨24, _⟩ => ⟨S1x512x1024, .bf16⟩
  | .local _ .vmem, ⟨25, _⟩ => ⟨S1x512x1024, .bf16⟩
  | .local _ .vmem, ⟨26, _⟩ => ⟨S1x1024x2048, .bf16⟩
  | .local _ .vmem, ⟨27, _⟩ => ⟨S1x1024x2048, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_call0_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25_0 : Ref sig .tc := ⟨.hbm, 38, rfl⟩
abbrev main_v25_1 : Ref sig .tc := ⟨.hbm, 39, rfl⟩
abbrev main_v25_2 : Ref sig .tc := ⟨.hbm, 40, rfl⟩
abbrev main_v25_3 : Ref sig .tc := ⟨.hbm, 41, rfl⟩
abbrev main_v25_4 : Ref sig .tc := ⟨.hbm, 42, rfl⟩
abbrev main_v25_5 : Ref sig .tc := ⟨.hbm, 43, rfl⟩
abbrev main_v25_6 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1184x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S32x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S16x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x128x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1024x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== InRefIdeal.lean ====
abbrev S8x4096x1024 : Shape := ⟨3, ![8, 4096, 1024]⟩
abbrev S8x4096 : Shape := ⟨2, ![8, 4096]⟩
abbrev S32 : Shape := ⟨1, ![32]⟩
abbrev S16 : Shape := ⟨1, ![16]⟩
abbrev S1024 : Shape := ⟨1, ![1024]⟩
abbrev S1024x3232 : Shape := ⟨2, ![1024, 3232]⟩
abbrev S2048 : Shape := ⟨1, ![2048]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S8x4096x1 : Shape := ⟨3, ![8, 4096, 1]⟩
abbrev S1x1x32 : Shape := ⟨3, ![1, 1, 32]⟩
abbrev S8x4096x32 : Shape := ⟨3, ![8, 4096, 32]⟩
abbrev S1x1x16 : Shape := ⟨3, ![1, 1, 16]⟩
abbrev S8x4096x16 : Shape := ⟨3, ![8, 4096, 16]⟩
abbrev S_ : Shape := ⟨0, ![]⟩
abbrev S1x1x1024 : Shape := ⟨3, ![1, 1, 1024]⟩
abbrev S8x4096x3232 : Shape := ⟨3, ![8, 4096, 3232]⟩
abbrev S8x4096x512 : Shape := ⟨3, ![8, 4096, 512]⟩
abbrev S8x4096x128 : Shape := ⟨3, ![8, 4096, 128]⟩
abbrev S8x4096x256 : Shape := ⟨3, ![8, 4096, 256]⟩
abbrev S8x4096x2048 : Shape := ⟨3, ![8, 4096, 2048]⟩
abbrev S8x4096x8x64 : Shape := ⟨4, ![8, 4096, 8, 64]⟩
abbrev S8x4096x8x32 : Shape := ⟨4, ![8, 4096, 8, 32]⟩
abbrev S8x4096x1x32 : Shape := ⟨4, ![8, 4096, 1, 32]⟩
abbrev S8x4096x2x64 : Shape := ⟨4, ![8, 4096, 2, 64]⟩
abbrev S8x4096x2x32 : Shape := ⟨4, ![8, 4096, 2, 32]⟩
abbrev S1x1x256 : Shape := ⟨3, ![1, 1, 256]⟩
abbrev S8x4096x768 : Shape := ⟨3, ![8, 4096, 768]⟩
abbrev S8x4096x8x96 : Shape := ⟨4, ![8, 4096, 8, 96]⟩
abbrev S8x4096x8x16 : Shape := ⟨4, ![8, 4096, 8, 16]⟩
abbrev S8x4096x1x16 : Shape := ⟨4, ![8, 4096, 1, 16]⟩
abbrev S1x1x128 : Shape := ⟨3, ![1, 1, 128]⟩
abbrev S8x4096x8x128 : Shape := ⟨4, ![8, 4096, 8, 128]⟩
abbrev S8x512x4096 : Shape := ⟨3, ![8, 512, 4096]⟩
abbrev S8x128x4096 : Shape := ⟨3, ![8, 128, 4096]⟩
abbrev S8x1024x4096 : Shape := ⟨3, ![8, 1024, 4096]⟩
abbrev S1x1x2048 : Shape := ⟨3, ![1, 1, 2048]⟩

abbrev nBuf : Space → Nat
  | .hbm => 193
  | .vmem => 0
  | .smem => 0
  | _ => 0

abbrev hbmTy0_0 (i : Nat) : BufTy := match i % 128 with
  | 0 => ⟨S8x4096x1024, .f32⟩
  | 1 => ⟨S8x4096, .i32⟩
  | 2 => ⟨S32, .f32⟩
  | 3 => ⟨S16, .f32⟩
  | 4 => ⟨S1024, .f32⟩
  | 5 => ⟨S1024x3232, .f32⟩
  | 6 => ⟨S2048, .f32⟩
  | 7 => ⟨S256, .f32⟩
  | 8 => ⟨S256x768, .f32⟩
  | 9 => ⟨S128, .f32⟩
  | 10 => ⟨S128x1024, .f32⟩
  | 11 => ⟨S8x4096, .f32⟩
  | 12 => ⟨S8x4096x1, .f32⟩
  | 13 => ⟨S1x1x32, .f32⟩
  | 14 => ⟨S8x4096x32, .f32⟩
  | 15 => ⟨S8x4096x32, .f32⟩
  | 16 => ⟨S8x4096x32, .f32⟩
  | 17 => ⟨S8x4096, .f32⟩
  | 18 => ⟨S8x4096x1, .f32⟩
  | 19 => ⟨S1x1x16, .f32⟩
  | 20 => ⟨S8x4096x16, .f32⟩
  | 21 => ⟨S8x4096x16, .f32⟩
  | 22 => ⟨S8x4096x16, .f32⟩
  | 23 => ⟨S8x4096x32, .f32⟩
  | 24 => ⟨S8x4096x32, .f32⟩
  | 25 => ⟨S8x4096x16, .f32⟩
  | 26 => ⟨S8x4096x16, .f32⟩
  | 27 => ⟨S8x4096x1024, .f32⟩
  | 28 => ⟨S_, .f32⟩
  | 29 => ⟨S8x4096, .f32⟩
  | 30 => ⟨S8x4096x1, .f32⟩
  | 31 => ⟨S_, .f32⟩
  | 32 => ⟨S8x4096x1, .f32⟩
  | 33 => ⟨S8x4096x1, .f32⟩
  | 34 => ⟨S_, .f32⟩
  | 35 => ⟨S8x4096x1, .f32⟩
  | 36 => ⟨S8x4096x1, .f32⟩
  | 37 => ⟨S8x4096x1, .f32⟩
  | 38 => ⟨S8x4096x1024, .f32⟩
  | 39 => ⟨S8x4096x1024, .f32⟩
  | 40 => ⟨S1x1x1024, .f32⟩
  | 41 => ⟨S8x4096x1024, .f32⟩
  | 42 => ⟨S8x4096x1024, .f32⟩
  | 43 => ⟨S8x4096x3232, .f32⟩
  | 44 => ⟨S8x4096x512, .f32⟩
  | 45 => ⟨S8x4096x128, .f32⟩
  | 46 => ⟨S8x4096x128, .f32⟩
  | 47 => ⟨S8x4096x256, .f32⟩
  | 48 => ⟨S8x4096x128, .f32⟩
  | 49 => ⟨S8x4096x32, .f32⟩
  | 50 => ⟨S8x4096x2048, .f32⟩
  | 51 => ⟨S8x4096x8x64, .f32⟩
  | 52 => ⟨S8x4096x8x32, .f32⟩
  | 53 => ⟨S8x4096x8x32, .f32⟩
  | 54 => ⟨S8x4096x1x32, .f32⟩
  | 55 => ⟨S8x4096x1x32, .f32⟩
  | 56 => ⟨S8x4096x8x32, .f32⟩
  | 57 => ⟨S8x4096x8x32, .f32⟩
  | 58 => ⟨S8x4096x8x32, .f32⟩
  | 59 => ⟨S8x4096x8x32, .f32⟩
  | 60 => ⟨S8x4096x8x32, .f32⟩
  | 61 => ⟨S8x4096x8x32, .f32⟩
  | 62 => ⟨S8x4096x8x32, .f32⟩
  | 63 => ⟨S8x4096x8x32, .f32⟩
  | 64 => ⟨S8x4096x8x32, .f32⟩
  | 65 => ⟨S8x4096x8x32, .f32⟩
  | 66 => ⟨S8x4096x8x64, .f32⟩
  | 67 => ⟨S8x4096x2x64, .f32⟩
  | 68 => ⟨S8x4096x2x32, .f32⟩
  | 69 => ⟨S8x4096x2x32, .f32⟩
  | 70 => ⟨S8x4096x1x32, .f32⟩
  | 71 => ⟨S8x4096x1x32, .f32⟩
  | 72 => ⟨S8x4096x2x32, .f32⟩
  | 73 => ⟨S8x4096x2x32, .f32⟩
  | 74 => ⟨S8x4096x2x32, .f32⟩
  | 75 => ⟨S8x4096x2x32, .f32⟩
  | 76 => ⟨S8x4096x2x32, .f32⟩
  | 77 => ⟨S8x4096x2x32, .f32⟩
  | 78 => ⟨S8x4096x2x32, .f32⟩
  | 79 => ⟨S8x4096x2x32, .f32⟩
  | 80 => ⟨S8x4096x2x32, .f32⟩
  | 81 => ⟨S8x4096x2x32, .f32⟩
  | 82 => ⟨S8x4096x2x64, .f32⟩
  | 83 => ⟨S8x4096x256, .f32⟩
  | 84 => ⟨S_, .f32⟩
  | 85 => ⟨S8x4096, .f32⟩
  | 86 => ⟨S8x4096x1, .f32⟩
  | 87 => ⟨S_, .f32⟩
  | 88 => ⟨S8x4096x1, .f32⟩
  | 89 => ⟨S8x4096x1, .f32⟩
  | 90 => ⟨S_, .f32⟩
  | 91 => ⟨S8x4096x1, .f32⟩
  | 92 => ⟨S8x4096x1, .f32⟩
  | 93 => ⟨S8x4096x1, .f32⟩
  | 94 => ⟨S8x4096x256, .f32⟩
  | 95 => ⟨S8x4096x256, .f32⟩
  | 96 => ⟨S1x1x256, .f32⟩
  | 97 => ⟨S8x4096x256, .f32⟩
  | 98 => ⟨S8x4096x256, .f32⟩
  | 99 => ⟨S8x4096x768, .f32⟩
  | 100 => ⟨S8x4096x8x96, .f32⟩
  | 101 => ⟨S8x4096x8x64, .f32⟩
  | 102 => ⟨S8x4096x8x32, .f32⟩
  | 103 => ⟨S8x4096x8x16, .f32⟩
  | 104 => ⟨S8x4096x8x16, .f32⟩
  | 105 => ⟨S8x4096x1x16, .f32⟩
  | 106 => ⟨S8x4096x1x16, .f32⟩
  | 107 => ⟨S8x4096x8x16, .f32⟩
  | 108 => ⟨S8x4096x8x16, .f32⟩
  | 109 => ⟨S8x4096x8x16, .f32⟩
  | 110 => ⟨S8x4096x8x16, .f32⟩
  | 111 => ⟨S8x4096x8x16, .f32⟩
  | 112 => ⟨S8x4096x8x16, .f32⟩
  | 113 => ⟨S8x4096x8x16, .f32⟩
  | 114 => ⟨S8x4096x8x16, .f32⟩
  | 115 => ⟨S8x4096x8x16, .f32⟩
  | 116 => ⟨S8x4096x8x16, .f32⟩
  | 117 => ⟨S8x4096x8x32, .f32⟩
  | 118 => ⟨S8x4096x128, .f32⟩
  | 119 => ⟨S_, .f32⟩
  | 120 => ⟨S8x4096, .f32⟩
  | 121 => ⟨S8x4096x1, .f32⟩
  | 122 => ⟨S_, .f32⟩
  | 123 => ⟨S8x4096x1, .f32⟩
  | 124 => ⟨S8x4096x1, .f32⟩
  | 125 => ⟨S_, .f32⟩
  | 126 => ⟨S8x4096x1, .f32⟩
  | 127 => ⟨S8x4096x1, .f32⟩
  | _ => ⟨S8x4096x1024, .f32⟩

abbrev hbmTy0_1 (i : Nat) : BufTy := match i % 128 with
  | 0 => ⟨S8x4096x1, .f32⟩
  | 1 => ⟨S8x4096x128, .f32⟩
  | 2 => ⟨S8x4096x128, .f32⟩
  | 3 => ⟨S1x1x128, .f32⟩
  | 4 => ⟨S8x4096x128, .f32⟩
  | 5 => ⟨S8x4096x128, .f32⟩
  | 6 => ⟨S8x4096x1024, .f32⟩
  | 7 => ⟨S8x4096x8x128, .f32⟩
  | 8 => ⟨S8x4096x8x64, .f32⟩
  | 9 => ⟨S8x4096x8x64, .f32⟩
  | 10 => ⟨S8x4096x1x32, .f32⟩
  | 11 => ⟨S8x4096x1x16, .f32⟩
  | 12 => ⟨S8x4096x1x16, .f32⟩
  | 13 => ⟨S8x4096x1x16, .f32⟩
  | 14 => ⟨S8x4096x1x16, .f32⟩
  | 15 => ⟨S8x4096x1x16, .f32⟩
  | 16 => ⟨S8x4096x1x16, .f32⟩
  | 17 => ⟨S8x4096x1x16, .f32⟩
  | 18 => ⟨S8x4096x1x16, .f32⟩
  | 19 => ⟨S8x4096x1x16, .f32⟩
  | 20 => ⟨S8x4096x1x16, .f32⟩
  | 21 => ⟨S8x4096x1x32, .f32⟩
  | 22 => ⟨S8x4096x8x96, .f32⟩
  | 23 => ⟨S8x4096x8x32, .f32⟩
  | 24 => ⟨S8x4096x8x96, .f32⟩
  | 25 => ⟨S_, .f32⟩
  | 26 => ⟨S8x4096x8x64, .f32⟩
  | 27 => ⟨S8x4096x8x64, .f32⟩
  | 28 => ⟨S8x4096x512, .f32⟩
  | 29 => ⟨S8x512x4096, .f32⟩
  | 30 => ⟨S8x512x4096, .bf16⟩
  | 31 => ⟨S8x4096x128, .f32⟩
  | 32 => ⟨S8x128x4096, .f32⟩
  | 33 => ⟨S8x128x4096, .bf16⟩
  | 34 => ⟨S8x128x4096, .f32⟩
  | 35 => ⟨S8x128x4096, .bf16⟩
  | 36 => ⟨S_, .f32⟩
  | 37 => ⟨S8x4096x8x96, .f32⟩
  | 38 => ⟨S8x4096x8x96, .f32⟩
  | 39 => ⟨S_, .i32⟩
  | 40 => ⟨S_, .f32⟩
  | 41 => ⟨S8x4096x8x128, .f32⟩
  | 42 => ⟨S8x4096x1024, .f32⟩
  | 43 => ⟨S8x1024x4096, .f32⟩
  | 44 => ⟨S8x1024x4096, .bf16⟩
  | 45 => ⟨S_, .i32⟩
  | 46 => ⟨S_, .f32⟩
  | 47 => ⟨S8x4096x8x128, .f32⟩
  | 48 => ⟨S8x4096x1024, .f32⟩
  | 49 => ⟨S8x4096x1024, .bf16⟩
  | 50 => ⟨S8x4096x512, .f32⟩
  | 51 => ⟨S8x512x4096, .f32⟩
  | 52 => ⟨S8x512x4096, .bf16⟩
  | 53 => ⟨S1x1x2048, .f32⟩
  | 54 => ⟨S8x4096x2048, .f32⟩
  | 55 => ⟨S8x4096x2048, .f32⟩
  | 56 => ⟨S8x4096x2048, .f32⟩
  | 57 => ⟨S8x4096x2048, .f32⟩
  | 58 => ⟨S_, .f32⟩
  | 59 => ⟨S8x4096x2048, .f32⟩
  | 60 => ⟨S8x4096x2048, .f32⟩
  | 61 => ⟨S_, .f32⟩
  | 62 => ⟨S8x4096x2048, .f32⟩
  | 63 => ⟨S8x4096x2048, .f32⟩
  | 64 => ⟨S8x4096x2048, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_cst_2 : Ref sig .tc := ⟨.hbm, 84, rfl⟩
abbrev main_v70 : Ref sig .tc := ⟨.hbm, 85, rfl⟩
abbrev main_v71 : Ref sig .tc := ⟨.hbm, 86, rfl⟩
abbrev main_cst_3 : Ref sig .tc := ⟨.hbm, 87, rfl⟩
abbrev main_v72 : Ref sig .tc := ⟨.hbm, 88, rfl⟩
abbrev main_v73 : Ref sig .tc := ⟨.hbm, 89, rfl⟩
abbrev main_cst_4 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_cst_5 : Ref sig .tc := ⟨.hbm, 119, rfl⟩
abbrev main_v102 : Ref sig .tc := ⟨.hbm, 120, rfl⟩
abbrev main_v103 : Ref sig .tc := ⟨.hbm, 121, rfl⟩
abbrev main_cst_6 : Ref sig .tc := ⟨.hbm, 122, rfl⟩
abbrev main_v104 : Ref sig .tc := ⟨.hbm, 123, rfl⟩
abbrev main_v105 : Ref sig .tc := ⟨.hbm, 124, rfl⟩
abbrev main_cst_7 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_cst_8 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_cst_9 : Ref sig .tc := ⟨.hbm, 164, rfl⟩
abbrev main_v143 : Ref sig .tc := ⟨.hbm, 165, rfl⟩
abbrev main_v144 : Ref sig .tc := ⟨.hbm, 166, rfl⟩
abbrev main_c : Ref sig .tc := ⟨.hbm, 167, rfl⟩
abbrev main_call0_v0 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_c_10 : Ref sig .tc := ⟨.hbm, 173, rfl⟩
abbrev main_call1_v0 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_cst_11 : Ref sig .tc := ⟨.hbm, 186, rfl⟩
abbrev main_v160 : Ref sig .tc := ⟨.hbm, 187, rfl⟩
abbrev main_v161 : Ref sig .tc := ⟨.hbm, 188, rfl⟩
abbrev main_cst_12 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩

abbrev nD : Nat := 1
abbrev τ : Topo := Topo.v7x

variable {F : FTy → Type} [FloatOps F]
-- ==== Proof.PostRow.lean ====
module

public import Idealize.ShloMosaic.PureOps.Ideal
public import Idealize.ShloMosaic.PureOps.Ideal.Laws

@[expose] public section

/-!
# One token of the layer's closing block, over the extended reals

Everything after the two token mixers acts on one token's row at a time, except the three-tap
convolution over the sequence. This module names those row functions once; the kernel's blocks and
the reference's arrays are both read as them.
-/

noncomputable section

namespace Cert.PostRow

open Idealize.ShloMosaic
open scoped BigOperators

/-- The length of a model row, `1024`, as its float pattern's value. -/
def width : EReal := Ideal.ofBits .f32 0x44800000#32
/-- The normalisations' small constant. -/
def eps : EReal := Ideal.ofBits .f32 0x358637BD#32
/-- The value of the pattern of `1.0`. -/
def one : EReal := Ideal.ofBits .f32 0x3F800000#32

/-- A row times a matrix, at one column. -/
def lin {K N : ℕ} (t : Fin K → EReal) (w : Fin K → Fin N → EReal) (c : Fin N) : EReal := ∑ k, t k * w k c

/-- A row scaled by the reciprocal root of its mean square, and by the gain. -/
def rms (t g : Fin 1024 → EReal) (c : Fin 1024) : EReal :=
  t c * Ideal.rsqrt (Ideal.div (∑ k, t k * t k) width + eps) * g c

/-- The logistic function. -/
def sig (z : EReal) : EReal := Ideal.div one (one + Ideal.exp (-z))

/-- The layer's weights that the closing block reads. -/
structure Weights where
  /-- The first mixer's projection into the model. -/
  wa : Fin 512 → Fin 1024 → EReal
  /-- The second mixer's projection into the model. -/
  wb : Fin 512 → Fin 1024 → EReal
  /-- The projection after the two branches are mixed. -/
  wout : Fin 1024 → Fin 1024 → EReal
  /-- The gain after the mixers. -/
  gpost : Fin 1024 → EReal
  /-- The gain before the feed-forward part. -/
  gmlp : Fin 1024 → EReal
  /-- The feed-forward part's projection up, both halves. -/
  wup : Fin 1024 → Fin 5632 → EReal
  /-- The convolution's three taps, oldest first. -/
  cw : Fin 3 → Fin 5632 → EReal
  /-- The convolution's bias. -/
  cb : Fin 5632 → EReal
  /-- The feed-forward part's projection down. -/
  wdown : Fin 2816 → Fin 1024 → EReal
  /-- The gain after the feed-forward part. -/
  gmlppost : Fin 1024 → EReal
  /-- The gain before the last gate. -/
  gple : Fin 1024 → EReal
  /-- The last gate's projection. -/
  wpleg : Fin 1024 → Fin 1024 → EReal
  /-- The projection of the per-layer embedding. -/
  wple : Fin 256 → Fin 1024 → EReal

/-- What the closing block reads of one token. -/
structure Token where
  /-- The residual row. -/
  x : Fin 1024 → EReal
  /-- The first mixer's output row. -/
  ya : Fin 512 → EReal
  /-- The second mixer's output row. -/
  yb : Fin 512 → EReal
  /-- The two branches' gates, side by side. -/
  gates : Fin 2048 → EReal
  /-- The per-layer embedding's row. -/
  p : Fin 256 → EReal

/-- The gated sum of the two branches. -/
def mixed (W : Weights) (t : Token) (c : Fin 1024) : EReal :=
  t.gates ⟨c.val, by omega⟩ * lin t.ya W.wa c + t.gates ⟨1024 + c.val, by omega⟩ * lin t.yb W.wb c

/-- The residual row after the mixers. -/
def afterMix (W : Weights) (t : Token) (c : Fin 1024) : EReal :=
  t.x c + rms (lin (mixed W t) W.wout) W.gpost c

/-- The row the convolution reads: the normalised residual row times the projection up. -/
def up (W : Weights) (t : Token) : Fin 5632 → EReal := lin (rms (afterMix W t) W.gmlp) W.wup

/-- The three-tap convolution at one token, from that token's row `u0` and the two before it. -/
def conv (W : Weights) (u0 u1 u2 : Fin 5632 → EReal) (k : Fin 5632) : EReal :=
  W.cw 0 k * u2 k + W.cw 1 k * u1 k + W.cw 2 k * u0 k + W.cb k

/-- The gated activation: the first half through the activation, times the second half. -/
def act (glu : EReal → EReal) (y : Fin 5632 → EReal) (k : Fin 2816) : EReal :=
  glu (y ⟨k.val, by omega⟩) * y ⟨2816 + k.val, by omega⟩

/-- The residual row after the feed-forward part. -/
def afterMlp (glu : EReal → EReal) (W : Weights) (t : Token) (y : Fin 5632 → EReal) (c : Fin 1024) : EReal :=
  afterMix W t c + rms (lin (act glu y) W.wdown) W.gmlppost c

/-- The layer's output row: the residual row plus the gated per-layer embedding. -/
def out (glu : EReal → EReal) (W : Weights) (t : Token) (y : Fin 5632 → EReal) (c : Fin 1024) : EReal :=
  afterMlp glu W t y c + sig (lin (rms (afterMlp glu W t y) W.gple) W.wpleg c) * lin t.p W.wple c

end Cert.PostRow

end
-- ==== Proof.PostGelu.lean ====
module

public import proofs.«01_k».proof.Proof.PostRow
public import Mathlib.Analysis.SpecialFunctions.Trigonometric.DerivHyp

@[expose] public section

/-!
# The two forms of the activation

The reference writes the tanh form of the Gaussian error unit. The kernel writes the logistic form,
with the logistic's exponential taken to base two and the factor `1 / log 2` folded into its
constants. Over the extended reals they are one function, at the infinities too.
-/

noncomputable section

namespace Cert.PostRow

open Idealize.ShloMosaic

/-- The float nearest `√(2/π)`, as a real. -/
def rootR : ℝ := 6693141 / 8388608
/-- The float nearest `0.044715`, as a real. -/
def cubeR : ℝ := 12003091 / 268435456
/-- The kernel's linear coefficient. -/
def lin1R : ℝ := -((6693141 / 4194304) * (Real.log 2)⁻¹)
/-- The kernel's cubic coefficient. -/
def cub1R : ℝ := (-((6693141 / 4194304) * (Real.log 2)⁻¹)) * (12003091 / 268435456)

/-- The reference's activation. -/
def gluRef (t : EReal) : EReal :=
  t * (Ideal.ofBits .f32 0x3F000000#32 * (one + Ideal.tanh (Ideal.ofBits .f32 0x3F4C422A#32 *
    (t + Ideal.ofBits .f32 0x3D372713#32 * (t * t * t)))))

/-- The kernel's activation. -/
def gluKer (t : EReal) : EReal :=
  t * Ideal.div one (one + Ideal.exp2 (t * ((cub1R : EReal) * (t * t) + (lin1R : EReal))))

/-- The pattern of `1.0`. -/
theorem one_eq : one = 1 := by
  simp [one, Ideal.ofBits, Ideal.ieee, -EReal.coe_mul]; norm_num

/-- The pattern of `0.0`. -/
theorem zero_eq : Ideal.ofBits .f32 0x00000000#32 = 0 := by
  simp [Ideal.ofBits, Ideal.ieee, -EReal.coe_mul]

/-- The pattern of `0.5`. -/
theorem half_eq : Ideal.ofBits .f32 0x3F000000#32 = ((1 / 2 : ℝ) : EReal) := by
  simp [Ideal.ofBits, Ideal.ieee, -EReal.coe_mul]; norm_num

/-- The pattern nearest `√(2/π)`. -/
theorem root_eq : Ideal.ofBits .f32 0x3F4C422A#32 = (rootR : EReal) := by
  simp [Ideal.ofBits, Ideal.ieee, rootR, -EReal.coe_mul]; norm_num

/-- The pattern nearest `0.044715`. -/
theorem cube_eq : Ideal.ofBits .f32 0x3D372713#32 = (cubeR : EReal) := by
  simp [Ideal.ofBits, Ideal.ieee, cubeR, -EReal.coe_mul]; norm_num

theorem lin1R_neg : lin1R < 0 := by
  have h : 0 < Real.log 2 := Real.log_pos (by norm_num)
  unfold lin1R; have := inv_pos.mpr h; nlinarith

theorem cub1R_neg : cub1R < 0 := by
  have h := lin1R_neg; unfold lin1R at h; unfold cub1R; nlinarith

/-- `2^(-2z/log 2) = e^(-2z)`, and `1/(1 + e^(-2z)) = (1 + tanh z)/2`. -/
theorem logistic_eq (z : ℝ) : 1 / (1 + Real.exp (-(2 * z))) = 1 / 2 * (1 + Real.tanh z) := by
  have h1 : Real.exp (-(2 * z)) = Real.exp (-z) * Real.exp (-z) := by rw [← Real.exp_add]; ring_nf
  have h2 : Real.exp z * Real.exp (-z) = 1 := by rw [← Real.exp_add]; simp
  have h3 := Real.exp_pos z
  have h4 := Real.exp_pos (-z)
  rw [Real.tanh_eq_sinh_div_cosh, Real.sinh_eq, Real.cosh_eq, h1]
  have h5 : 1 + Real.exp (-z) * Real.exp (-z) ≠ 0 := by positivity
  have h6 : Real.exp z + Real.exp (-z) ≠ 0 := by positivity
  field_simp
  generalize Real.exp z = a at *
  generalize Real.exp (-z) = b at *
  linear_combination (-2 : ℝ) * b * h2

/-- The kernel's exponent is the reference's tanh argument times `-2 / log 2`. -/
theorem rpow_eq (r : ℝ) :
    Real.rpow 2 (r * (cub1R * (r * r) + lin1R)) = Real.exp (-(2 * (rootR * (r + cubeR * (r * r * r))))) := by
  have h : Real.log 2 ≠ 0 := (Real.log_pos (by norm_num)).ne'
  show (2 : ℝ) ^ (r * (cub1R * (r * r) + lin1R)) = _
  rw [Real.rpow_def_of_pos (by norm_num)]
  congr 1
  unfold cub1R lin1R rootR cubeR
  field_simp
  ring

/-- **The kernel's activation is the reference's**, at every extended real. -/
theorem gluKer_eq (t : EReal) : gluKer t = gluRef t := by
  unfold gluKer gluRef
  rw [one_eq, half_eq, root_eq, cube_eq]
  have hr : 0 < rootR := by unfold rootR; norm_num
  have hc : 0 < cubeR := by unfold cubeR; norm_num
  induction t with
  | bot =>
    rw [EReal.bot_mul_bot, EReal.coe_mul_top_of_neg cub1R_neg, EReal.bot_add, EReal.bot_mul_bot, Ideal.exp2_top,
      EReal.top_mul_bot, EReal.coe_mul_bot_of_pos hc, EReal.bot_add, EReal.coe_mul_bot_of_pos hr, Ideal.tanh_bot,
      EReal.add_top_of_ne_bot (by decide)]
    have h1 : (1 : EReal) + -1 = 0 := by
      rw [← EReal.coe_one, ← EReal.coe_neg, ← EReal.coe_add]; simp
    rw [h1, mul_zero, mul_zero]
    simp [Ideal.div]
  | top =>
    rw [EReal.top_mul_top, EReal.coe_mul_top_of_neg cub1R_neg, EReal.bot_add, EReal.top_mul_bot, Ideal.exp2_bot,
      EReal.top_mul_top, EReal.coe_mul_top_of_pos hc, EReal.top_add_top, EReal.coe_mul_top_of_pos hr, Ideal.tanh_top]
    have h1 : ((1 / 2 : ℝ) : EReal) * (1 + 1) = 1 := by
      rw [← EReal.coe_one, ← EReal.coe_add, ← EReal.coe_mul]; norm_num
    rw [h1, add_zero]
    simp [Ideal.div]
  | coe r =>
    have hp : (0 : ℝ) < 1 + Real.exp (-(2 * (rootR * (r + cubeR * (r * r * r))))) := by positivity
    rw [← EReal.coe_mul, ← EReal.coe_mul, ← EReal.coe_add, ← EReal.coe_mul, Ideal.exp2_coe, rpow_eq, ← EReal.coe_one,
      ← EReal.coe_add, Ideal.div_coe hp.ne', ← EReal.coe_mul, ← EReal.coe_mul, ← EReal.coe_mul, ← EReal.coe_mul, ← EReal.coe_add,
      ← EReal.coe_mul, Ideal.tanh_coe, ← EReal.coe_add, ← EReal.coe_mul, ← EReal.coe_mul, logistic_eq, one_mul]

/-- The kernel's logistic subtracts from zero where the reference negates. -/
theorem sig_eq (z : EReal) :
    Ideal.div one (one + Ideal.exp (Ideal.ofBits .f32 0x00000000#32 - z)) = sig z := by
  rw [zero_eq, zero_sub]; rfl

end Cert.PostRow

end
-- ==== Proof.PostBlock.lean ====
module

public import proofs.«01_k».proof.Proof.PostGelu
public import proofs.«01_k».proof.Proof.Gen.PostIdeal.Skeleton
public import Idealize.ShloMosaic.Lib.Pointwise
public import Idealize.ShloMosaic.Lib.MatmulPlain

@[expose] public section

/-!
# What the kernel computes on a slab of 256 tokens

The kernel's body works on two slabs of 256 tokens. These are its array operations, named once and
read at a row and a column as the row functions of the closing block.
-/

set_option maxRecDepth 16384

noncomputable section

namespace Cert.PostRow

open Idealize.ShloMosaic
open Cert.PostIdeal
open scoped BigOperators

/-- A product onto a zero accumulator, at a row and a column, is the sum over the contracted position. -/
theorem dot_apply {M K N : ℕ} {φ₁ φ₂ : FTy} (l : FVec Ideal ⟨2, ![M, K]⟩ φ₁) (w : FVec Ideal ⟨2, ![K, N]⟩ φ₂) (r : Fin M) (c : Fin N) :
    matmul (DotDims.plain M K N) none l w (constant ⟨2, ![M, N]⟩ .f32 0x00000000#32) (ix2 r c)
      = lin (fun k => l (ix2 r k)) (fun k c => w (ix2 k c)) c := by
  refine (Ideal.matmul_plain_apply none l w _ r c).trans ?_
  show Ideal.ofBits .f32 0x00000000#32 + _ = _
  rw [zero_eq, zero_add]
  rfl

/-- A slab of 256 rows normalised, with the gain. -/
def rmsB (t : FVec Ideal S256x1024 .f32) (g : Vec Ideal S1x1024 .f32) : FVec Ideal S256x1024 .f32 :=
  mulf (mulf t (broadcastTo S256x1024 (rsqrt (addf (divf (shapeCast S256x1
    (multiReduction .add [1] S256 (mulf t t) 0x00000000#32 Facts₀.reduces_S256x1024_S256 (.inl rfl) rfl) Facts₀.shapeCasts_S256_S256x1)
    (broadcast S256x1 (Scalar.ofBits .f32 0x44800000#32))) (broadcast S256x1 (Scalar.ofBits .f32 0x358637BD#32))))
    Facts₀.broadcasts_S256x1_S256x1024))
    (broadcastTo S256x1024 (shapeCast S1x1024 g Facts₀.shapeCasts_S1x1024_S1x1024) Facts₀.broadcasts_S1x1024_S256x1024)

/-- Each row of the normalised slab is the row normalised. -/
theorem rmsB_apply (t : FVec Ideal S256x1024 .f32) (g : Vec Ideal S1x1024 .f32) (r : Fin 256) (c : Fin 1024) :
    rmsB t g (ix2 r c) = rms (fun c => t (ix2 r c)) (fun c => g (ix2 0 c)) c := by
  unfold rmsB rms width eps
  pointwise

/-- The mixed branches of a slab times the output projection. -/
def mixB (yg : Vec Ideal S1x256x2048 .bf16) (ya : Vec Ideal S1x256x512 .bf16) (wa : Vec Ideal S512x1024 .bf16)
    (yb : Vec Ideal S1x256x512 .bf16) (wb : Vec Ideal S512x1024 .bf16) (wo : Vec Ideal S1024x1024 .bf16) : FVec Ideal S256x1024 .f32 :=
  matmul (φ₁ := .bf16) (φ₂ := .bf16) dot_S256x1024_S1024x1024_S256x1024_1_0_0_1_n_n none
    (truncf .bf16 (addf
      (mulf (extf .f32 (extractStridedSlice S256x1024 ![0, 0] (shapeCast S256x2048 yg Facts₀.shapeCasts_S1x256x2048_S256x2048)
          Facts₀.slices_S256x2048_o0_0_S256x1024) Facts₀.bitsLt_bf16_f32)
        (matmul (φ₁ := .bf16) (φ₂ := .bf16) dot_S256x512_S512x1024_S256x1024_1_0_0_1_n_n none (shapeCast S256x512 ya Facts₀.shapeCasts_S1x256x512_S256x512)
          (shapeCast S512x1024 wa Facts₀.shapeCasts_S512x1024_S512x1024) (constant S256x1024 .f32 0x00000000#32)))
      (mulf (extf .f32 (extractStridedSlice S256x1024 ![0, 1024] (shapeCast S256x2048 yg Facts₀.shapeCasts_S1x256x2048_S256x2048)
          Facts₀.slices_S256x2048_o0_1024_S256x1024) Facts₀.bitsLt_bf16_f32)
        (matmul (φ₁ := .bf16) (φ₂ := .bf16) dot_S256x512_S512x1024_S256x1024_1_0_0_1_n_n none (shapeCast S256x512 yb Facts₀.shapeCasts_S1x256x512_S256x512)
          (shapeCast S512x1024 wb Facts₀.shapeCasts_S512x1024_S512x1024) (constant S256x1024 .f32 0x00000000#32)))) Facts₀.bitsLt_bf16_f32)
    (shapeCast S1024x1024 wo Facts₀.shapeCasts_S1024x1024_S1024x1024) (constant S256x1024 .f32 0x00000000#32)

/-- The residual slab after the mixers. -/
def afterMixB (x : Vec Ideal S1x256x1024 .f32) (m : FVec Ideal S256x1024 .f32) (g : Vec Ideal S1x1024 .f32) : FVec Ideal S256x1024 .f32 :=
  addf (shapeCast S256x1024 x Facts₀.shapeCasts_S1x256x1024_S256x1024) (rmsB m g)

/-- The slab of rows the convolution reads. -/
def upB (x1 : FVec Ideal S256x1024 .f32) (g : Vec Ideal S1x1024 .f32) (w : Vec Ideal S1024x5632 .bf16) : FVec Ideal S256x5632 .f32 :=
  matmul (φ₁ := .bf16) (φ₂ := .bf16) dot_S256x1024_S1024x5632_S256x5632_1_0_0_1_n_n none (truncf .bf16 (rmsB x1 g) Facts₀.bitsLt_bf16_f32)
    (shapeCast S1024x5632 w Facts₀.shapeCasts_S1024x5632_S1024x5632) (constant S256x5632 .f32 0x00000000#32)

/-- The convolution of a slab from the slab `u0` and the slabs one and two rows before it. -/
def convB (cw : Vec Ideal S3x5632 .f32) (cb : Vec Ideal S1x5632 .f32) (u0 u1 u2 : FVec Ideal S256x5632 .f32) : FVec Ideal S256x5632 .f32 :=
  addf (addf (addf
    (mulf (broadcastTo S256x5632 (extractStridedSlice S1x5632 ![0, 0] cw Facts₀.slices_S3x5632_o0_0_S1x5632) Facts₀.broadcasts_S1x5632_S256x5632) u2)
    (mulf (broadcastTo S256x5632 (extractStridedSlice S1x5632 ![1, 0] cw Facts₀.slices_S3x5632_o1_0_S1x5632) Facts₀.broadcasts_S1x5632_S256x5632) u1))
    (mulf (broadcastTo S256x5632 (extractStridedSlice S1x5632 ![2, 0] cw Facts₀.slices_S3x5632_o2_0_S1x5632) Facts₀.broadcasts_S1x5632_S256x5632) u0))
    (broadcastTo S256x5632 (shapeCast S1x5632 cb Facts₀.shapeCasts_S1x5632_S1x5632) Facts₀.broadcasts_S1x5632_S256x5632)

/-- The first half of a slab through the activation. -/
def gluB (t : FVec Ideal S256x2816 .f32) : FVec Ideal S256x2816 .f32 :=
  mulf t (divf (broadcast S256x2816 (Scalar.ofBits .f32 0x3F800000#32)) (addf (broadcast S256x2816 (Scalar.ofBits .f32 0x3F800000#32))
    (exp2 (mulf t (addf (mulf (broadcast S256x2816 (Named.named (F := Ideal) κ "k3" (φ := .f32) 0xBDD2D3E8#32)) (mulf t t))
      (broadcast S256x2816 (Named.named (F := Ideal) κ "k1" (φ := .f32) 0xC0135761#32)))))))

/-- The gated activation of a slab times the projection down. -/
def downB (y : FVec Ideal S256x5632 .f32) (w : Vec Ideal S2816x1024 .bf16) : FVec Ideal S256x1024 .f32 :=
  matmul (φ₁ := .bf16) (φ₂ := .bf16) dot_S256x2816_S2816x1024_S256x1024_1_0_0_1_n_n none
    (truncf .bf16 (mulf (gluB (extractStridedSlice S256x2816 ![0, 0] y Facts₀.slices_S256x5632_o0_0_S256x2816))
      (extractStridedSlice S256x2816 ![0, 2816] y Facts₀.slices_S256x5632_o0_2816_S256x2816)) Facts₀.bitsLt_bf16_f32)
    (shapeCast S2816x1024 w Facts₀.shapeCasts_S2816x1024_S2816x1024) (constant S256x1024 .f32 0x00000000#32)

/-- The layer's output for a slab, as it is stored. -/
def outB (x2 : FVec Ideal S256x1024 .f32) (p : Vec Ideal S1x256x256 .f32) (wp : Vec Ideal S256x1024 .bf16) (g : Vec Ideal S1x1024 .f32)
    (wg : Vec Ideal S1024x1024 .bf16) : FVec Ideal S1x256x1024 .f32 :=
  shapeCast S1x256x1024 (addf x2 (mulf (divf (broadcast S256x1024 (Scalar.ofBits .f32 0x3F800000#32))
      (addf (broadcast S256x1024 (Scalar.ofBits .f32 0x3F800000#32)) (exp (subf (broadcast S256x1024 (Scalar.ofBits .f32 0x00000000#32))
        (matmul (φ₁ := .bf16) (φ₂ := .bf16) dot_S256x1024_S1024x1024_S256x1024_1_0_0_1_n_n none (truncf .bf16 (rmsB x2 g) Facts₀.bitsLt_bf16_f32)
          (shapeCast S1024x1024 wg Facts₀.shapeCasts_S1024x1024_S1024x1024) (constant S256x1024 .f32 0x00000000#32))))))
    (matmul (φ₁ := .bf16) (φ₂ := .bf16) dot_S256x256_S256x1024_S256x1024_1_0_0_1_n_n none
      (truncf .bf16 (shapeCast S256x256 p Facts₀.shapeCasts_S1x256x256_S256x256) Facts₀.bitsLt_bf16_f32)
      (shapeCast S256x1024 wp Facts₀.shapeCasts_S256x1024_S256x1024) (constant S256x1024 .f32 0x00000000#32))))
    Facts₀.shapeCasts_S256x1024_S1x256x1024

/-- The mixed branches of a slab, at a row and a column. -/
theorem mixB_apply (yg : Vec Ideal S1x256x2048 .bf16) (ya : Vec Ideal S1x256x512 .bf16) (wa : Vec Ideal S512x1024 .bf16)
    (yb : Vec Ideal S1x256x512 .bf16) (wb : Vec Ideal S512x1024 .bf16) (wo : Vec Ideal S1024x1024 .bf16) (r : Fin 256) (c : Fin 1024) :
    mixB yg ya wa yb wb wo (ix2 r c)
      = lin (fun c => yg (ix3 0 r ⟨c.val, by omega⟩) * lin (fun k => ya (ix3 0 r k)) (fun k c => wa (ix2 k c)) c
          + yg (ix3 0 r ⟨1024 + c.val, by omega⟩) * lin (fun k => yb (ix3 0 r k)) (fun k c => wb (ix2 k c)) c)
        (fun k c => wo (ix2 k c)) c := by
  unfold mixB lin
  pointwise

/-- The residual slab after the mixers, at a row and a column. -/
theorem afterMixB_apply (x : Vec Ideal S1x256x1024 .f32) (m : FVec Ideal S256x1024 .f32) (g : Vec Ideal S1x1024 .f32) (r : Fin 256) (c : Fin 1024) :
    afterMixB x m g (ix2 r c) = x (ix3 0 r c) + rms (fun c => m (ix2 r c)) (fun c => g (ix2 0 c)) c := by
  unfold afterMixB
  rw [← rmsB_apply]
  pointwise

/-- The rows the convolution reads, at a row and a column. -/
theorem upB_apply (x1 : FVec Ideal S256x1024 .f32) (g : Vec Ideal S1x1024 .f32) (w : Vec Ideal S1024x5632 .bf16) (r : Fin 256) (k : Fin 5632) :
    upB x1 g w (ix2 r k) = lin (rms (fun c => x1 (ix2 r c)) (fun c => g (ix2 0 c))) (fun k c => w (ix2 k c)) k := by
  have h := dot_apply (φ₁ := .bf16) (φ₂ := .bf16) (rmsB x1 g) w r k
  simp only [rmsB_apply] at h
  refine Eq.trans ?_ h
  unfold upB
  rw [shapeCast_id]
  rfl

/-- The convolution of a slab, at a row and a column. -/
theorem convB_apply (cw : Vec Ideal S3x5632 .f32) (cb : Vec Ideal S1x5632 .f32) (u0 u1 u2 : FVec Ideal S256x5632 .f32) (r : Fin 256) (k : Fin 5632) :
    convB cw cb u0 u1 u2 (ix2 r k)
      = cw (ix2 0 k) * u2 (ix2 r k) + cw (ix2 1 k) * u1 (ix2 r k) + cw (ix2 2 k) * u0 (ix2 r k) + cb (ix2 0 k) := by
  unfold convB
  pointwise

/-- The named cubic coefficient. -/
theorem k3_eq : Named.named (F := Ideal) κ "k3" (φ := .f32) 0xBDD2D3E8#32 = (cub1R : EReal) :=
  IdealRules.named_const.ideal_named_scalar _ _ _ _ rfl
/-- The named linear coefficient. -/
theorem k1_eq : Named.named (F := Ideal) κ "k1" (φ := .f32) 0xC0135761#32 = (lin1R : EReal) :=
  IdealRules.named_const.ideal_named_scalar _ _ _ _ rfl

/-- The activation of a slab, at an index. -/
theorem gluB_apply (t : FVec Ideal S256x2816 .f32) (j : S256x2816.Idx) : gluB t j = gluKer (t j) := by
  unfold gluB gluKer one
  rw [k3_eq, k1_eq]
  rfl

/-- The projection down of a slab, at a row and a column. -/
theorem downB_apply (y : FVec Ideal S256x5632 .f32) (w : Vec Ideal S2816x1024 .bf16) (r : Fin 256) (c : Fin 1024) :
    downB y w (ix2 r c) = lin (act gluKer (fun k => y (ix2 r k))) (fun k c => w (ix2 k c)) c := by
  have h := dot_apply (φ₁ := .bf16) (φ₂ := .bf16) (mulf (gluB (extractStridedSlice S256x2816 ![0, 0] y Facts₀.slices_S256x5632_o0_0_S256x2816))
      (extractStridedSlice S256x2816 ![0, 2816] y Facts₀.slices_S256x5632_o0_2816_S256x2816)) w r c
  refine Eq.trans ?_ (h.trans ?_)
  · unfold downB
    rw [shapeCast_id]
    rfl
  · refine congrArg (fun f => lin f _ c) (funext fun k => ?_)
    rw [mulf_apply, gluB_apply]
    unfold act
    pointwise

/-- The layer's output for a slab, at a row and a column. -/
theorem outB_apply (x2 : FVec Ideal S256x1024 .f32) (p : Vec Ideal S1x256x256 .f32) (wp : Vec Ideal S256x1024 .bf16) (g : Vec Ideal S1x1024 .f32)
    (wg : Vec Ideal S1024x1024 .bf16) (r : Fin 256) (c : Fin 1024) :
    outB x2 p wp g wg (ix3 0 r c)
      = x2 (ix2 r c) + sig (lin (rms (fun c => x2 (ix2 r c)) (fun c => g (ix2 0 c))) (fun k c => wg (ix2 k c)) c)
          * lin (fun k => p (ix3 0 r k)) (fun k c => wp (ix2 k c)) c := by
  rw [← sig_eq]
  have h := dot_apply (φ₁ := .bf16) (φ₂ := .bf16) (rmsB x2 g) wg r c
  simp only [rmsB_apply] at h
  rw [← h]
  unfold outB one lin
  rw [shapeCast_id, shapeCast_id]
  pointwise

end Cert.PostRow

end
-- ==== Proof.PostSlab.lean ====
module

public import proofs.«01_k».proof.Proof.PostBlock
public import proofs.«01_k».proof.Proof.Gen.PostIdeal.Frame
public import Idealize.ShloMosaic.Lib.Pipeline.ValueKit
public import Idealize.ShloMosaic.Lib.WritesUnit

@[expose] public section

/-!
# A slab of 256 tokens, from the residual to the output

The body runs the same operations on its two slabs of 256 tokens. Between them the rows the convolution
reads pass through a scratch of 264 rows: eight rows carried over from the slab before, then the 256
rows of the slab. Here are the slab's whole computation, the two shifted reads of the scratch, and the
equality of the body's stored values with them.
-/

set_option maxRecDepth 16384

noncomputable section

namespace Cert.PostRun

open Idealize.ShloMosaic
open Cert.PostIdeal Cert.PostIdeal.Gen
open Cert.PostRow hiding sig
open scoped BigOperators

/-- The slab one row earlier: `a` in the first row, then the slab's rows. -/
def shift1 (a : Fin 5632 → EReal) (u : FVec Ideal S256x5632 .f32) : FVec Ideal S256x5632 .f32 :=
  fun j => if (j (0 : Fin 2)).val = 0 then a (j (1 : Fin 2))
    else u (ix2 (⟨(j (0 : Fin 2)).val - 1, by have := (j (0 : Fin 2)).isLt; change _ < 256 at this; omega⟩ : Fin 256) (j (1 : Fin 2) : Fin 5632))

/-- The slab two rows earlier: `b` in the first row, `a` in the second, then the slab's rows. -/
def shift2 (b a : Fin 5632 → EReal) (u : FVec Ideal S256x5632 .f32) : FVec Ideal S256x5632 .f32 :=
  fun j => if (j (0 : Fin 2)).val = 0 then b (j (1 : Fin 2)) else if (j (0 : Fin 2)).val = 1 then a (j (1 : Fin 2))
    else u (ix2 (⟨(j (0 : Fin 2)).val - 2, by have := (j (0 : Fin 2)).isLt; change _ < 256 at this; omega⟩ : Fin 256) (j (1 : Fin 2) : Fin 5632))

/-- The scratch after a slab is stored over it, in the slab's part. -/
theorem scratch_slab (v : View sig .tc .vmem S264x5632 .f32) (f : v.ty.Contents (Elt Ideal))
    (inb : ∀ a, (![8, 0] : Fin 2 → ℕ) a + S256x5632.size a ≤ S264x5632.size a) (u : FVec Ideal S256x5632 .f32)
    (L : List (View.Piece (Elt Ideal) S264x5632 .f32)) (r : Fin 256) (k : Fin 5632) (y : S264x5632.Idx)
    (h0 : (y (0 : Fin 2)).val = 8 + r.val) (h1 : (y (1 : Fin 2)).val = k.val) :
    v.read (Elt Ideal) (v.writes (Elt Ideal) f (⟨Rect.unit (s := S264x5632) ![8, 0] S256x5632.size inb, u⟩ :: L)) y = u (ix2 r k) :=
  View.read_writes_cons_rows_of_mem v f inb u L y (ix2 r k) rfl h0 h1

/-- The scratch after a slab is stored over it, in the carried rows. -/
theorem scratch_low (v : View sig .tc .vmem S264x5632 .f32) (f : v.ty.Contents (Elt Ideal))
    (inb : ∀ a, (![8, 0] : Fin 2 → ℕ) a + S256x5632.size a ≤ S264x5632.size a) (u : FVec Ideal S256x5632 .f32)
    (L : List (View.Piece (Elt Ideal) S264x5632 .f32)) (y : S264x5632.Idx) (h0 : (y (0 : Fin 2)).val < 8) :
    v.read (Elt Ideal) (v.writes (Elt Ideal) f (⟨Rect.unit (s := S264x5632) ![8, 0] S256x5632.size inb, u⟩ :: L)) y
      = v.read (Elt Ideal) (v.writes (Elt Ideal) f L) y :=
  View.read_writes_cons_rows_of_not_mem v f inb u L y rfl rfl (.inl h0)

/-- The scratch after the carried rows are stored over it, in those rows. -/
theorem scratch_carry (v : View sig .tc .vmem S264x5632 .f32) (f : v.ty.Contents (Elt Ideal))
    (inb : ∀ a, (![0, 0] : Fin 2 → ℕ) a + S8x5632.size a ≤ S264x5632.size a) (w : FVec Ideal S8x5632 .f32)
    (L : List (View.Piece (Elt Ideal) S264x5632 .f32)) (r : Fin 8) (k : Fin 5632) (y : S264x5632.Idx)
    (h0 : (y (0 : Fin 2)).val = r.val) (h1 : (y (1 : Fin 2)).val = k.val) :
    v.read (Elt Ideal) (v.writes (Elt Ideal) f (⟨Rect.unit (s := S264x5632) ![0, 0] S8x5632.size inb, w⟩ :: L)) y = w (ix2 r k) :=
  View.read_writes_cons_rows_of_mem v f inb w L y (ix2 r k) rfl (by rw [h0]; exact (Nat.zero_add _).symm) h1

/-- A load of the scratch from row 7 on, after a slab is stored, is the slab one row earlier. -/
theorem load_shift1 (v : View sig .tc .vmem S264x5632 .f32) (f : v.ty.Contents (Elt Ideal))
    (inb : ∀ a, (![8, 0] : Fin 2 → ℕ) a + S256x5632.size a ≤ S264x5632.size a)
    (inb' : ∀ a, (![7, 0] : Fin 2 → ℕ) a + S256x5632.size a ≤ S264x5632.size a) (u : FVec Ideal S256x5632 .f32)
    (L : List (View.Piece (Elt Ideal) S264x5632 .f32)) (a : Fin 5632 → EReal)
    (ha : ∀ k, v.read (Elt Ideal) (v.writes (Elt Ideal) f L) (ix2 (⟨7, by decide⟩ : Fin 264) k) = a k) :
    View.ld (v.read (Elt Ideal) (v.writes (Elt Ideal) f (⟨Rect.unit (s := S264x5632) ![8, 0] S256x5632.size inb, u⟩ :: L)))
      (Rect.unit (s := S264x5632) ![7, 0] S256x5632.size inb') = shift1 a u := by
  funext j
  have hr : (j (0 : Fin 2)).val < 256 := (j (0 : Fin 2)).isLt
  have e0 : (((Rect.unit (s := S264x5632) ![7, 0] S256x5632.size inb').idx j) (0 : Fin 2)).val = 7 + (j (0 : Fin 2)).val := Rect.idx_unit_val _ _ _ _ _
  have e1 : (((Rect.unit (s := S264x5632) ![7, 0] S256x5632.size inb').idx j) (1 : Fin 2)).val = 0 + (j (1 : Fin 2)).val := Rect.idx_unit_val _ _ _ _ _
  rw [View.ld_apply]
  unfold shift1
  split
  · rename_i h
    refine (scratch_low v f inb u L _ (by omega)).trans (Eq.trans (congrArg _ (funext fun a => Fin.ext ?_)) (ha (j (1 : Fin 2))))
    match a with
    | ⟨0, _⟩ => exact e0.trans (by show 7 + (j (0 : Fin 2)).val = 7; omega)
    | ⟨1, _⟩ => exact e1.trans (Nat.zero_add _)
  · rename_i h
    exact scratch_slab v f inb u L ⟨(j (0 : Fin 2)).val - 1, by omega⟩ (j (1 : Fin 2)) _ (e0.trans (by show 7 + (j (0 : Fin 2)).val = 8 + ((j (0 : Fin 2)).val - 1); omega)) (e1.trans (Nat.zero_add _))

/-- A load of the scratch from row 6 on, after a slab is stored, is the slab two rows earlier. -/
theorem load_shift2 (v : View sig .tc .vmem S264x5632 .f32) (f : v.ty.Contents (Elt Ideal))
    (inb : ∀ a, (![8, 0] : Fin 2 → ℕ) a + S256x5632.size a ≤ S264x5632.size a)
    (inb' : ∀ a, (![6, 0] : Fin 2 → ℕ) a + S256x5632.size a ≤ S264x5632.size a) (u : FVec Ideal S256x5632 .f32)
    (L : List (View.Piece (Elt Ideal) S264x5632 .f32)) (b a : Fin 5632 → EReal)
    (hb : ∀ k, v.read (Elt Ideal) (v.writes (Elt Ideal) f L) (ix2 (⟨6, by decide⟩ : Fin 264) k) = b k)
    (ha : ∀ k, v.read (Elt Ideal) (v.writes (Elt Ideal) f L) (ix2 (⟨7, by decide⟩ : Fin 264) k) = a k) :
    View.ld (v.read (Elt Ideal) (v.writes (Elt Ideal) f (⟨Rect.unit (s := S264x5632) ![8, 0] S256x5632.size inb, u⟩ :: L)))
      (Rect.unit (s := S264x5632) ![6, 0] S256x5632.size inb') = shift2 b a u := by
  funext j
  have hr : (j (0 : Fin 2)).val < 256 := (j (0 : Fin 2)).isLt
  have e0 : (((Rect.unit (s := S264x5632) ![6, 0] S256x5632.size inb').idx j) (0 : Fin 2)).val = 6 + (j (0 : Fin 2)).val := Rect.idx_unit_val _ _ _ _ _
  have e1 : (((Rect.unit (s := S264x5632) ![6, 0] S256x5632.size inb').idx j) (1 : Fin 2)).val = 0 + (j (1 : Fin 2)).val := Rect.idx_unit_val _ _ _ _ _
  rw [View.ld_apply]
  unfold shift2
  split
  · rename_i h
    refine (scratch_low v f inb u L _ (by omega)).trans (Eq.trans (congrArg _ (funext fun a => Fin.ext ?_)) (hb (j (1 : Fin 2))))
    match a with
    | ⟨0, _⟩ => exact e0.trans (by show 6 + (j (0 : Fin 2)).val = 6; omega)
    | ⟨1, _⟩ => exact e1.trans (Nat.zero_add _)
  · split
    · rename_i h
      refine (scratch_low v f inb u L _ (by omega)).trans (Eq.trans (congrArg _ (funext fun a => Fin.ext ?_)) (ha (j (1 : Fin 2))))
      match a with
      | ⟨0, _⟩ => exact e0.trans (by show 6 + (j (0 : Fin 2)).val = 7; omega)
      | ⟨1, _⟩ => exact e1.trans (Nat.zero_add _)
    · rename_i h
      exact scratch_slab v f inb u L ⟨(j (0 : Fin 2)).val - 2, by omega⟩ (j (1 : Fin 2)) _ (e0.trans (by show 6 + (j (0 : Fin 2)).val = 8 + ((j (0 : Fin 2)).val - 2); omega)) (e1.trans (Nat.zero_add _))

/-- A load of the last eight rows of the scratch, after a slab is stored, at a row and a column. -/
theorem load_last (v : View sig .tc .vmem S264x5632 .f32) (f : v.ty.Contents (Elt Ideal))
    (inb : ∀ a, (![8, 0] : Fin 2 → ℕ) a + S256x5632.size a ≤ S264x5632.size a)
    (inb' : ∀ a, (![256, 0] : Fin 2 → ℕ) a + S8x5632.size a ≤ S264x5632.size a) (u : FVec Ideal S256x5632 .f32)
    (L : List (View.Piece (Elt Ideal) S264x5632 .f32)) (r : Fin 8) (k : Fin 5632) :
    View.ld (v.read (Elt Ideal) (v.writes (Elt Ideal) f (⟨Rect.unit (s := S264x5632) ![8, 0] S256x5632.size inb, u⟩ :: L)))
      (Rect.unit (s := S264x5632) ![256, 0] S8x5632.size inb') (ix2 r k) = u (ix2 (⟨248 + r.val, by omega⟩ : Fin 256) k) := by
  have e0 : (((Rect.unit (s := S264x5632) ![256, 0] S8x5632.size inb').idx (ix2 r k)) (0 : Fin 2)).val = 256 + r.val := Rect.idx_unit_val _ _ _ _ _
  have e1 : (((Rect.unit (s := S264x5632) ![256, 0] S8x5632.size inb').idx (ix2 r k)) (1 : Fin 2)).val = 0 + k.val := Rect.idx_unit_val _ _ _ _ _
  rw [View.ld_apply]
  exact scratch_slab v f inb u L _ k _ (e0.trans (by show 256 + r.val = 8 + (248 + r.val); omega)) (e1.trans (Nat.zero_add _))

/-- The residual slab after the mixers, from the slab's inputs. -/
def slabX (x : Vec Ideal S1x256x1024 .f32) (ya yb : Vec Ideal S1x256x512 .bf16) (yg : Vec Ideal S1x256x2048 .bf16)
    (wa wb : Vec Ideal S512x1024 .bf16) (wo : Vec Ideal S1024x1024 .bf16) (g : Vec Ideal S1x1024 .f32) : FVec Ideal S256x1024 .f32 :=
  afterMixB x (mixB yg ya wa yb wb wo) g

/-- The slab's output, from the residual after the mixers, the rows the convolution reads, and those rows one and two earlier. -/
def slabO (x1 : FVec Ideal S256x1024 .f32) (u0 u1 u2 : FVec Ideal S256x5632 .f32) (p : Vec Ideal S1x256x256 .f32)
    (cw : Vec Ideal S3x5632 .f32) (cb : Vec Ideal S1x5632 .f32) (wd : Vec Ideal S2816x1024 .bf16) (gd gp : Vec Ideal S1x1024 .f32)
    (wg : Vec Ideal S1024x1024 .bf16) (wp : Vec Ideal S256x1024 .bf16) : FVec Ideal S1x256x1024 .f32 :=
  outB (addf x1 (rmsB (downB (convB cw cb u0 u1 u2) wd) gd)) p wp gp wg

section Payloads

variable (x : Vec Ideal S1x256x1024 .f32) (ya yb : Vec Ideal S1x256x512 .bf16) (yg : Vec Ideal S1x256x2048 .bf16)
  (wa wb : Vec Ideal S512x1024 .bf16) (wo : Vec Ideal S1024x1024 .bf16) (g gu : Vec Ideal S1x1024 .f32) (wu : Vec Ideal S1024x5632 .bf16)
  (p : Vec Ideal S1x256x256 .f32) (cw : Vec Ideal S3x5632 .f32) (cb : Vec Ideal S1x5632 .f32) (wd : Vec Ideal S2816x1024 .bf16)
  (gd gp : Vec Ideal S1x1024 .f32) (wg : Vec Ideal S1024x1024 .bf16) (wp : Vec Ideal S256x1024 .bf16)
  (x1 : FVec Ideal S256x1024 .f32) (u0 u1 u2 : FVec Ideal S256x5632 .f32)

/-- The first slab's residual. -/
theorem pay_x_first : k0_pay6 (F := Ideal) (k0_pay2 x) (k0_pay3 yg ya wa yb wb wo) (k0_pay4 g) (k0_pay5 yg ya wa yb wb wo)
    = slabX x ya yb yg wa wb wo g := rfl
/-- The first slab's rows for the convolution, as the convolution uses them. -/
theorem pay_u_first : k0_pay7 (F := Ideal) (k0_pay2 x) (k0_pay3 yg ya wa yb wb wo) (k0_pay4 g) (k0_pay5 yg ya wa yb wb wo) gu wu
    = upB (slabX x ya yb yg wa wb wo g) gu wu := rfl
/-- The first slab's rows for the convolution, as they are stored. -/
theorem pay_u_first' : k0_pay8 (F := Ideal) (k0_pay2 x) (k0_pay3 yg ya wa yb wb wo) (k0_pay4 g) (k0_pay5 yg ya wa yb wb wo) gu wu
    = upB (slabX x ya yb yg wa wb wo g) gu wu := (shapeCast_id _ _).trans rfl
/-- The first slab's output. -/
theorem pay_o_first : k0_pay23 (F := Ideal) (k0_pay19 x1 (k0_pay12 u0 u1 cw (k0_pay9 u2 cw) (k0_pay10 cw) cb wd) gd) (k0_pay20 p wp) (k0_pay21 gp)
      (k0_pay22 x1 (k0_pay12 u0 u1 cw (k0_pay9 u2 cw) (k0_pay10 cw) cb wd) gd) wg
    = slabO x1 u0 u1 u2 p cw cb wd gd gp wg wp := rfl
/-- The second slab's residual. -/
theorem pay_x_second : k0_pay15 (F := Ideal) (k0_pay13 yg) (k0_pay14 ya) wa yb wb x wo g = slabX x ya yb yg wa wb wo g := rfl
/-- The second slab's rows for the convolution, as the convolution uses them. -/
theorem pay_u_second : k0_pay24 (F := Ideal) (k0_pay18 (k0_pay15 (k0_pay13 yg) (k0_pay14 ya) wa yb wb x wo g) (k0_pay16 gu)
      (k0_pay17 (k0_pay13 yg) (k0_pay14 ya) wa yb wb x wo g)) wu
    = upB (slabX x ya yb yg wa wb wo g) gu wu := rfl
/-- The second slab's rows for the convolution, as they are stored. -/
theorem pay_u_second' : k0_pay25 (F := Ideal) (k0_pay18 (k0_pay15 (k0_pay13 yg) (k0_pay14 ya) wa yb wb x wo g) (k0_pay16 gu)
      (k0_pay17 (k0_pay13 yg) (k0_pay14 ya) wa yb wb x wo g)) wu
    = upB (slabX x ya yb yg wa wb wo g) gu wu := (shapeCast_id _ _).trans rfl
/-- The second slab's output. -/
theorem pay_o_second : k0_pay31 (F := Ideal) x1 (k0_pay29 gd) (k0_pay30 u0 (k0_pay26 u1 u2 cw) (k0_pay27 cw) cb wd) p wp gp wg
    = slabO x1 u0 u1 u2 p cw cb wd gd gp wg wp := rfl
/-- The rows carried over are stored unchanged. -/
theorem pay_carry (w : Vec Ideal S8x5632 .f32) : k0_pay11 (F := Ideal) w = w := shapeCast_id _ _
/-- The rows carried over are stored unchanged. -/
theorem pay_carry' (w : Vec Ideal S8x5632 .f32) : k0_pay28 (F := Ideal) w = w := shapeCast_id _ _
/-- The rows before a sequence's start are zero. -/
theorem pay_zero (j : S8x5632.Idx) : k0_pay1 (F := Ideal) j = 0 := by
  have h : k0_pay1 (F := Ideal) = broadcast S8x5632 (Scalar.ofBits .f32 0x00000000#32) := shapeCast_id _ _
  rw [h]
  exact zero_eq

end Payloads

end Cert.PostRun

end
-- ==== Proof.PostRun.lean ====
module

public import proofs.«01_k».proof.Proof.PostSlab

@[expose] public section

/-!
# What one run of the body leaves

On whole staging buffers the body leaves, in the output's buffer, the outputs of the two slabs, and in the
scratch the last rows of the second slab. At a sequence's start the rows before the first slab are zero;
otherwise they are the rows the scratch held.
-/

set_option maxRecDepth 16384

noncomputable section

namespace Cert.PostRun

open Idealize.ShloMosaic Idealize.ShloMosaic.TcCoe Idealize.SL.Sem
open Cert.PostIdeal Cert.PostIdeal.Gen
open Cert.PostRow hiding sig

/-- A load of what the writes left is a read through the loaded rectangle. -/
theorem readCov_ld {s : Shape} {e : EltTy} (v : View sig .tc .vmem s e) (L : List (View.Piece (Elt Ideal) s e)) (R : Rect s) :
    v.readCov L R.toLoadRect = View.ld (v.read (Elt Ideal) (v.writes (Elt Ideal) v.junk L)) R := rfl

section

variable   (x0 : Vec Ideal S1x512x1024 .f32) (x1 : Vec Ideal S1x512x512 .bf16) (x2 : Vec Ideal S1x512x512 .bf16) (x3 : Vec Ideal S1x512x2048 .bf16) (x4 : Vec Ideal S1x512x256 .f32) (x5 : Vec Ideal S512x1024 .bf16) (x6 : Vec Ideal S512x1024 .bf16) (x7 : Vec Ideal S1024x1024 .bf16) (x8 : Vec Ideal S1x1024 .f32) (x9 : Vec Ideal S1x1024 .f32) (x10 : Vec Ideal S1024x5632 .bf16) (x11 : Vec Ideal S3x5632 .f32) (x12 : Vec Ideal S1x5632 .f32) (x13 : Vec Ideal S2816x1024 .bf16) (x14 : Vec Ideal S1x1024 .f32) (x15 : Vec Ideal S1x1024 .f32) (x16 : Vec Ideal S1024x1024 .bf16) (x17 : Vec Ideal S256x1024 .bf16)

/-- The first slab's residual after the mixers. -/
def firstX : FVec Ideal S256x1024 .f32 :=
  slabX (View.ld x0 (Rect.unit (s := S1x512x1024) ![0, 0, 0] S1x256x1024.size Facts₀.inb_S1x512x1024_S1x256x1024_0_0_0)) (View.ld x1 (Rect.unit (s := S1x512x512) ![0, 0, 0] S1x256x512.size Facts₀.inb_S1x512x512_S1x256x512_0_0_0)) (View.ld x2 (Rect.unit (s := S1x512x512) ![0, 0, 0] S1x256x512.size Facts₀.inb_S1x512x512_S1x256x512_0_0_0))
    (View.ld x3 (Rect.unit (s := S1x512x2048) ![0, 0, 0] S1x256x2048.size Facts₀.inb_S1x512x2048_S1x256x2048_0_0_0)) x5 x6 x7 x8
/-- The second slab's residual after the mixers. -/
def secondX : FVec Ideal S256x1024 .f32 :=
  slabX (View.ld x0 (Rect.unit (s := S1x512x1024) ![0, 256, 0] S1x256x1024.size Facts₀.inb_S1x512x1024_S1x256x1024_0_256_0)) (View.ld x1 (Rect.unit (s := S1x512x512) ![0, 256, 0] S1x256x512.size Facts₀.inb_S1x512x512_S1x256x512_0_256_0)) (View.ld x2 (Rect.unit (s := S1x512x512) ![0, 256, 0] S1x256x512.size Facts₀.inb_S1x512x512_S1x256x512_0_256_0))
    (View.ld x3 (Rect.unit (s := S1x512x2048) ![0, 256, 0] S1x256x2048.size Facts₀.inb_S1x512x2048_S1x256x2048_0_256_0)) x5 x6 x7 x8
/-- The first slab's rows for the convolution. -/
def firstU : FVec Ideal S256x5632 .f32 := upB (firstX x0 x1 x2 x3 x5 x6 x7 x8) x9 x10
/-- The second slab's rows for the convolution. -/
def secondU : FVec Ideal S256x5632 .f32 := upB (secondX x0 x1 x2 x3 x5 x6 x7 x8) x9 x10
/-- The first slab's output, `b` and `a` the rows two and one before it. -/
def firstO (b a : Fin 5632 → EReal) : FVec Ideal S1x256x1024 .f32 :=
  slabO (firstX x0 x1 x2 x3 x5 x6 x7 x8) (firstU x0 x1 x2 x3 x5 x6 x7 x8 x9 x10)
    (shift1 a (firstU x0 x1 x2 x3 x5 x6 x7 x8 x9 x10)) (shift2 b a (firstU x0 x1 x2 x3 x5 x6 x7 x8 x9 x10))
    (View.ld x4 (Rect.unit (s := S1x512x256) ![0, 0, 0] S1x256x256.size Facts₀.inb_S1x512x256_S1x256x256_0_0_0)) x11 x12 x13 x14 x15 x16 x17
/-- The rows of the first slab two and one before the second. -/
def lastU (r : Fin 256) : Fin 5632 → EReal := fun k => firstU x0 x1 x2 x3 x5 x6 x7 x8 x9 x10 (ix2 r k)
/-- The second slab's output. -/
def secondO : FVec Ideal S1x256x1024 .f32 :=
  slabO (secondX x0 x1 x2 x3 x5 x6 x7 x8) (secondU x0 x1 x2 x3 x5 x6 x7 x8 x9 x10)
    (shift1 (lastU x0 x1 x2 x3 x5 x6 x7 x8 x9 x10 255) (secondU x0 x1 x2 x3 x5 x6 x7 x8 x9 x10))
    (shift2 (lastU x0 x1 x2 x3 x5 x6 x7 x8 x9 x10 254) (lastU x0 x1 x2 x3 x5 x6 x7 x8 x9 x10 255) (secondU x0 x1 x2 x3 x5 x6 x7 x8 x9 x10))
    (View.ld x4 (Rect.unit (s := S1x512x256) ![0, 256, 0] S1x256x256.size Facts₀.inb_S1x512x256_S1x256x256_0_256_0)) x11 x12 x13 x14 x15 x16 x17
/-- The two slabs' outputs in one block. -/
def bothO (b a : Fin 5632 → EReal) : Vec Ideal S1x512x1024 .f32 :=
  View.canon [⟨Rect.unit (s := S1x512x1024) ![0, 256, 0] S1x256x1024.size Facts₀.inb_S1x512x1024_S1x256x1024_0_256_0, secondO x0 x1 x2 x3 x4 x5 x6 x7 x8 x9 x10 x11 x12 x13 x14 x15 x16 x17⟩,
    ⟨Rect.unit (s := S1x512x1024) ![0, 0, 0] S1x256x1024.size Facts₀.inb_S1x512x1024_S1x256x1024_0_0_0, firstO x0 x1 x2 x3 x4 x5 x6 x7 x8 x9 x10 x11 x12 x13 x14 x15 x16 x17 b a⟩]

/-- The block of the two slabs' outputs, the shifted rows known by equations. -/
theorem bothO_of (b a : Fin 5632 → EReal) (v1 v2 w1 w2 : FVec Ideal S256x5632 .f32)
    (h1 : v1 = shift1 a (firstU x0 x1 x2 x3 x5 x6 x7 x8 x9 x10)) (h2 : v2 = shift2 b a (firstU x0 x1 x2 x3 x5 x6 x7 x8 x9 x10))
    (h3 : w1 = shift1 (lastU x0 x1 x2 x3 x5 x6 x7 x8 x9 x10 255) (secondU x0 x1 x2 x3 x5 x6 x7 x8 x9 x10))
    (h4 : w2 = shift2 (lastU x0 x1 x2 x3 x5 x6 x7 x8 x9 x10 254) (lastU x0 x1 x2 x3 x5 x6 x7 x8 x9 x10 255) (secondU x0 x1 x2 x3 x5 x6 x7 x8 x9 x10)) :
    View.canon (Val := Elt Ideal) (s := S1x512x1024) (e := .f32)
      [⟨Rect.unit (s := S1x512x1024) ![0, 256, 0] S1x256x1024.size Facts₀.inb_S1x512x1024_S1x256x1024_0_256_0,
        slabO (secondX x0 x1 x2 x3 x5 x6 x7 x8) (secondU x0 x1 x2 x3 x5 x6 x7 x8 x9 x10) w1 w2 (View.ld x4 (Rect.unit (s := S1x512x256) ![0, 256, 0] S1x256x256.size Facts₀.inb_S1x512x256_S1x256x256_0_256_0)) x11 x12 x13 x14 x15 x16 x17⟩,
      ⟨Rect.unit (s := S1x512x1024) ![0, 0, 0] S1x256x1024.size Facts₀.inb_S1x512x1024_S1x256x1024_0_0_0,
        slabO (firstX x0 x1 x2 x3 x5 x6 x7 x8) (firstU x0 x1 x2 x3 x5 x6 x7 x8 x9 x10) v1 v2 (View.ld x4 (Rect.unit (s := S1x512x256) ![0, 0, 0] S1x256x256.size Facts₀.inb_S1x512x256_S1x256x256_0_0_0)) x11 x12 x13 x14 x15 x16 x17⟩]
      = bothO x0 x1 x2 x3 x4 x5 x6 x7 x8 x9 x10 x11 x12 x13 x14 x15 x16 x17 b a := by
  subst h1; subst h2; subst h3; subst h4
  rfl

end

variable (c : Dev nD) (i : grid0.Coords)
  (arg2 : Memref sig .tc .vmem S1x512x1024 .f32) (harg2 : arg2.IsWhole)
  (arg3 : Memref sig .tc .vmem S1x512x512 .bf16) (harg3 : arg3.IsWhole)
  (arg4 : Memref sig .tc .vmem S1x512x512 .bf16) (harg4 : arg4.IsWhole)
  (arg5 : Memref sig .tc .vmem S1x512x2048 .bf16) (harg5 : arg5.IsWhole)
  (arg6 : Memref sig .tc .vmem S1x512x256 .f32) (harg6 : arg6.IsWhole)
  (arg7 : Memref sig .tc .vmem S512x1024 .bf16) (harg7 : arg7.IsWhole)
  (arg8 : Memref sig .tc .vmem S512x1024 .bf16) (harg8 : arg8.IsWhole)
  (arg9 : Memref sig .tc .vmem S1024x1024 .bf16) (harg9 : arg9.IsWhole)
  (arg10 : Memref sig .tc .vmem S1x1024 .f32) (harg10 : arg10.IsWhole)
  (arg11 : Memref sig .tc .vmem S1x1024 .f32) (harg11 : arg11.IsWhole)
  (arg12 : Memref sig .tc .vmem S1024x5632 .bf16) (harg12 : arg12.IsWhole)
  (arg13 : Memref sig .tc .vmem S3x5632 .f32) (harg13 : arg13.IsWhole)
  (arg14 : Memref sig .tc .vmem S1x5632 .f32) (harg14 : arg14.IsWhole)
  (arg15 : Memref sig .tc .vmem S2816x1024 .bf16) (harg15 : arg15.IsWhole)
  (arg16 : Memref sig .tc .vmem S1x1024 .f32) (harg16 : arg16.IsWhole)
  (arg17 : Memref sig .tc .vmem S1x1024 .f32) (harg17 : arg17.IsWhole)
  (arg18 : Memref sig .tc .vmem S1024x1024 .bf16) (harg18 : arg18.IsWhole)
  (arg19 : Memref sig .tc .vmem S256x1024 .bf16) (harg19 : arg19.IsWhole)
  (arg20 : Memref sig .tc .vmem S1x512x1024 .f32) (harg20 : arg20.IsWhole)
  (arg21 : Memref sig .tc .vmem S264x5632 .f32) (harg21 : arg21.IsWhole)

  (x0 : Vec Ideal S1x512x1024 .f32) (x1 : Vec Ideal S1x512x512 .bf16) (x2 : Vec Ideal S1x512x512 .bf16) (x3 : Vec Ideal S1x512x2048 .bf16) (x4 : Vec Ideal S1x512x256 .f32) (x5 : Vec Ideal S512x1024 .bf16) (x6 : Vec Ideal S512x1024 .bf16) (x7 : Vec Ideal S1024x1024 .bf16) (x8 : Vec Ideal S1x1024 .f32) (x9 : Vec Ideal S1x1024 .f32) (x10 : Vec Ideal S1024x5632 .bf16) (x11 : Vec Ideal S3x5632 .f32) (x12 : Vec Ideal S1x5632 .f32) (x13 : Vec Ideal S2816x1024 .bf16) (x14 : Vec Ideal S1x1024 .f32) (x15 : Vec Ideal S1x1024 .f32) (x16 : Vec Ideal S1024x1024 .bf16) (x17 : Vec Ideal S256x1024 .bf16)

/-- What the body leaves in the output's buffer when it carries rows on. -/
theorem out_run (hc0 : ¬ cond0_0 i) (xs0 : Vec Ideal S264x5632 .f32) : out0_B_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16 x17 xs0
    = bothO x0 x1 x2 x3 x4 x5 x6 x7 x8 x9 x10 x11 x12 x13 x14 x15 x16 x17 (fun k => xs0 (ix2 (⟨6, by decide⟩ : Fin 264) k)) (fun k => xs0 (ix2 (⟨7, by decide⟩ : Fin 264) k)) := by
  unfold out0_B_18
  rw [View.read_writes_eq_canon _ _ _ (cover0_B_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16 x17 xs0)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
  have e5 : View.ld x5 (Rect.unit (s := S512x1024) ![0, 0] S512x1024.size Facts₀.inb_S512x1024_S512x1024_0_0) = x5 := View.ld_unit_lit _ x5 (by decide)
  have e6 : View.ld x6 (Rect.unit (s := S512x1024) ![0, 0] S512x1024.size Facts₀.inb_S512x1024_S512x1024_0_0) = x6 := View.ld_unit_lit _ x6 (by decide)
  have e7 : View.ld x7 (Rect.unit (s := S1024x1024) ![0, 0] S1024x1024.size Facts₀.inb_S1024x1024_S1024x1024_0_0) = x7 := View.ld_unit_lit _ x7 (by decide)
  have e8 : View.ld x8 (Rect.unit (s := S1x1024) ![0, 0] S1x1024.size Facts₀.inb_S1x1024_S1x1024_0_0) = x8 := View.ld_unit_lit _ x8 (by decide)
  have e9 : View.ld x9 (Rect.unit (s := S1x1024) ![0, 0] S1x1024.size Facts₀.inb_S1x1024_S1x1024_0_0) = x9 := View.ld_unit_lit _ x9 (by decide)
  have e10 : View.ld x10 (Rect.unit (s := S1024x5632) ![0, 0] S1024x5632.size Facts₀.inb_S1024x5632_S1024x5632_0_0) = x10 := View.ld_unit_lit _ x10 (by decide)
  have e11 : View.ld x11 (Rect.unit (s := S3x5632) ![0, 0] S3x5632.size Facts₀.inb_S3x5632_S3x5632_0_0) = x11 := View.ld_unit_lit _ x11 (by decide)
  have e12 : View.ld x12 (Rect.unit (s := S1x5632) ![0, 0] S1x5632.size Facts₀.inb_S1x5632_S1x5632_0_0) = x12 := View.ld_unit_lit _ x12 (by decide)
  have e13 : View.ld x13 (Rect.unit (s := S2816x1024) ![0, 0] S2816x1024.size Facts₀.inb_S2816x1024_S2816x1024_0_0) = x13 := View.ld_unit_lit _ x13 (by decide)
  have e14 : View.ld x14 (Rect.unit (s := S1x1024) ![0, 0] S1x1024.size Facts₀.inb_S1x1024_S1x1024_0_0) = x14 := View.ld_unit_lit _ x14 (by decide)
  have e15 : View.ld x15 (Rect.unit (s := S1x1024) ![0, 0] S1x1024.size Facts₀.inb_S1x1024_S1x1024_0_0) = x15 := View.ld_unit_lit _ x15 (by decide)
  have e16 : View.ld x16 (Rect.unit (s := S1024x1024) ![0, 0] S1024x1024.size Facts₀.inb_S1024x1024_S1024x1024_0_0) = x16 := View.ld_unit_lit _ x16 (by decide)
  have e17 : View.ld x17 (Rect.unit (s := S256x1024) ![0, 0] S256x1024.size Facts₀.inb_S256x1024_S256x1024_0_0) = x17 := View.ld_unit_lit _ x17 (by decide)
  simp only [e5, e6, e7, e8, e9, e10, e11, e12, e13, e14, e15, e16, e17]
  simp only [pay_u_first, pay_u_first', pay_u_second, pay_u_second', pay_carry, pay_carry']
  simp only [pay_x_first, pay_x_second, readCov_ld]
  simp only [pay_o_first, pay_o_second]
  exact bothO_of x0 x1 x2 x3 x4 x5 x6 x7 x8 x9 x10 x11 x12 x13 x14 x15 x16 x17 _ _ _ _ _ _
    (load_shift1 _ _ _ _ _ [] _ (fun k => congrFun (harg21.read_unread xs0) _))
    (load_shift2 _ _ _ _ _ [] _ _ (fun k => congrFun (harg21.read_unread xs0) _) (fun k => congrFun (harg21.read_unread xs0) _))
    (load_shift1 _ _ _ _ _ _ _ (fun k => (scratch_carry _ _ _ _ _ 7 k _ rfl rfl).trans (load_last _ _ _ _ _ _ 7 k)))
    (load_shift2 _ _ _ _ _ _ _ _ (fun k => (scratch_carry _ _ _ _ _ 6 k _ rfl rfl).trans (load_last _ _ _ _ _ _ 6 k))
      (fun k => (scratch_carry _ _ _ _ _ 7 k _ rfl rfl).trans (load_last _ _ _ _ _ _ 7 k)))

/-- What the body leaves in the output's buffer at a sequence's start. -/
theorem out_run_start (hc0 : cond0_0 i) : out0_A_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16 x17
    = bothO x0 x1 x2 x3 x4 x5 x6 x7 x8 x9 x10 x11 x12 x13 x14 x15 x16 x17 (fun _ => 0) (fun _ => 0) := by
  unfold out0_A_18
  rw [View.read_writes_eq_canon _ _ _ (cover0_A_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16 x17)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
  have e5 : View.ld x5 (Rect.unit (s := S512x1024) ![0, 0] S512x1024.size Facts₀.inb_S512x1024_S512x1024_0_0) = x5 := View.ld_unit_lit _ x5 (by decide)
  have e6 : View.ld x6 (Rect.unit (s := S512x1024) ![0, 0] S512x1024.size Facts₀.inb_S512x1024_S512x1024_0_0) = x6 := View.ld_unit_lit _ x6 (by decide)
  have e7 : View.ld x7 (Rect.unit (s := S1024x1024) ![0, 0] S1024x1024.size Facts₀.inb_S1024x1024_S1024x1024_0_0) = x7 := View.ld_unit_lit _ x7 (by decide)
  have e8 : View.ld x8 (Rect.unit (s := S1x1024) ![0, 0] S1x1024.size Facts₀.inb_S1x1024_S1x1024_0_0) = x8 := View.ld_unit_lit _ x8 (by decide)
  have e9 : View.ld x9 (Rect.unit (s := S1x1024) ![0, 0] S1x1024.size Facts₀.inb_S1x1024_S1x1024_0_0) = x9 := View.ld_unit_lit _ x9 (by decide)
  have e10 : View.ld x10 (Rect.unit (s := S1024x5632) ![0, 0] S1024x5632.size Facts₀.inb_S1024x5632_S1024x5632_0_0) = x10 := View.ld_unit_lit _ x10 (by decide)
  have e11 : View.ld x11 (Rect.unit (s := S3x5632) ![0, 0] S3x5632.size Facts₀.inb_S3x5632_S3x5632_0_0) = x11 := View.ld_unit_lit _ x11 (by decide)
  have e12 : View.ld x12 (Rect.unit (s := S1x5632) ![0, 0] S1x5632.size Facts₀.inb_S1x5632_S1x5632_0_0) = x12 := View.ld_unit_lit _ x12 (by decide)
  have e13 : View.ld x13 (Rect.unit (s := S2816x1024) ![0, 0] S2816x1024.size Facts₀.inb_S2816x1024_S2816x1024_0_0) = x13 := View.ld_unit_lit _ x13 (by decide)
  have e14 : View.ld x14 (Rect.unit (s := S1x1024) ![0, 0] S1x1024.size Facts₀.inb_S1x1024_S1x1024_0_0) = x14 := View.ld_unit_lit _ x14 (by decide)
  have e15 : View.ld x15 (Rect.unit (s := S1x1024) ![0, 0] S1x1024.size Facts₀.inb_S1x1024_S1x1024_0_0) = x15 := View.ld_unit_lit _ x15 (by decide)
  have e16 : View.ld x16 (Rect.unit (s := S1024x1024) ![0, 0] S1024x1024.size Facts₀.inb_S1024x1024_S1024x1024_0_0) = x16 := View.ld_unit_lit _ x16 (by decide)
  have e17 : View.ld x17 (Rect.unit (s := S256x1024) ![0, 0] S256x1024.size Facts₀.inb_S256x1024_S256x1024_0_0) = x17 := View.ld_unit_lit _ x17 (by decide)
  simp only [e5, e6, e7, e8, e9, e10, e11, e12, e13, e14, e15, e16, e17]
  simp only [pay_u_first, pay_u_first', pay_u_second, pay_u_second', pay_carry, pay_carry']
  simp only [pay_x_first, pay_x_second, readCov_ld]
  simp only [pay_o_first, pay_o_second]
  exact bothO_of x0 x1 x2 x3 x4 x5 x6 x7 x8 x9 x10 x11 x12 x13 x14 x15 x16 x17 _ _ _ _ _ _
    (load_shift1 _ _ _ _ _ _ _ (fun k => (scratch_carry _ _ _ _ _ 7 k _ rfl rfl).trans (pay_zero _)))
    (load_shift2 _ _ _ _ _ _ _ _ (fun k => (scratch_carry _ _ _ _ _ 6 k _ rfl rfl).trans (pay_zero _))
      (fun k => (scratch_carry _ _ _ _ _ 7 k _ rfl rfl).trans (pay_zero _)))
    (load_shift1 _ _ _ _ _ _ _ (fun k => (scratch_carry _ _ _ _ _ 7 k _ rfl rfl).trans (load_last _ _ _ _ _ _ 7 k)))
    (load_shift2 _ _ _ _ _ _ _ _ (fun k => (scratch_carry _ _ _ _ _ 6 k _ rfl rfl).trans (load_last _ _ _ _ _ _ 6 k))
      (fun k => (scratch_carry _ _ _ _ _ 7 k _ rfl rfl).trans (load_last _ _ _ _ _ _ 7 k)))

/-- The carried rows the body leaves in the scratch when it carries rows on. -/
theorem carry_run (hc0 : ¬ cond0_0 i) (xs0 : Vec Ideal S264x5632 .f32) (r : Fin 8) (k : Fin 5632) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16 x17 xs0 (ix2 (⟨r.val, by omega⟩ : Fin 264) k)
      = secondU x0 x1 x2 x3 x5 x6 x7 x8 x9 x10 (ix2 (⟨248 + r.val, by omega⟩ : Fin 256) k) := by
  unfold sout0_B_0
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
  have e5 : View.ld x5 (Rect.unit (s := S512x1024) ![0, 0] S512x1024.size Facts₀.inb_S512x1024_S512x1024_0_0) = x5 := View.ld_unit_lit _ x5 (by decide)
  have e6 : View.ld x6 (Rect.unit (s := S512x1024) ![0, 0] S512x1024.size Facts₀.inb_S512x1024_S512x1024_0_0) = x6 := View.ld_unit_lit _ x6 (by decide)
  have e7 : View.ld x7 (Rect.unit (s := S1024x1024) ![0, 0] S1024x1024.size Facts₀.inb_S1024x1024_S1024x1024_0_0) = x7 := View.ld_unit_lit _ x7 (by decide)
  have e8 : View.ld x8 (Rect.unit (s := S1x1024) ![0, 0] S1x1024.size Facts₀.inb_S1x1024_S1x1024_0_0) = x8 := View.ld_unit_lit _ x8 (by decide)
  have e9 : View.ld x9 (Rect.unit (s := S1x1024) ![0, 0] S1x1024.size Facts₀.inb_S1x1024_S1x1024_0_0) = x9 := View.ld_unit_lit _ x9 (by decide)
  have e10 : View.ld x10 (Rect.unit (s := S1024x5632) ![0, 0] S1024x5632.size Facts₀.inb_S1024x5632_S1024x5632_0_0) = x10 := View.ld_unit_lit _ x10 (by decide)
  have e11 : View.ld x11 (Rect.unit (s := S3x5632) ![0, 0] S3x5632.size Facts₀.inb_S3x5632_S3x5632_0_0) = x11 := View.ld_unit_lit _ x11 (by decide)
  have e12 : View.ld x12 (Rect.unit (s := S1x5632) ![0, 0] S1x5632.size Facts₀.inb_S1x5632_S1x5632_0_0) = x12 := View.ld_unit_lit _ x12 (by decide)
  have e13 : View.ld x13 (Rect.unit (s := S2816x1024) ![0, 0] S2816x1024.size Facts₀.inb_S2816x1024_S2816x1024_0_0) = x13 := View.ld_unit_lit _ x13 (by decide)
  have e14 : View.ld x14 (Rect.unit (s := S1x1024) ![0, 0] S1x1024.size Facts₀.inb_S1x1024_S1x1024_0_0) = x14 := View.ld_unit_lit _ x14 (by decide)
  have e15 : View.ld x15 (Rect.unit (s := S1x1024) ![0, 0] S1x1024.size Facts₀.inb_S1x1024_S1x1024_0_0) = x15 := View.ld_unit_lit _ x15 (by decide)
  have e16 : View.ld x16 (Rect.unit (s := S1024x1024) ![0, 0] S1024x1024.size Facts₀.inb_S1024x1024_S1024x1024_0_0) = x16 := View.ld_unit_lit _ x16 (by decide)
  have e17 : View.ld x17 (Rect.unit (s := S256x1024) ![0, 0] S256x1024.size Facts₀.inb_S256x1024_S256x1024_0_0) = x17 := View.ld_unit_lit _ x17 (by decide)
  simp only [e5, e6, e7, e8, e9, e10, e11, e12, e13, e14, e15, e16, e17]
  simp only [pay_u_first, pay_u_first', pay_u_second, pay_u_second', pay_carry, pay_carry']
  simp only [pay_x_first, pay_x_second, readCov_ld]
  exact (scratch_carry _ _ _ _ _ r k _ rfl rfl).trans (load_last _ _ _ _ _ _ r k)

/-- The carried rows the body leaves in the scratch at a sequence's start. -/
theorem carry_run_start (hc0 : cond0_0 i) (r : Fin 8) (k : Fin 5632) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16 x17 (ix2 (⟨r.val, by omega⟩ : Fin 264) k)
      = secondU x0 x1 x2 x3 x5 x6 x7 x8 x9 x10 (ix2 (⟨248 + r.val, by omega⟩ : Fin 256) k) := by
  unfold sout0_A_0
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
  have e5 : View.ld x5 (Rect.unit (s := S512x1024) ![0, 0] S512x1024.size Facts₀.inb_S512x1024_S512x1024_0_0) = x5 := View.ld_unit_lit _ x5 (by decide)
  have e6 : View.ld x6 (Rect.unit (s := S512x1024) ![0, 0] S512x1024.size Facts₀.inb_S512x1024_S512x1024_0_0) = x6 := View.ld_unit_lit _ x6 (by decide)
  have e7 : View.ld x7 (Rect.unit (s := S1024x1024) ![0, 0] S1024x1024.size Facts₀.inb_S1024x1024_S1024x1024_0_0) = x7 := View.ld_unit_lit _ x7 (by decide)
  have e8 : View.ld x8 (Rect.unit (s := S1x1024) ![0, 0] S1x1024.size Facts₀.inb_S1x1024_S1x1024_0_0) = x8 := View.ld_unit_lit _ x8 (by decide)
  have e9 : View.ld x9 (Rect.unit (s := S1x1024) ![0, 0] S1x1024.size Facts₀.inb_S1x1024_S1x1024_0_0) = x9 := View.ld_unit_lit _ x9 (by decide)
  have e10 : View.ld x10 (Rect.unit (s := S1024x5632) ![0, 0] S1024x5632.size Facts₀.inb_S1024x5632_S1024x5632_0_0) = x10 := View.ld_unit_lit _ x10 (by decide)
  have e11 : View.ld x11 (Rect.unit (s := S3x5632) ![0, 0] S3x5632.size Facts₀.inb_S3x5632_S3x5632_0_0) = x11 := View.ld_unit_lit _ x11 (by decide)
  have e12 : View.ld x12 (Rect.unit (s := S1x5632) ![0, 0] S1x5632.size Facts₀.inb_S1x5632_S1x5632_0_0) = x12 := View.ld_unit_lit _ x12 (by decide)
  have e13 : View.ld x13 (Rect.unit (s := S2816x1024) ![0, 0] S2816x1024.size Facts₀.inb_S2816x1024_S2816x1024_0_0) = x13 := View.ld_unit_lit _ x13 (by decide)
  have e14 : View.ld x14 (Rect.unit (s := S1x1024) ![0, 0] S1x1024.size Facts₀.inb_S1x1024_S1x1024_0_0) = x14 := View.ld_unit_lit _ x14 (by decide)
  have e15 : View.ld x15 (Rect.unit (s := S1x1024) ![0, 0] S1x1024.size Facts₀.inb_S1x1024_S1x1024_0_0) = x15 := View.ld_unit_lit _ x15 (by decide)
  have e16 : View.ld x16 (Rect.unit (s := S1024x1024) ![0, 0] S1024x1024.size Facts₀.inb_S1024x1024_S1024x1024_0_0) = x16 := View.ld_unit_lit _ x16 (by decide)
  have e17 : View.ld x17 (Rect.unit (s := S256x1024) ![0, 0] S256x1024.size Facts₀.inb_S256x1024_S256x1024_0_0) = x17 := View.ld_unit_lit _ x17 (by decide)
  simp only [e5, e6, e7, e8, e9, e10, e11, e12, e13, e14, e15, e16, e17]
  simp only [pay_u_first, pay_u_first', pay_u_second, pay_u_second', pay_carry, pay_carry']
  simp only [pay_x_first, pay_x_second, readCov_ld]
  exact (scratch_carry _ _ _ _ _ r k _ rfl rfl).trans (load_last _ _ _ _ _ _ r k)

end Cert.PostRun

end
-- ==== Proof.PostRows.lean ====
module

public import proofs.«01_k».proof.Proof.PostRun

@[expose] public section

/-!
# One run of the body, row by row

The block the body leaves holds, in each of its 512 rows, the closing block's output row of that token, and the
scratch holds the last rows the convolution read.
-/

set_option maxRecDepth 16384

noncomputable section

namespace Cert.PostRun

open Idealize.ShloMosaic
open Cert.PostIdeal Cert.PostIdeal.Gen
open Cert.PostRow hiding sig

/-- The weights as the body's blocks hold them. -/
def blockWeights (x5 : Vec Ideal S512x1024 .bf16) (x6 : Vec Ideal S512x1024 .bf16) (x7 : Vec Ideal S1024x1024 .bf16) (x8 : Vec Ideal S1x1024 .f32) (x9 : Vec Ideal S1x1024 .f32) (x10 : Vec Ideal S1024x5632 .bf16) (x11 : Vec Ideal S3x5632 .f32) (x12 : Vec Ideal S1x5632 .f32) (x13 : Vec Ideal S2816x1024 .bf16) (x14 : Vec Ideal S1x1024 .f32) (x15 : Vec Ideal S1x1024 .f32) (x16 : Vec Ideal S1024x1024 .bf16) (x17 : Vec Ideal S256x1024 .bf16) : Weights where
  wa k c := x5 (ix2 k c)
  wb k c := x6 (ix2 k c)
  wout k c := x7 (ix2 k c)
  gpost c := x8 (ix2 0 c)
  gmlp c := x9 (ix2 0 c)
  wup k c := x10 (ix2 k c)
  cw i k := x11 (ix2 i k)
  cb k := x12 (ix2 0 k)
  wdown k c := x13 (ix2 k c)
  gmlppost c := x14 (ix2 0 c)
  gple c := x15 (ix2 0 c)
  wpleg k c := x16 (ix2 k c)
  wple k c := x17 (ix2 k c)

/-- The token of a row of the block. -/
def blockToken (x0 : Vec Ideal S1x512x1024 .f32) (x1 : Vec Ideal S1x512x512 .bf16) (x2 : Vec Ideal S1x512x512 .bf16) (x3 : Vec Ideal S1x512x2048 .bf16) (x4 : Vec Ideal S1x512x256 .f32) (r : Fin 512) : Token where
  x c := x0 (ix3 0 r c)
  ya k := x1 (ix3 0 r k)
  yb k := x2 (ix3 0 r k)
  gates k := x3 (ix3 0 r k)
  p k := x4 (ix3 0 r k)

/-- The rows the convolution reads one token before row `r`: `a` before the first. -/
def back1 (a : Fin 5632 → EReal) (u : Fin 512 → Fin 5632 → EReal) (r : Fin 512) : Fin 5632 → EReal :=
  if r.val = 0 then a else u ⟨r.val - 1, by omega⟩
/-- The rows the convolution reads two tokens before row `r`: `b` before the first, `a` before the second. -/
def back2 (b a : Fin 5632 → EReal) (u : Fin 512 → Fin 5632 → EReal) (r : Fin 512) : Fin 5632 → EReal :=
  if r.val = 0 then b else if r.val = 1 then a else u ⟨r.val - 2, by omega⟩

/-- The slab one row earlier, at a row and a column. -/
theorem shift1_apply (a : Fin 5632 → EReal) (u : FVec Ideal S256x5632 .f32) (r : Fin 256) (k : Fin 5632) :
    shift1 a u (ix2 r k) = if r.val = 0 then a k else u (ix2 (⟨r.val - 1, by omega⟩ : Fin 256) k) := rfl
/-- The slab two rows earlier, at a row and a column. -/
theorem shift2_apply (b a : Fin 5632 → EReal) (u : FVec Ideal S256x5632 .f32) (r : Fin 256) (k : Fin 5632) :
    shift2 b a u (ix2 r k) = if r.val = 0 then b k else if r.val = 1 then a k else u (ix2 (⟨r.val - 2, by omega⟩ : Fin 256) k) := rfl

/-- Past the first row the row before is one of the block's. -/
theorem back1_later (a : Fin 5632 → EReal) (u : Fin 512 → Fin 5632 → EReal) (r : Fin 512) (h : ¬ r.val = 0) :
    back1 a u r = u ⟨r.val - 1, by omega⟩ := if_neg h
/-- Past the second row the row two before is one of the block's. -/
theorem back2_later (b a : Fin 5632 → EReal) (u : Fin 512 → Fin 5632 → EReal) (r : Fin 512) (h : ¬ r.val = 0) (h' : ¬ r.val = 1) :
    back2 b a u r = u ⟨r.val - 2, by omega⟩ := (if_neg h).trans (if_neg h')

/-- A load of a slab of a block with three axes, at a row and a column. -/
theorem ld_slab {A C n : ℕ} {e : EltTy} (X : Vec Ideal ⟨3, ![1, A, C]⟩ e) (o : ℕ)
    (inb : ∀ a, (![0, o, 0] : Fin 3 → ℕ) a + (![1, n, C] : Fin 3 → ℕ) a ≤ (⟨3, ![1, A, C]⟩ : Shape).size a) (r : Fin n) (c : Fin C) (h : o + r.val < A) :
    View.ld X (Rect.unit (s := ⟨3, ![1, A, C]⟩) ![0, o, 0] ![1, n, C] inb) (ix3 0 r c) = X (ix3 0 ⟨o + r.val, h⟩ c) := by
  refine View.ld_unit_apply_of X _ _ inb _ _ fun a => ?_
  match a with
  | ⟨0, _⟩ => rfl
  | ⟨1, _⟩ => rfl
  | ⟨2, _⟩ => exact (Nat.zero_add _).symm

/-- The slab's residual, at a row and a column. -/
theorem slabX_apply (x : Vec Ideal S1x256x1024 .f32) (ya yb : Vec Ideal S1x256x512 .bf16) (yg : Vec Ideal S1x256x2048 .bf16)
    (p : Fin 256 → EReal) (x5 : Vec Ideal S512x1024 .bf16) (x6 : Vec Ideal S512x1024 .bf16) (x7 : Vec Ideal S1024x1024 .bf16) (x8 : Vec Ideal S1x1024 .f32) (x9 : Vec Ideal S1x1024 .f32) (x10 : Vec Ideal S1024x5632 .bf16) (x11 : Vec Ideal S3x5632 .f32) (x12 : Vec Ideal S1x5632 .f32) (x13 : Vec Ideal S2816x1024 .bf16) (x14 : Vec Ideal S1x1024 .f32) (x15 : Vec Ideal S1x1024 .f32) (x16 : Vec Ideal S1024x1024 .bf16) (x17 : Vec Ideal S256x1024 .bf16) (r : Fin 256) (c : Fin 1024) :
    slabX x ya yb yg x5 x6 x7 x8 (ix2 r c)
      = afterMix (blockWeights x5 x6 x7 x8 x9 x10 x11 x12 x13 x14 x15 x16 x17)
          ⟨fun c => x (ix3 0 r c), fun k => ya (ix3 0 r k), fun k => yb (ix3 0 r k), fun k => yg (ix3 0 r k), p⟩ c := by
  unfold slabX
  rw [afterMixB_apply]
  simp only [mixB_apply]
  rfl

section

variable   (x0 : Vec Ideal S1x512x1024 .f32) (x1 : Vec Ideal S1x512x512 .bf16) (x2 : Vec Ideal S1x512x512 .bf16) (x3 : Vec Ideal S1x512x2048 .bf16) (x4 : Vec Ideal S1x512x256 .f32) (x5 : Vec Ideal S512x1024 .bf16) (x6 : Vec Ideal S512x1024 .bf16) (x7 : Vec Ideal S1024x1024 .bf16) (x8 : Vec Ideal S1x1024 .f32) (x9 : Vec Ideal S1x1024 .f32) (x10 : Vec Ideal S1024x5632 .bf16) (x11 : Vec Ideal S3x5632 .f32) (x12 : Vec Ideal S1x5632 .f32) (x13 : Vec Ideal S2816x1024 .bf16) (x14 : Vec Ideal S1x1024 .f32) (x15 : Vec Ideal S1x1024 .f32) (x16 : Vec Ideal S1024x1024 .bf16) (x17 : Vec Ideal S256x1024 .bf16)

/-- The first slab's residual, at a row. -/
theorem firstX_apply (r : Fin 256) (c : Fin 1024) : firstX x0 x1 x2 x3 x5 x6 x7 x8 (ix2 r c)
    = afterMix (blockWeights x5 x6 x7 x8 x9 x10 x11 x12 x13 x14 x15 x16 x17) (blockToken x0 x1 x2 x3 x4 ⟨r.val, by omega⟩) c := by
  refine (slabX_apply _ _ _ _ (fun k => x4 (ix3 0 (⟨r.val, by omega⟩ : Fin 512) k)) x5 x6 x7 x8 x9 x10 x11 x12 x13 x14 x15 x16 x17 r c).trans (congrArg (fun T => afterMix _ T c) ?_)
  have e : (⟨0 + r.val, by omega⟩ : Fin 512) = ⟨r.val, by omega⟩ := Fin.ext (Nat.zero_add _)
  unfold blockToken
  rw [← e]
  congr 1 <;> (funext k; exact ld_slab _ 0 _ r k (by omega))

/-- The second slab's residual, at a row. -/
theorem secondX_apply (r : Fin 256) (c : Fin 1024) : secondX x0 x1 x2 x3 x5 x6 x7 x8 (ix2 r c)
    = afterMix (blockWeights x5 x6 x7 x8 x9 x10 x11 x12 x13 x14 x15 x16 x17) (blockToken x0 x1 x2 x3 x4 ⟨256 + r.val, by omega⟩) c := by
  refine (slabX_apply _ _ _ _ (fun k => x4 (ix3 0 (⟨256 + r.val, by omega⟩ : Fin 512) k)) x5 x6 x7 x8 x9 x10 x11 x12 x13 x14 x15 x16 x17 r c).trans (congrArg (fun T => afterMix _ T c) ?_)
  unfold blockToken
  congr 1 <;> (funext k; exact ld_slab _ 256 _ r k (by omega))

/-- The first slab's rows for the convolution. -/
theorem firstU_apply (r : Fin 256) (k : Fin 5632) : firstU x0 x1 x2 x3 x5 x6 x7 x8 x9 x10 (ix2 r k)
    = up (blockWeights x5 x6 x7 x8 x9 x10 x11 x12 x13 x14 x15 x16 x17) (blockToken x0 x1 x2 x3 x4 ⟨r.val, by omega⟩) k := by
  unfold firstU
  rw [upB_apply]
  simp only [firstX_apply x0 x1 x2 x3 x4 x5 x6 x7 x8 x9 x10 x11 x12 x13 x14 x15 x16 x17]
  rfl

/-- The second slab's rows for the convolution. -/
theorem secondU_apply (r : Fin 256) (k : Fin 5632) : secondU x0 x1 x2 x3 x5 x6 x7 x8 x9 x10 (ix2 r k)
    = up (blockWeights x5 x6 x7 x8 x9 x10 x11 x12 x13 x14 x15 x16 x17) (blockToken x0 x1 x2 x3 x4 ⟨256 + r.val, by omega⟩) k := by
  unfold secondU
  rw [upB_apply]
  simp only [secondX_apply x0 x1 x2 x3 x4 x5 x6 x7 x8 x9 x10 x11 x12 x13 x14 x15 x16 x17]
  rfl

/-- A slab's output at a row, its residual and its rows for the convolution known there. -/
theorem slabO_apply (X : FVec Ideal S256x1024 .f32) (u0 u1 u2 : FVec Ideal S256x5632 .f32) (p : Vec Ideal S1x256x256 .f32) (T : Token) (r : Fin 256)
    (hX : ∀ c, X (ix2 r c) = afterMix (blockWeights x5 x6 x7 x8 x9 x10 x11 x12 x13 x14 x15 x16 x17) T c) (v0 v1 v2 : Fin 5632 → EReal) (h0 : ∀ k, u0 (ix2 r k) = v0 k) (h1 : ∀ k, u1 (ix2 r k) = v1 k)
    (h2 : ∀ k, u2 (ix2 r k) = v2 k) (hp : ∀ k, p (ix3 0 r k) = T.p k) (c : Fin 1024) :
    slabO X u0 u1 u2 p x11 x12 x13 x14 x15 x16 x17 (ix3 0 r c)
      = out gluKer (blockWeights x5 x6 x7 x8 x9 x10 x11 x12 x13 x14 x15 x16 x17) T (conv (blockWeights x5 x6 x7 x8 x9 x10 x11 x12 x13 x14 x15 x16 x17) v0 v1 v2) c := by
  have hx : ∀ c, addf X (rmsB (downB (convB x11 x12 u0 u1 u2) x13) x14) (ix2 r c)
      = afterMlp gluKer (blockWeights x5 x6 x7 x8 x9 x10 x11 x12 x13 x14 x15 x16 x17) T (conv (blockWeights x5 x6 x7 x8 x9 x10 x11 x12 x13 x14 x15 x16 x17) v0 v1 v2) c := fun c => by
    rw [addf_apply, rmsB_apply, hX]
    simp only [downB_apply, convB_apply, h0, h1, h2]
    rfl
  unfold slabO
  rw [outB_apply]
  simp only [hx, hp]
  rfl

/-- A row of the block the body leaves, in the first slab. -/
theorem bothO_first (b a : Fin 5632 → EReal) (r : Fin 256) (c : Fin 1024) : bothO x0 x1 x2 x3 x4 x5 x6 x7 x8 x9 x10 x11 x12 x13 x14 x15 x16 x17 b a (ix3 0 (⟨r.val, by omega⟩ : Fin 512) c)
    = firstO x0 x1 x2 x3 x4 x5 x6 x7 x8 x9 x10 x11 x12 x13 x14 x15 x16 x17 b a (ix3 0 r c) := by
  unfold bothO
  rw [View.canon_cons_of_not_mem]
  · have e : (Rect.unit (s := S1x512x1024) ![0, 0, 0] S1x256x1024.size Facts₀.inb_S1x512x1024_S1x256x1024_0_0_0).emb (ix3 (0 : Fin 1) r c) = ix3 (0 : Fin 1) (⟨r.val, by omega⟩ : Fin 512) c := by
      funext q; apply Fin.ext
      match q with
      | ⟨0, _⟩ => rfl
      | ⟨1, _⟩ => show 0 + 1 * r.val = r.val; omega
      | ⟨2, _⟩ => show 0 + 1 * c.val = c.val; omega
    exact (congrArg _ e.symm).trans (View.canon_cons_emb _ _ _ _)
  · intro h
    have h := (Rect.mem_set_unit (inb := Facts₀.inb_S1x512x1024_S1x256x1024_0_256_0)).mp h (1 : Fin 3)
    have h1 : 256 ≤ r.val := h.1
    omega

/-- A row of the block the body leaves, in the second slab. -/
theorem bothO_second (b a : Fin 5632 → EReal) (r : Fin 256) (c : Fin 1024) : bothO x0 x1 x2 x3 x4 x5 x6 x7 x8 x9 x10 x11 x12 x13 x14 x15 x16 x17 b a (ix3 0 (⟨256 + r.val, by omega⟩ : Fin 512) c)
    = secondO x0 x1 x2 x3 x4 x5 x6 x7 x8 x9 x10 x11 x12 x13 x14 x15 x16 x17 (ix3 0 r c) := by
  have e : (Rect.unit (s := S1x512x1024) ![0, 256, 0] S1x256x1024.size Facts₀.inb_S1x512x1024_S1x256x1024_0_256_0).emb (ix3 (0 : Fin 1) r c) = ix3 (0 : Fin 1) (⟨256 + r.val, by omega⟩ : Fin 512) c := by
    funext q; apply Fin.ext
    match q with
    | ⟨0, _⟩ => rfl
    | ⟨1, _⟩ => show 256 + 1 * r.val = 256 + r.val; omega
    | ⟨2, _⟩ => show 0 + 1 * c.val = c.val; omega
  exact (congrArg _ e.symm).trans (View.canon_cons_emb _ _ _ _)

/-- **A row of the block the body leaves** is the closing block's output row of that token. -/
theorem bothO_apply (b a : Fin 5632 → EReal) (r : Fin 512) (c : Fin 1024) : bothO x0 x1 x2 x3 x4 x5 x6 x7 x8 x9 x10 x11 x12 x13 x14 x15 x16 x17 b a (ix3 0 r c)
    = out gluKer (blockWeights x5 x6 x7 x8 x9 x10 x11 x12 x13 x14 x15 x16 x17) (blockToken x0 x1 x2 x3 x4 r)
        (conv (blockWeights x5 x6 x7 x8 x9 x10 x11 x12 x13 x14 x15 x16 x17) (up (blockWeights x5 x6 x7 x8 x9 x10 x11 x12 x13 x14 x15 x16 x17) (blockToken x0 x1 x2 x3 x4 r))
          (back1 a (fun r => up (blockWeights x5 x6 x7 x8 x9 x10 x11 x12 x13 x14 x15 x16 x17) (blockToken x0 x1 x2 x3 x4 r)) r) (back2 b a (fun r => up (blockWeights x5 x6 x7 x8 x9 x10 x11 x12 x13 x14 x15 x16 x17) (blockToken x0 x1 x2 x3 x4 r)) r)) c := by
  by_cases hr : r.val < 256
  · refine (bothO_first x0 x1 x2 x3 x4 x5 x6 x7 x8 x9 x10 x11 x12 x13 x14 x15 x16 x17 b a ⟨r.val, hr⟩ c).trans ?_
    unfold firstO
    refine slabO_apply x5 x6 x7 x8 x9 x10 x11 x12 x13 x14 x15 x16 x17 _ _ _ _ _ (blockToken x0 x1 x2 x3 x4 r) ⟨r.val, hr⟩ (fun c => firstX_apply x0 x1 x2 x3 x4 x5 x6 x7 x8 x9 x10 x11 x12 x13 x14 x15 x16 x17 ⟨r.val, hr⟩ c) _ _ _
      (fun k => firstU_apply x0 x1 x2 x3 x4 x5 x6 x7 x8 x9 x10 x11 x12 x13 x14 x15 x16 x17 ⟨r.val, hr⟩ k) ?_ ?_ ?_ c
    · intro k
      rw [shift1_apply]; unfold back1
      by_cases h : r.val = 0
      · rw [if_pos h, if_pos h]
      · rw [if_neg h, if_neg h]
        exact firstU_apply x0 x1 x2 x3 x4 x5 x6 x7 x8 x9 x10 x11 x12 x13 x14 x15 x16 x17 ⟨r.val - 1, by omega⟩ k
    · intro k
      rw [shift2_apply]; unfold back2
      by_cases h : r.val = 0
      · rw [if_pos h, if_pos h]
      · by_cases h' : r.val = 1
        · rw [if_neg h, if_neg h, if_pos h', if_pos h']
        · rw [if_neg h, if_neg h, if_neg h', if_neg h']
          exact firstU_apply x0 x1 x2 x3 x4 x5 x6 x7 x8 x9 x10 x11 x12 x13 x14 x15 x16 x17 ⟨r.val - 2, by omega⟩ k
    · intro k
      exact (ld_slab x4 0 _ ⟨r.val, hr⟩ k (by show 0 + r.val < 512; omega)).trans (congrArg (fun q => x4 (ix3 0 q k)) (Fin.ext (Nat.zero_add _)))
  · have hr' := r.isLt
    obtain ⟨q, hlt, rfl⟩ : ∃ (q : ℕ) (h : q < 256), r = ⟨256 + q, by clear hr hr'; omega⟩ :=
      ⟨r.val - 256, by omega, Fin.ext (by show r.val = 256 + (r.val - 256); omega)⟩
    refine (bothO_second x0 x1 x2 x3 x4 x5 x6 x7 x8 x9 x10 x11 x12 x13 x14 x15 x16 x17 b a ⟨q, hlt⟩ c).trans ?_
    unfold secondO
    refine slabO_apply x5 x6 x7 x8 x9 x10 x11 x12 x13 x14 x15 x16 x17 _ _ _ _ _ (blockToken x0 x1 x2 x3 x4 ⟨256 + q, by omega⟩) ⟨q, hlt⟩ (fun c => secondX_apply x0 x1 x2 x3 x4 x5 x6 x7 x8 x9 x10 x11 x12 x13 x14 x15 x16 x17 ⟨q, hlt⟩ c) _ _ _
      (fun k => secondU_apply x0 x1 x2 x3 x4 x5 x6 x7 x8 x9 x10 x11 x12 x13 x14 x15 x16 x17 ⟨q, hlt⟩ k) ?_ ?_ ?_ c
    · intro k
      rw [shift1_apply, back1_later _ _ _ (by show ¬ 256 + q = 0; omega)]
      by_cases h : q = 0
      · subst h
        rw [if_pos rfl]
        exact firstU_apply x0 x1 x2 x3 x4 x5 x6 x7 x8 x9 x10 x11 x12 x13 x14 x15 x16 x17 255 k
      · rw [if_neg h]
        refine (secondU_apply x0 x1 x2 x3 x4 x5 x6 x7 x8 x9 x10 x11 x12 x13 x14 x15 x16 x17 ⟨q - 1, by omega⟩ k).trans (congrArg (fun z => up (blockWeights x5 x6 x7 x8 x9 x10 x11 x12 x13 x14 x15 x16 x17) (blockToken x0 x1 x2 x3 x4 z) k) (Fin.ext ?_))
        show 256 + (q - 1) = 256 + q - 1
        omega
    · intro k
      rw [shift2_apply, back2_later _ _ _ _ (by show ¬ 256 + q = 0; omega) (by show ¬ 256 + q = 1; omega)]
      by_cases h : q = 0
      · subst h
        rw [if_pos rfl]
        exact firstU_apply x0 x1 x2 x3 x4 x5 x6 x7 x8 x9 x10 x11 x12 x13 x14 x15 x16 x17 254 k
      · by_cases h' : q = 1
        · subst h'
          rw [if_neg Nat.one_ne_zero, if_pos rfl]
          exact firstU_apply x0 x1 x2 x3 x4 x5 x6 x7 x8 x9 x10 x11 x12 x13 x14 x15 x16 x17 255 k
        · rw [if_neg h, if_neg h']
          refine (secondU_apply x0 x1 x2 x3 x4 x5 x6 x7 x8 x9 x10 x11 x12 x13 x14 x15 x16 x17 ⟨q - 2, by omega⟩ k).trans (congrArg (fun z => up (blockWeights x5 x6 x7 x8 x9 x10 x11 x12 x13 x14 x15 x16 x17) (blockToken x0 x1 x2 x3 x4 z) k) (Fin.ext ?_))
          show 256 + (q - 2) = 256 + q - 2
          omega
    · intro k
      exact ld_slab x4 256 _ ⟨q, hlt⟩ k (by show 256 + q < 512; omega)

end

end Cert.PostRun

end
-- ==== Proof.PostRef.lean ====
module

public import proofs.«01_k».proof.Proof.PostGelu
public import proofs.«01_k».proof.Proof.Gen.PostRefIdeal.Read
public import Idealize.ShloMosaic.Lib.Pointwise
public import Idealize.ShloMosaic.Lib.KernelVsHost

@[expose] public section

/-!
# What the reference computes

The reference's array operations, named once, and its result read at an index as the row functions of
the closing block.
-/

set_option maxRecDepth 16384

noncomputable section

namespace Cert.PostRow

open Idealize.ShloMosaic
open Cert.PostRefIdeal
open scoped BigOperators

/-- The layer's weights, read out of the argument arrays. -/
def weights (x5 x6 : FVec Ideal S512x1024 .f32) (x7 : FVec Ideal S1024x1024 .f32) (x8 x9 : FVec Ideal S1024 .f32)
    (x10 : FVec Ideal S1024x5632 .f32) (x11 : FVec Ideal S3x5632 .f32) (x12 : FVec Ideal S5632 .f32) (x13 : FVec Ideal S2816x1024 .f32)
    (x14 x15 : FVec Ideal S1024 .f32) (x16 : FVec Ideal S1024x1024 .f32) (x17 : FVec Ideal S256x1024 .f32) : Weights where
  wa k c := x5 (ix2 k c)
  wb k c := x6 (ix2 k c)
  wout k c := x7 (ix2 k c)
  gpost c := x8 (ix1 c)
  gmlp c := x9 (ix1 c)
  wup k c := x10 (ix2 k c)
  cw i k := x11 (ix2 i k)
  cb k := x12 (ix1 k)
  wdown k c := x13 (ix2 k c)
  gmlppost c := x14 (ix1 c)
  gple c := x15 (ix1 c)
  wpleg k c := x16 (ix2 k c)
  wple k c := x17 (ix2 k c)

/-- One token of one sequence, read out of the argument arrays. -/
def token (x0 : FVec Ideal S8x4096x1024 .f32) (x1 x2 : FVec Ideal S8x4096x512 .bf16) (x3 : FVec Ideal S8x4096x2048 .bf16)
    (x4 : FVec Ideal S8x4096x256 .f32) (b : Fin 8) (s : Fin 4096) : Token where
  x c := x0 (ix3 b s c)
  ya k := x1 (ix3 b s k)
  yb k := x2 (ix3 b s k)
  gates k := x3 (ix3 b s k)
  p k := x4 (ix3 b s k)

/-- The convolution's row `n` tokens before position `s`: zero before the sequence starts. -/
def before (n : ℕ) (u : Fin 4096 → Fin 5632 → EReal) (s : ℕ) (k : Fin 5632) : EReal :=
  if h : n ≤ s ∧ s < 4096 then u ⟨s - n, by omega⟩ k else 0

/-- **The closing block at one position of one sequence**: what both programs leave in the result there. -/
def block (glu : EReal → EReal) (W : Weights) (t : Fin 4096 → Token) (s : Fin 4096) (c : Fin 1024) : EReal :=
  out glu W (t s) (conv W (before 0 (fun s => up W (t s)) s.val) (before 1 (fun s => up W (t s)) s.val)
    (before 2 (fun s => up W (t s)) s.val)) c

/-- The reference's normalisation of an array's rows. -/
def hrms (t : FVec Ideal S8x4096x1024 .f32) (g : FVec Ideal S1024 .f32) : FVec Ideal S8x4096x1024 .f32 :=
  mulf (mulf t (broadcastInDim S8x4096x1024 ![0, 1, 2] Facts₀.bcast_S8x4096x1_S8x4096x1024_0_1_2
    (Host.rsqrt (addf (Host.divf (broadcastInDim S8x4096x1 ![0, 1] Facts₀.bcast_S8x4096_S8x4096x1_0_1
        (Host.reduceAdd (mulf t t) (constant S_ .f32 0x00000000#32) Facts₀.reducesTo_S8x4096x1024_S8x4096_d2 Facts₀.h_S_))
      (broadcastInDim S8x4096x1 ![] Facts₀.bcast_S_S8x4096x1 (constant S_ .f32 0x44800000#32)))
      (broadcastInDim S8x4096x1 ![] Facts₀.bcast_S_S8x4096x1 (constant S_ .f32 0x358637BD#32))))))
    (broadcastInDim S8x4096x1024 ![0, 1, 2] Facts₀.bcast_S1x1x1024_S8x4096x1024_0_1_2
      (broadcastInDim S1x1x1024 ![2] Facts₀.bcast_S1024_S1x1x1024_2 g))

/-- Each row of the normalised array is the row normalised. -/
theorem hrms_apply (t : FVec Ideal S8x4096x1024 .f32) (g : FVec Ideal S1024 .f32) (b : Fin 8) (s : Fin 4096) (c : Fin 1024) :
    hrms t g (ix3 b s c) = rms (fun c => t (ix3 b s c)) (fun c => g (ix1 c)) c := by
  unfold hrms rms width eps
  pointwise

/-- The reference's residual array after the mixers. -/
def hmix (x0 : FVec Ideal S8x4096x1024 .f32) (x1 x2 : FVec Ideal S8x4096x512 .bf16) (x3 : FVec Ideal S8x4096x2048 .bf16)
    (x5 x6 : FVec Ideal S512x1024 .f32) (x7 : FVec Ideal S1024x1024 .f32) (x8 : FVec Ideal S1024 .f32) : FVec Ideal S8x4096x1024 .f32 :=
  addf x0 (hrms (Host.dotGeneral dot_S8x4096x1024_S1024x1024_S8x4096x1024_2_0_01_1_n_n none (addf
    (mulf (extractStridedSlice S8x4096x1024 ![0, 0, 0] (extf .f32 x3 Facts₀.bitsLt_bf16_f32) Facts₀.slices_S8x4096x2048_S8x4096x1024_0_0_0)
      (Host.dotGeneral dot_S8x4096x512_S512x1024_S8x4096x1024_2_0_01_1_n_n none (extf .f32 x1 Facts₀.bitsLt_bf16_f32) x5))
    (mulf (extractStridedSlice S8x4096x1024 ![0, 0, 1024] (extf .f32 x3 Facts₀.bitsLt_bf16_f32) Facts₀.slices_S8x4096x2048_S8x4096x1024_0_0_1024)
      (Host.dotGeneral dot_S8x4096x512_S512x1024_S8x4096x1024_2_0_01_1_n_n none (extf .f32 x2 Facts₀.bitsLt_bf16_f32) x6))) x7) x8)

/-- The rows the reference's convolution reads. -/
def hup (h : FVec Ideal S8x4096x1024 .f32) (x9 : FVec Ideal S1024 .f32) (x10 : FVec Ideal S1024x5632 .f32) : FVec Ideal S8x4096x5632 .f32 :=
  Host.dotGeneral dot_S8x4096x1024_S1024x5632_S8x4096x5632_2_0_01_1_n_n none (hrms h x9) x10

/-- Those rows after two rows of zeros. -/
def hpad (u : FVec Ideal S8x4096x5632 .f32) : FVec Ideal S8x4098x5632 .f32 :=
  pad S8x4098x5632 ![0, 2, 0] ![0, 0, 0] ![0, 0, 0] u (sitofp .f32 (constantI S_ 32 0#32)) Facts₀.pads_S8x4096x5632_S8x4098x5632_000_200_000 Facts₀.h_S_

/-- A vector spread over the sequences and positions. -/
def hrow (v : FVec Ideal S5632 .f32) : FVec Ideal S8x4096x5632 .f32 :=
  broadcastInDim S8x4096x5632 ![0, 1, 2] Facts₀.bcast_S1x1x5632_S8x4096x5632_0_1_2 (broadcastInDim S1x1x5632 ![2] Facts₀.bcast_S5632_S1x1x5632_2 v)

/-- The reference's convolution, of the padded rows. -/
def hconv (q : FVec Ideal S8x4098x5632 .f32) (x11 : FVec Ideal S3x5632 .f32) (x12 : FVec Ideal S5632 .f32) : FVec Ideal S8x4096x5632 .f32 :=
  addf (addf (addf
    (mulf (hrow (shapeCast _ (extractStridedSlice S1x5632 ![0, 0] x11 Facts₀.slices_S3x5632_S1x5632_0_0) Facts₀.shapeCasts_S1x5632_S5632))
      (extractStridedSlice S8x4096x5632 ![0, 0, 0] q Facts₀.slices_S8x4098x5632_S8x4096x5632_0_0_0))
    (mulf (hrow (shapeCast _ (extractStridedSlice S1x5632 ![1, 0] x11 Facts₀.slices_S3x5632_S1x5632_1_0) Facts₀.shapeCasts_S1x5632_S5632))
      (extractStridedSlice S8x4096x5632 ![0, 1, 0] q Facts₀.slices_S8x4098x5632_S8x4096x5632_0_1_0)))
    (mulf (hrow (shapeCast _ (extractStridedSlice S1x5632 ![2, 0] x11 Facts₀.slices_S3x5632_S1x5632_2_0) Facts₀.shapeCasts_S1x5632_S5632))
      (extractStridedSlice S8x4096x5632 ![0, 2, 0] q Facts₀.slices_S8x4098x5632_S8x4096x5632_0_2_0)))
    (hrow x12)

/-- The reference's activation of an array. -/
def hglu (t : FVec Ideal S8x4096x2816 .f32) : FVec Ideal S8x4096x2816 .f32 :=
  mulf t (mulf (broadcastInDim S8x4096x2816 ![] Facts₀.bcast_S_S8x4096x2816 (constant S_ .f32 0x3F000000#32))
    (addf (broadcastInDim S8x4096x2816 ![] Facts₀.bcast_S_S8x4096x2816 (constant S_ .f32 0x3F800000#32))
      (Host.tanh (mulf (broadcastInDim S8x4096x2816 ![] Facts₀.bcast_S_S8x4096x2816 (constant S_ .f32 0x3F4C422A#32))
        (addf t (mulf (broadcastInDim S8x4096x2816 ![] Facts₀.bcast_S_S8x4096x2816 (constant S_ .f32 0x3D372713#32)) (mulf (mulf t t) t)))))))

/-- The reference's gated activation times the projection down. -/
def hdown (y : FVec Ideal S8x4096x5632 .f32) (x13 : FVec Ideal S2816x1024 .f32) : FVec Ideal S8x4096x1024 .f32 :=
  Host.dotGeneral dot_S8x4096x2816_S2816x1024_S8x4096x1024_2_0_01_1_n_n none
    (mulf (hglu (extractStridedSlice S8x4096x2816 ![0, 0, 0] y Facts₀.slices_S8x4096x5632_S8x4096x2816_0_0_0))
      (extractStridedSlice S8x4096x2816 ![0, 0, 2816] y Facts₀.slices_S8x4096x5632_S8x4096x2816_0_0_2816)) x13

/-- The reference's last step. -/
def hout (h : FVec Ideal S8x4096x1024 .f32) (x4 : FVec Ideal S8x4096x256 .f32) (x15 : FVec Ideal S1024 .f32) (x16 : FVec Ideal S1024x1024 .f32)
    (x17 : FVec Ideal S256x1024 .f32) : FVec Ideal S8x4096x1024 .f32 :=
  addf h (mulf (Host.divf (broadcastInDim S8x4096x1024 ![] Facts₀.bcast_S_S8x4096x1024 (constant S_ .f32 0x3F800000#32))
      (addf (broadcastInDim S8x4096x1024 ![] Facts₀.bcast_S_S8x4096x1024 (constant S_ .f32 0x3F800000#32))
        (Host.exp (Host.negf (Host.dotGeneral dot_S8x4096x1024_S1024x1024_S8x4096x1024_2_0_01_1_n_n none (hrms h x15) x16)))))
    (Host.dotGeneral dot_S8x4096x256_S256x1024_S8x4096x1024_2_0_01_1_n_n none x4 x17))

/-- The residual array after the mixers, at an index. -/
theorem hmix_apply (x0 : FVec Ideal S8x4096x1024 .f32) (x1 x2 : FVec Ideal S8x4096x512 .bf16) (x3 : FVec Ideal S8x4096x2048 .bf16)
    (x5 x6 : FVec Ideal S512x1024 .f32) (x7 : FVec Ideal S1024x1024 .f32) (x8 : FVec Ideal S1024 .f32) (b : Fin 8) (s : Fin 4096) (c : Fin 1024) :
    hmix x0 x1 x2 x3 x5 x6 x7 x8 (ix3 b s c)
      = x0 (ix3 b s c) + rms (lin (fun c => x3 (ix3 b s ⟨c.val, by omega⟩) * lin (fun k => x1 (ix3 b s k)) (fun k c => x5 (ix2 k c)) c
          + x3 (ix3 b s ⟨1024 + c.val, by omega⟩) * lin (fun k => x2 (ix3 b s k)) (fun k c => x6 (ix2 k c)) c)
          (fun k c => x7 (ix2 k c))) (fun c => x8 (ix1 c)) c := by
  unfold hmix
  rw [addf_apply, hrms_apply]
  refine congrArg (fun f => x0 (ix3 b s c) + rms f _ c) (funext fun c' => ?_)
  unfold lin
  pointwise

/-- The rows the convolution reads, at an index. -/
theorem hup_apply (h : FVec Ideal S8x4096x1024 .f32) (x9 : FVec Ideal S1024 .f32) (x10 : FVec Ideal S1024x5632 .f32)
    (b : Fin 8) (s : Fin 4096) (k : Fin 5632) :
    hup h x9 x10 (ix3 b s k) = lin (rms (fun c => h (ix3 b s c)) (fun c => x9 (ix1 c))) (fun k c => x10 (ix2 k c)) k := by
  unfold hup lin
  generalize hq : hrms h x9 = q
  refine Eq.trans (b := ∑ c : Fin 1024, q (ix3 b s c) * x10 (ix2 c k)) (by pointwise) ?_
  subst hq
  exact Finset.sum_congr rfl fun c _ => by rw [hrms_apply]

/-- The padded rows, at an index: the row two before, zero in the first two. -/
theorem hpad_apply (u : FVec Ideal S8x4096x5632 .f32) (b : Fin 8) (q : Fin 4098) (k : Fin 5632) :
    hpad u (ix3 b q k) = if h : 2 ≤ q.val then u (ix3 b ⟨q.val - 2, by omega⟩ k) else 0 := by
  unfold hpad
  split
  · rename_i h
    refine pad_apply_of_inside _ _ _ _ _ _ _ _ _ fun a => ?_
    match a with
    | ⟨0, _⟩ => show b.val = 0 + b.val * 1; omega
    | ⟨1, _⟩ => show q.val = 2 + (q.val - 2) * 1; omega
    | ⟨2, _⟩ => show k.val = 0 + k.val * 1; omega
  · rename_i h
    refine (pad_apply_of_not_inside _ _ _ _ _ _ _ _ (1 : Fin 3) ?_).trans ?_
    · intro hh; exact h hh.1
    · show ((((0#32 : BitVec 32).toInt : ℤ) : ℝ) : EReal) = 0
      simp

/-- The convolution, at an index. -/
theorem hconv_apply (q : FVec Ideal S8x4098x5632 .f32) (x11 : FVec Ideal S3x5632 .f32) (x12 : FVec Ideal S5632 .f32)
    (b : Fin 8) (s : Fin 4096) (k : Fin 5632) :
    hconv q x11 x12 (ix3 b s k)
      = x11 (ix2 0 k) * q (ix3 b ⟨s.val, by omega⟩ k) + x11 (ix2 1 k) * q (ix3 b ⟨1 + s.val, by omega⟩ k)
        + x11 (ix2 2 k) * q (ix3 b ⟨2 + s.val, by omega⟩ k) + x12 (ix1 k) := by
  unfold hconv hrow
  pointwise

/-- The activation, at an index. -/
theorem hglu_apply (t : FVec Ideal S8x4096x2816 .f32) (j : S8x4096x2816.Idx) : hglu t j = gluRef (t j) := rfl

/-- The projection down, at an index. -/
theorem hdown_apply (y : FVec Ideal S8x4096x5632 .f32) (x13 : FVec Ideal S2816x1024 .f32) (b : Fin 8) (s : Fin 4096) (c : Fin 1024) :
    hdown y x13 (ix3 b s c) = lin (act gluRef (fun k => y (ix3 b s k))) (fun k c => x13 (ix2 k c)) c := by
  unfold hdown lin
  generalize hq : mulf (hglu (extractStridedSlice S8x4096x2816 ![0, 0, 0] y Facts₀.slices_S8x4096x5632_S8x4096x2816_0_0_0))
      (extractStridedSlice S8x4096x2816 ![0, 0, 2816] y Facts₀.slices_S8x4096x5632_S8x4096x2816_0_0_2816) = q
  refine Eq.trans (b := ∑ k : Fin 2816, q (ix3 b s k) * x13 (ix2 k c)) (by pointwise) ?_
  subst hq
  refine Finset.sum_congr rfl fun k _ => ?_
  rw [mulf_apply, hglu_apply]
  unfold act
  pointwise

/-- The last step, at an index. -/
theorem hout_apply (h : FVec Ideal S8x4096x1024 .f32) (x4 : FVec Ideal S8x4096x256 .f32) (x15 : FVec Ideal S1024 .f32) (x16 : FVec Ideal S1024x1024 .f32)
    (x17 : FVec Ideal S256x1024 .f32) (b : Fin 8) (s : Fin 4096) (c : Fin 1024) :
    hout h x4 x15 x16 x17 (ix3 b s c)
      = h (ix3 b s c) + sig (lin (rms (fun c => h (ix3 b s c)) (fun c => x15 (ix1 c))) (fun k c => x16 (ix2 k c)) c)
          * lin (fun k => x4 (ix3 b s k)) (fun k c => x17 (ix2 k c)) c := by
  unfold hout sig one lin
  simp only [← hrms_apply]
  generalize hrms h x15 = q
  pointwise

/-- The reference's result, in these operations. -/
def href (x0 : FVec Ideal S8x4096x1024 .f32) (x1 x2 : FVec Ideal S8x4096x512 .bf16) (x3 : FVec Ideal S8x4096x2048 .bf16)
    (x4 : FVec Ideal S8x4096x256 .f32) (x5 x6 : FVec Ideal S512x1024 .f32) (x7 : FVec Ideal S1024x1024 .f32) (x8 x9 : FVec Ideal S1024 .f32)
    (x10 : FVec Ideal S1024x5632 .f32) (x11 : FVec Ideal S3x5632 .f32) (x12 : FVec Ideal S5632 .f32) (x13 : FVec Ideal S2816x1024 .f32)
    (x14 x15 : FVec Ideal S1024 .f32) (x16 : FVec Ideal S1024x1024 .f32) (x17 : FVec Ideal S256x1024 .f32) : FVec Ideal S8x4096x1024 .f32 :=
  hout (addf (hmix x0 x1 x2 x3 x5 x6 x7 x8)
    (hrms (hdown (hconv (hpad (hup (hmix x0 x1 x2 x3 x5 x6 x7 x8) x9 x10)) x11 x12) x13) x14)) x4 x15 x16 x17

/-- The reference's printed term is that result. -/
theorem href_eq (x0 : FVec Ideal S8x4096x1024 .f32) (x1 x2 : FVec Ideal S8x4096x512 .bf16) (x3 : FVec Ideal S8x4096x2048 .bf16)
    (x4 : FVec Ideal S8x4096x256 .f32) (x5 x6 : FVec Ideal S512x1024 .f32) (x7 : FVec Ideal S1024x1024 .f32) (x8 x9 : FVec Ideal S1024 .f32)
    (x10 : FVec Ideal S1024x5632 .f32) (x11 : FVec Ideal S3x5632 .f32) (x12 : FVec Ideal S5632 .f32) (x13 : FVec Ideal S2816x1024 .f32)
    (x14 x15 : FVec Ideal S1024 .f32) (x16 : FVec Ideal S1024x1024 .f32) (x17 : FVec Ideal S256x1024 .f32) :
    Read.val_main_v116 (F := Ideal) x0 x1 x2 x3 x4 x5 x6 x7 x8 x9 x10 x11 x12 x13 x14 x15 x16 x17
      = href x0 x1 x2 x3 x4 x5 x6 x7 x8 x9 x10 x11 x12 x13 x14 x15 x16 x17 := rfl

/-- **What the reference computes**: at every index, the closing block of that sequence at that position. -/
theorem href_apply (x0 : FVec Ideal S8x4096x1024 .f32) (x1 x2 : FVec Ideal S8x4096x512 .bf16) (x3 : FVec Ideal S8x4096x2048 .bf16)
    (x4 : FVec Ideal S8x4096x256 .f32) (x5 x6 : FVec Ideal S512x1024 .f32) (x7 : FVec Ideal S1024x1024 .f32) (x8 x9 : FVec Ideal S1024 .f32)
    (x10 : FVec Ideal S1024x5632 .f32) (x11 : FVec Ideal S3x5632 .f32) (x12 : FVec Ideal S5632 .f32) (x13 : FVec Ideal S2816x1024 .f32)
    (x14 x15 : FVec Ideal S1024 .f32) (x16 : FVec Ideal S1024x1024 .f32) (x17 : FVec Ideal S256x1024 .f32) (b : Fin 8) (s : Fin 4096) (c : Fin 1024) :
    href x0 x1 x2 x3 x4 x5 x6 x7 x8 x9 x10 x11 x12 x13 x14 x15 x16 x17 (ix3 b s c)
      = block gluRef (weights x5 x6 x7 x8 x9 x10 x11 x12 x13 x14 x15 x16 x17) (token x0 x1 x2 x3 x4 b) s c := by
  set W := weights x5 x6 x7 x8 x9 x10 x11 x12 x13 x14 x15 x16 x17 with hW
  set T := token x0 x1 x2 x3 x4 b with hT
  have hm : ∀ s c, hmix x0 x1 x2 x3 x5 x6 x7 x8 (ix3 b s c) = afterMix W (T s) c := fun s c => hmix_apply x0 x1 x2 x3 x5 x6 x7 x8 b s c
  have hu : ∀ s k, hup (hmix x0 x1 x2 x3 x5 x6 x7 x8) x9 x10 (ix3 b s k) = up W (T s) k := fun s k => by
    rw [hup_apply]; simp only [hm]; rfl
  have hv : ∀ (s : Fin 4096) k, hconv (hpad (hup (hmix x0 x1 x2 x3 x5 x6 x7 x8) x9 x10)) x11 x12 (ix3 b s k)
      = conv W (before 0 (fun s => up W (T s)) s.val) (before 1 (fun s => up W (T s)) s.val) (before 2 (fun s => up W (T s)) s.val) k := fun s k => by
    have e : ∀ n (hn : n ≤ 2), hpad (hup (hmix x0 x1 x2 x3 x5 x6 x7 x8) x9 x10) (ix3 b ⟨2 - n + s.val, by omega⟩ k)
        = before n (fun s => up W (T s)) s.val k := fun n hn => by
      rw [hpad_apply]; unfold before
      have hs := s.isLt
      by_cases h : n ≤ s.val
      · rw [dif_pos (by show 2 ≤ 2 - n + s.val; omega), dif_pos ⟨h, hs⟩, hu]
        have : (⟨2 - n + s.val - 2, by omega⟩ : Fin 4096) = ⟨s.val - n, by omega⟩ := Fin.ext (by show 2 - n + s.val - 2 = s.val - n; omega)
        exact congrArg (fun q => up W (T q) k) this
      · rw [dif_neg (by show ¬ 2 ≤ 2 - n + s.val; omega), dif_neg (fun hh => h hh.1)]
    have e2 := e 2 (by decide)
    have h0 : (⟨2 - 2 + s.val, by omega⟩ : Fin 4098) = ⟨s.val, by omega⟩ := Fin.ext (by show 2 - 2 + s.val = s.val; omega)
    rw [h0] at e2
    rw [hconv_apply, e2]
    rw [show (ix3 b ⟨1 + s.val, by omega⟩ k : S8x4098x5632.Idx) = ix3 b ⟨2 - 1 + s.val, by omega⟩ k from rfl, e 1 (by decide)]
    rw [show (ix3 b ⟨2 + s.val, by omega⟩ k : S8x4098x5632.Idx) = ix3 b ⟨2 - 0 + s.val, by omega⟩ k from rfl, e 0 (by decide)]
    rfl
  unfold href block
  rw [hout_apply]
  have hx : ∀ c, addf (hmix x0 x1 x2 x3 x5 x6 x7 x8)
      (hrms (hdown (hconv (hpad (hup (hmix x0 x1 x2 x3 x5 x6 x7 x8) x9 x10)) x11 x12) x13) x14) (ix3 b s c)
      = afterMlp gluRef W (T s) (conv W (before 0 (fun s => up W (T s)) s.val) (before 1 (fun s => up W (T s)) s.val)
          (before 2 (fun s => up W (T s)) s.val)) c := fun c => by
    rw [addf_apply, hrms_apply, hm]
    simp only [hdown_apply, hv]
    rfl
  simp only [hx]
  rfl

end Cert.PostRow

end
-- ==== Proof.PostHost.lean ====
module

public import proofs.«01_k».proof.Proof.PostRows
public import proofs.«01_k».proof.Proof.PostRef
public import proofs.«01_k».proof.Proof.Gen.PostIdeal.Value
public import Idealize.ShloMosaic.Lib.ValueLayout

@[expose] public section

/-!
# The blocks the grid hands to the body

The grid has 8 × 8 points: the first coordinate is the sequence, the second a tile of 512 tokens. The five token
arrays are cut into tiles; every other array is handed over whole, after the host has changed its type or
laid a vector out as a row.
-/

set_option maxRecDepth 16384

noncomputable section

namespace Cert.PostRun

open Idealize.ShloMosaic Idealize.ShloMosaic.TcCoe Idealize.SL.Sem
open Cert.PostIdeal Cert.PostIdeal.Gen
open Cert.PostRow hiding sig

variable (m : (ℓ : Loc nD τ sig) → Buf (Elt Ideal) ℓ) (c : Dev nD)

/-- A point of the grid is below 64. -/
theorem point_lt (t : Fin cfg0.N) : t.val < 64 := lt_of_lt_of_eq t.isLt (show cfg0.N = 64 from N_0)

/-- The weights as launched. -/
def W0 : Weights := weights (m ((c : Thread nD τ).loc main_arg5)) (m ((c : Thread nD τ).loc main_arg6)) (m ((c : Thread nD τ).loc main_arg7))
  (m ((c : Thread nD τ).loc main_arg8)) (m ((c : Thread nD τ).loc main_arg9)) (m ((c : Thread nD τ).loc main_arg10))
  (m ((c : Thread nD τ).loc main_arg11)) (m ((c : Thread nD τ).loc main_arg12)) (m ((c : Thread nD τ).loc main_arg13))
  (m ((c : Thread nD τ).loc main_arg14)) (m ((c : Thread nD τ).loc main_arg15)) (m ((c : Thread nD τ).loc main_arg16))
  (m ((c : Thread nD τ).loc main_arg17))

/-- The tokens of a sequence as launched. -/
def T0 (b : Fin 8) (s : Fin 4096) : Token := token (m ((c : Thread nD τ).loc main_arg0)) (m ((c : Thread nD τ).loc main_arg1))
  (m ((c : Thread nD τ).loc main_arg2)) (m ((c : Thread nD τ).loc main_arg3)) (m ((c : Thread nD τ).loc main_arg4)) b s

/-- Weights with equal entries are equal. -/
theorem weights_ext {W W' : Weights} (h5 : ∀ k q, W.wa k q = W'.wa k q) (h6 : ∀ k q, W.wb k q = W'.wb k q) (h7 : ∀ k q, W.wout k q = W'.wout k q)
    (h8 : ∀ q, W.gpost q = W'.gpost q) (h9 : ∀ q, W.gmlp q = W'.gmlp q) (h10 : ∀ k q, W.wup k q = W'.wup k q) (h11 : ∀ k q, W.cw k q = W'.cw k q)
    (h12 : ∀ q, W.cb q = W'.cb q) (h13 : ∀ k q, W.wdown k q = W'.wdown k q) (h14 : ∀ q, W.gmlppost q = W'.gmlppost q)
    (h15 : ∀ q, W.gple q = W'.gple q) (h16 : ∀ k q, W.wpleg k q = W'.wpleg k q) (h17 : ∀ k q, W.wple k q = W'.wple k q) : W = W' := by
  cases W; cases W'
  congr
  exacts [funext₂ h5, funext₂ h6, funext₂ h7, funext h8, funext h9, funext₂ h10, funext₂ h11, funext h12, funext₂ h13, funext h14, funext h15,
    funext₂ h16, funext₂ h17]

/-- Tokens with equal entries are equal. -/
theorem token_ext {T T' : Token} (h0 : ∀ q, T.x q = T'.x q) (h1 : ∀ q, T.ya q = T'.ya q) (h2 : ∀ q, T.yb q = T'.yb q)
    (h3 : ∀ q, T.gates q = T'.gates q) (h4 : ∀ q, T.p q = T'.p q) : T = T' := by
  cases T; cases T'
  congr
  exacts [funext h0, funext h1, funext h2, funext h3, funext h4]

/-- A block that is the whole array starts at its corner. -/
theorem whole_coord (n k : ℕ) : 0 * n + 1 * k = k := by omega

/-- Where a tile lies: the tile of point `t` is of sequence `t / 8` and starts at token `512 * (t % 8)`. -/
theorem tile_coord (i : Fin 3 → ℕ) (t r q n : ℕ) (h : i = ![t / 8, t % 8, 0]) :
    i 0 * 1 + 1 * 0 = t / 8 ∧ i 1 * 512 + 1 * r = 512 * (t % 8) + r ∧ i 2 * n + 1 * q = q := by
  subst h
  show t / 8 * 1 + 1 * 0 = t / 8 ∧ t % 8 * 512 + 1 * r = 512 * (t % 8) + r ∧ 0 * n + 1 * q = q
  omega

/-- The sequence of a point. -/
def seqOf (t : Fin cfg0.N) : Fin 8 := ⟨t.val / 8, by have := point_lt t; omega⟩

/-- The position in its sequence of row `r` of a point's tile. -/
def posOf (t : Fin cfg0.N) (r : Fin 512) : Fin 4096 := ⟨512 * (t.val % 8) + r.val, by omega⟩

/-- The tile of window 0 (`x`). -/
theorem blk0 (t : Fin cfg0.N) (r : Fin 512) (q : Fin 1024) :
    iblk m c 0 t (ix3 0 r q) = m ((c : Thread nD τ).loc main_arg0) (ix3 (seqOf t) (posOf t r) q) := by
  have hi : ∀ t : Fin cfg0.N, win0_0.index t = ![t.val / 8, t.val % 8, 0] := by decide +kernel
  have hc := tile_coord (win0_0.index t) t.val r.val q.val 1024 (hi t)
  show V m c main_arg0 (((cfg0.win 0).blk t).view.emb (ix3 0 r q)) = _
  rw [V_main_arg0]
  exact congrArg _ (funext fun a => Fin.ext (match a with
    | ⟨0, _⟩ => hc.1
    | ⟨1, _⟩ => hc.2.1
    | ⟨2, _⟩ => hc.2.2))

/-- The tile of window 1 (`ya`). -/
theorem blk1 (t : Fin cfg0.N) (r : Fin 512) (q : Fin 512) :
    iblk m c 1 t (ix3 0 r q) = m ((c : Thread nD τ).loc main_arg1) (ix3 (seqOf t) (posOf t r) q) := by
  have hi : ∀ t : Fin cfg0.N, win0_1.index t = ![t.val / 8, t.val % 8, 0] := by decide +kernel
  have hc := tile_coord (win0_1.index t) t.val r.val q.val 512 (hi t)
  show V m c main_arg1 (((cfg0.win 1).blk t).view.emb (ix3 0 r q)) = _
  rw [V_main_arg1]
  exact congrArg _ (funext fun a => Fin.ext (match a with
    | ⟨0, _⟩ => hc.1
    | ⟨1, _⟩ => hc.2.1
    | ⟨2, _⟩ => hc.2.2))

/-- The tile of window 2 (`yb`). -/
theorem blk2 (t : Fin cfg0.N) (r : Fin 512) (q : Fin 512) :
    iblk m c 2 t (ix3 0 r q) = m ((c : Thread nD τ).loc main_arg2) (ix3 (seqOf t) (posOf t r) q) := by
  have hi : ∀ t : Fin cfg0.N, win0_2.index t = ![t.val / 8, t.val % 8, 0] := by decide +kernel
  have hc := tile_coord (win0_2.index t) t.val r.val q.val 512 (hi t)
  show V m c main_arg2 (((cfg0.win 2).blk t).view.emb (ix3 0 r q)) = _
  rw [V_main_arg2]
  exact congrArg _ (funext fun a => Fin.ext (match a with
    | ⟨0, _⟩ => hc.1
    | ⟨1, _⟩ => hc.2.1
    | ⟨2, _⟩ => hc.2.2))

/-- The tile of window 3 (`gates`). -/
theorem blk3 (t : Fin cfg0.N) (r : Fin 512) (q : Fin 2048) :
    iblk m c 3 t (ix3 0 r q) = m ((c : Thread nD τ).loc main_arg3) (ix3 (seqOf t) (posOf t r) q) := by
  have hi : ∀ t : Fin cfg0.N, win0_3.index t = ![t.val / 8, t.val % 8, 0] := by decide +kernel
  have hc := tile_coord (win0_3.index t) t.val r.val q.val 2048 (hi t)
  show V m c main_arg3 (((cfg0.win 3).blk t).view.emb (ix3 0 r q)) = _
  rw [V_main_arg3]
  exact congrArg _ (funext fun a => Fin.ext (match a with
    | ⟨0, _⟩ => hc.1
    | ⟨1, _⟩ => hc.2.1
    | ⟨2, _⟩ => hc.2.2))

/-- The tile of window 4 (`p`). -/
theorem blk4 (t : Fin cfg0.N) (r : Fin 512) (q : Fin 256) :
    iblk m c 4 t (ix3 0 r q) = m ((c : Thread nD τ).loc main_arg4) (ix3 (seqOf t) (posOf t r) q) := by
  have hi : ∀ t : Fin cfg0.N, win0_4.index t = ![t.val / 8, t.val % 8, 0] := by decide +kernel
  have hc := tile_coord (win0_4.index t) t.val r.val q.val 256 (hi t)
  show V m c main_arg4 (((cfg0.win 4).blk t).view.emb (ix3 0 r q)) = _
  rw [V_main_arg4]
  exact congrArg _ (funext fun a => Fin.ext (match a with
    | ⟨0, _⟩ => hc.1
    | ⟨1, _⟩ => hc.2.1
    | ⟨2, _⟩ => hc.2.2))

/-- Window 5, the first mixer's projection, at an entry. -/
theorem blk5 (t : Fin cfg0.N) (i : Fin 512) (q : Fin 1024) :
    iblk m c 5 t (ix2 i q) = (m ((c : Thread nD τ).loc main_arg5) : S512x1024.Idx → EReal) (ix2 i q) := by
  have e : V m c main_v0 = (m ((c : Thread nD τ).loc main_arg5) : S512x1024.Idx → EReal) := by
    show StableHlo.after hostOps0 _ (Proc.devRef .tc main_v0) = _
    after_results
    rfl
  refine Eq.trans ?_ (congrFun e (ix2 i q))
  exact congrArg (V m c main_v0) (funext fun a => Fin.ext (match a with
    | ⟨0, _⟩ => whole_coord 512 _
    | ⟨1, _⟩ => whole_coord 1024 _))

/-- Window 6, the second mixer's projection, at an entry. -/
theorem blk6 (t : Fin cfg0.N) (i : Fin 512) (q : Fin 1024) :
    iblk m c 6 t (ix2 i q) = (m ((c : Thread nD τ).loc main_arg6) : S512x1024.Idx → EReal) (ix2 i q) := by
  have e : V m c main_v1 = (m ((c : Thread nD τ).loc main_arg6) : S512x1024.Idx → EReal) := by
    show StableHlo.after hostOps0 _ (Proc.devRef .tc main_v1) = _
    after_results
    rfl
  refine Eq.trans ?_ (congrFun e (ix2 i q))
  exact congrArg (V m c main_v1) (funext fun a => Fin.ext (match a with
    | ⟨0, _⟩ => whole_coord 512 _
    | ⟨1, _⟩ => whole_coord 1024 _))

/-- Window 7, the projection of the mixed rows, at an entry. -/
theorem blk7 (t : Fin cfg0.N) (i : Fin 1024) (q : Fin 1024) :
    iblk m c 7 t (ix2 i q) = (m ((c : Thread nD τ).loc main_arg7) : S1024x1024.Idx → EReal) (ix2 i q) := by
  have e : V m c main_v2 = (m ((c : Thread nD τ).loc main_arg7) : S1024x1024.Idx → EReal) := by
    show StableHlo.after hostOps0 _ (Proc.devRef .tc main_v2) = _
    after_results
    rfl
  refine Eq.trans ?_ (congrFun e (ix2 i q))
  exact congrArg (V m c main_v2) (funext fun a => Fin.ext (match a with
    | ⟨0, _⟩ => whole_coord 1024 _
    | ⟨1, _⟩ => whole_coord 1024 _))

/-- Window 8, the gain after the mixers, at a column of its row. -/
theorem blk8 (t : Fin cfg0.N) (q : Fin 1024) :
    iblk m c 8 t (ix2 0 q) = m ((c : Thread nD τ).loc main_arg8) (ix1 q) := by
  have e : (V m c main_v3 : S1x1024.Idx → EReal) (ix2 0 q) = (m ((c : Thread nD τ).loc main_arg8) : S1024.Idx → EReal) (ix1 q) := by
    show StableHlo.after hostOps0 _ (Proc.devRef .tc main_v3) _ = _
    after_results
    exact ValueIdx.shapeCast_a_1a_apply _ _ _ _
  refine Eq.trans ?_ e
  exact congrArg (V m c main_v3) (funext fun a => Fin.ext (match a with
    | ⟨0, _⟩ => whole_coord 1 _
    | ⟨1, _⟩ => whole_coord 1024 _))

/-- Window 9, the gain before the up projection, at a column of its row. -/
theorem blk9 (t : Fin cfg0.N) (q : Fin 1024) :
    iblk m c 9 t (ix2 0 q) = m ((c : Thread nD τ).loc main_arg9) (ix1 q) := by
  have e : (V m c main_v4 : S1x1024.Idx → EReal) (ix2 0 q) = (m ((c : Thread nD τ).loc main_arg9) : S1024.Idx → EReal) (ix1 q) := by
    show StableHlo.after hostOps0 _ (Proc.devRef .tc main_v4) _ = _
    after_results
    exact ValueIdx.shapeCast_a_1a_apply _ _ _ _
  refine Eq.trans ?_ e
  exact congrArg (V m c main_v4) (funext fun a => Fin.ext (match a with
    | ⟨0, _⟩ => whole_coord 1 _
    | ⟨1, _⟩ => whole_coord 1024 _))

/-- Window 10, the up projection, at an entry. -/
theorem blk10 (t : Fin cfg0.N) (i : Fin 1024) (q : Fin 5632) :
    iblk m c 10 t (ix2 i q) = (m ((c : Thread nD τ).loc main_arg10) : S1024x5632.Idx → EReal) (ix2 i q) := by
  have e : V m c main_v5 = (m ((c : Thread nD τ).loc main_arg10) : S1024x5632.Idx → EReal) := by
    show StableHlo.after hostOps0 _ (Proc.devRef .tc main_v5) = _
    after_results
    rfl
  refine Eq.trans ?_ (congrFun e (ix2 i q))
  exact congrArg (V m c main_v5) (funext fun a => Fin.ext (match a with
    | ⟨0, _⟩ => whole_coord 1024 _
    | ⟨1, _⟩ => whole_coord 5632 _))

/-- Window 11, the convolution's taps, at an entry. -/
theorem blk11 (t : Fin cfg0.N) (i : Fin 3) (q : Fin 5632) :
    iblk m c 11 t (ix2 i q) = m ((c : Thread nD τ).loc main_arg11) (ix2 i q) := by
  refine Eq.trans ?_ (congrFun (V_main_arg11 m c) (ix2 i q))
  exact congrArg (V m c main_arg11) (funext fun a => Fin.ext (match a with
    | ⟨0, _⟩ => whole_coord 3 _
    | ⟨1, _⟩ => whole_coord 5632 _))

/-- Window 12, the bias of the convolution, at a column of its row. -/
theorem blk12 (t : Fin cfg0.N) (q : Fin 5632) :
    iblk m c 12 t (ix2 0 q) = m ((c : Thread nD τ).loc main_arg12) (ix1 q) := by
  have e : (V m c main_v6 : S1x5632.Idx → EReal) (ix2 0 q) = (m ((c : Thread nD τ).loc main_arg12) : S5632.Idx → EReal) (ix1 q) := by
    show StableHlo.after hostOps0 _ (Proc.devRef .tc main_v6) _ = _
    after_results
    exact ValueIdx.shapeCast_a_1a_apply _ _ _ _
  refine Eq.trans ?_ e
  exact congrArg (V m c main_v6) (funext fun a => Fin.ext (match a with
    | ⟨0, _⟩ => whole_coord 1 _
    | ⟨1, _⟩ => whole_coord 5632 _))

/-- Window 13, the down projection, at an entry. -/
theorem blk13 (t : Fin cfg0.N) (i : Fin 2816) (q : Fin 1024) :
    iblk m c 13 t (ix2 i q) = (m ((c : Thread nD τ).loc main_arg13) : S2816x1024.Idx → EReal) (ix2 i q) := by
  have e : V m c main_v7 = (m ((c : Thread nD τ).loc main_arg13) : S2816x1024.Idx → EReal) := by
    show StableHlo.after hostOps0 _ (Proc.devRef .tc main_v7) = _
    after_results
    rfl
  refine Eq.trans ?_ (congrFun e (ix2 i q))
  exact congrArg (V m c main_v7) (funext fun a => Fin.ext (match a with
    | ⟨0, _⟩ => whole_coord 2816 _
    | ⟨1, _⟩ => whole_coord 1024 _))

/-- Window 14, the gain after the down projection, at a column of its row. -/
theorem blk14 (t : Fin cfg0.N) (q : Fin 1024) :
    iblk m c 14 t (ix2 0 q) = m ((c : Thread nD τ).loc main_arg14) (ix1 q) := by
  have e : (V m c main_v8 : S1x1024.Idx → EReal) (ix2 0 q) = (m ((c : Thread nD τ).loc main_arg14) : S1024.Idx → EReal) (ix1 q) := by
    show StableHlo.after hostOps0 _ (Proc.devRef .tc main_v8) _ = _
    after_results
    exact ValueIdx.shapeCast_a_1a_apply _ _ _ _
  refine Eq.trans ?_ e
  exact congrArg (V m c main_v8) (funext fun a => Fin.ext (match a with
    | ⟨0, _⟩ => whole_coord 1 _
    | ⟨1, _⟩ => whole_coord 1024 _))

/-- Window 15, the gain of the last branch, at a column of its row. -/
theorem blk15 (t : Fin cfg0.N) (q : Fin 1024) :
    iblk m c 15 t (ix2 0 q) = m ((c : Thread nD τ).loc main_arg15) (ix1 q) := by
  have e : (V m c main_v9 : S1x1024.Idx → EReal) (ix2 0 q) = (m ((c : Thread nD τ).loc main_arg15) : S1024.Idx → EReal) (ix1 q) := by
    show StableHlo.after hostOps0 _ (Proc.devRef .tc main_v9) _ = _
    after_results
    exact ValueIdx.shapeCast_a_1a_apply _ _ _ _
  refine Eq.trans ?_ e
  exact congrArg (V m c main_v9) (funext fun a => Fin.ext (match a with
    | ⟨0, _⟩ => whole_coord 1 _
    | ⟨1, _⟩ => whole_coord 1024 _))

/-- Window 16, the gate of the last branch, at an entry. -/
theorem blk16 (t : Fin cfg0.N) (i : Fin 1024) (q : Fin 1024) :
    iblk m c 16 t (ix2 i q) = (m ((c : Thread nD τ).loc main_arg16) : S1024x1024.Idx → EReal) (ix2 i q) := by
  have e : V m c main_v10 = (m ((c : Thread nD τ).loc main_arg16) : S1024x1024.Idx → EReal) := by
    show StableHlo.after hostOps0 _ (Proc.devRef .tc main_v10) = _
    after_results
    rfl
  refine Eq.trans ?_ (congrFun e (ix2 i q))
  exact congrArg (V m c main_v10) (funext fun a => Fin.ext (match a with
    | ⟨0, _⟩ => whole_coord 1024 _
    | ⟨1, _⟩ => whole_coord 1024 _))

/-- Window 17, the projection of the last branch, at an entry. -/
theorem blk17 (t : Fin cfg0.N) (i : Fin 256) (q : Fin 1024) :
    iblk m c 17 t (ix2 i q) = (m ((c : Thread nD τ).loc main_arg17) : S256x1024.Idx → EReal) (ix2 i q) := by
  have e : V m c main_v11 = (m ((c : Thread nD τ).loc main_arg17) : S256x1024.Idx → EReal) := by
    show StableHlo.after hostOps0 _ (Proc.devRef .tc main_v11) = _
    after_results
    rfl
  refine Eq.trans ?_ (congrFun e (ix2 i q))
  exact congrArg (V m c main_v11) (funext fun a => Fin.ext (match a with
    | ⟨0, _⟩ => whole_coord 256 _
    | ⟨1, _⟩ => whole_coord 1024 _))

set_option maxHeartbeats 2000000 in
/-- The weights a point sees are the weights as launched. -/
theorem weights_at (t : Fin cfg0.N) : blockWeights (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) = W0 m c :=
  weights_ext (fun k q => blk5 m c t k q) (fun k q => blk6 m c t k q) (fun k q => blk7 m c t k q) (fun q => blk8 m c t q) (fun q => blk9 m c t q)
    (fun k q => blk10 m c t k q) (fun k q => blk11 m c t k q) (fun q => blk12 m c t q) (fun k q => blk13 m c t k q) (fun q => blk14 m c t q)
    (fun q => blk15 m c t q) (fun k q => blk16 m c t k q) (fun k q => blk17 m c t k q)

/-- The tokens a point sees are those of its tile. -/
theorem token_at (t : Fin cfg0.N) (r : Fin 512) : blockToken (iblk m c 0 t) (iblk m c 1 t) (iblk m c 2 t) (iblk m c 3 t) (iblk m c 4 t) r = T0 m c (seqOf t) (posOf t r) :=
  token_ext (fun q => blk0 m c t r q) (fun q => blk1 m c t r q) (fun q => blk2 m c t r q) (fun q => blk3 m c t r q) (fun q => blk4 m c t r q)

end Cert.PostRun

end
-- ==== Proof.PostArray.lean ====
module

public import proofs.«01_k».proof.Proof.PostHost

@[expose] public section

/-!
# The kernel's result array

What a point leaves in its tile of the result and in the rows it hands to the next point, and with both the
kernel's result at every entry: the closing block at one position of one sequence.
-/

set_option maxRecDepth 16384

noncomputable section

namespace Cert.PostRun

open Idealize.ShloMosaic Idealize.ShloMosaic.TcCoe Idealize.SL.Sem
open Cert.PostIdeal Cert.PostIdeal.Gen Cert.PostIdeal.Value
open Cert.PostRow hiding sig

variable (m : (ℓ : Loc nD τ sig) → Buf (Elt Ideal) ℓ) (c : Dev nD)

/-- The first part of a pair given by its parts. -/
theorem fst_of {α β : Type} {p : α × β} {a : α} {b : β} (h : p = (a, b)) : p.1 = a := by
  subst h; rfl

/-- The second part of a pair given by its parts. -/
theorem snd_of {α β : Type} {p : α × β} {a : α} {b : β} (h : p = (a, b)) : p.2 = b := by
  subst h; rfl

/-- The convolution's rows of a tile, as the body of a point finds them. -/
theorem up_at (t : Fin cfg0.N) (r : Fin 512) (k : Fin 5632) :
    up (blockWeights (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t))
      (blockToken (iblk m c 0 t) (iblk m c 1 t) (iblk m c 2 t) (iblk m c 3 t) (iblk m c 4 t) r) k
      = up (W0 m c) (T0 m c (seqOf t) (posOf t r)) k := by
  rw [weights_at, token_at]

/-- **What a point hands on**: its first eight scratch rows hold the convolution's rows of the tile's last eight tokens. -/
theorem carry_at (t : Fin cfg0.N) (r : Fin 8) (k : Fin 5632) :
    (outsAt0 m c t.val t.isLt).2 (ix2 (⟨r.val, by omega⟩ : Fin 264) k)
      = up (W0 m c) (T0 m c (seqOf t) (posOf t ⟨504 + r.val, by omega⟩)) k := by
  have hu := up_at m c t ⟨256 + (248 + r.val), by omega⟩ k
  have hp : (⟨256 + (248 + r.val), by omega⟩ : Fin 512) = ⟨504 + r.val, by omega⟩ := Fin.ext (by show 256 + (248 + r.val) = 504 + r.val; omega)
  refine Eq.trans ?_ (hu.trans (congrArg (fun q => up (W0 m c) (T0 m c (seqOf t) (posOf t q)) k) hp))
  by_cases h0 : t.val % 8 = 0
  · refine (congrFun (snd_of (outsAt0_A m c t h0)) _).trans ?_
    exact (carry_run_start c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) ((hcond0_0 t).mpr h0) r k).trans
      (secondU_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) ⟨248 + r.val, by omega⟩ k)
  · refine (congrFun (snd_of (outsAt0_B m c t h0)) _).trans ?_
    exact (carry_run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (fun h => h0 ((hcond0_0 t).mp h)) _ r k).trans
      (secondU_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) ⟨248 + r.val, by omega⟩ k)

/-- The row one token back, read in the tile or in what was handed on, is the row one token back in the sequence. -/
theorem back1_before (u : Fin 4096 → Fin 5632 → EReal) (j : ℕ) (hj : j < 8) (a : Fin 5632 → EReal) (r : Fin 512) (h : before 1 u (512 * j) = a) :
    back1 a (fun q => u ⟨512 * j + q.val, by omega⟩) r = before 1 u (512 * j + r.val) := by
  unfold back1
  by_cases hr : r.val = 0
  · rw [if_pos hr, hr]; exact h.symm
  · rw [if_neg hr]
    funext k
    unfold before
    rw [dif_pos ⟨by omega, by omega⟩]
    exact congrArg (fun q => u q k) (Fin.ext (by show 512 * j + (r.val - 1) = 512 * j + r.val - 1; omega))

/-- The row two tokens back, read in the tile or in what was handed on, is the row two tokens back in the sequence. -/
theorem back2_before (u : Fin 4096 → Fin 5632 → EReal) (j : ℕ) (hj : j < 8) (b a : Fin 5632 → EReal) (r : Fin 512)
    (hb : before 2 u (512 * j) = b) (ha : before 2 u (512 * j + 1) = a) :
    back2 b a (fun q => u ⟨512 * j + q.val, by omega⟩) r = before 2 u (512 * j + r.val) := by
  unfold back2
  by_cases hr : r.val = 0
  · rw [if_pos hr, hr]; exact hb.symm
  · rw [if_neg hr]
    by_cases hr1 : r.val = 1
    · rw [if_pos hr1, hr1]; exact ha.symm
    · rw [if_neg hr1]
      funext k
      unfold before
      rw [dif_pos ⟨by omega, by omega⟩]
      exact congrArg (fun q => u q k) (Fin.ext (by show 512 * j + (r.val - 2) = 512 * j + r.val - 2; omega))

/-- A row less far back than the sequence's start is zero. -/
theorem before_zero (n : ℕ) (u : Fin 4096 → Fin 5632 → EReal) (s : ℕ) (h : s < n) : before n u s = fun _ => 0 := by
  funext k
  unfold before
  rw [dif_neg (by omega)]

/-- A row inside the sequence. -/
theorem before_pos (n : ℕ) (u : Fin 4096 → Fin 5632 → EReal) (s : ℕ) (q : Fin 4096) (h : n ≤ s ∧ s < 4096) (hq : s - n = q.val) :
    before n u s = u q := by
  funext k
  unfold before
  rw [dif_pos h]
  exact congrArg (fun q => u q k) (Fin.ext hq)

/-- The tile's rows put together are the sequence's, once the two rows handed on are those before the tile. -/
theorem tile_block (t : Fin cfg0.N) (a b : Fin 5632 → EReal) (r : Fin 512) (q : Fin 1024)
    (h1 : before 1 (fun s => up (W0 m c) (T0 m c (seqOf t) s)) (512 * (t.val % 8)) = a)
    (h2 : before 2 (fun s => up (W0 m c) (T0 m c (seqOf t) s)) (512 * (t.val % 8)) = b)
    (h3 : before 2 (fun s => up (W0 m c) (T0 m c (seqOf t) s)) (512 * (t.val % 8) + 1) = a) :
    bothO (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) b a (ix3 0 r q)
      = block gluKer (W0 m c) (T0 m c (seqOf t)) (posOf t r) q := by
  refine (bothO_apply ..).trans ?_
  have hU : (fun r => up (blockWeights (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t))
      (blockToken (iblk m c 0 t) (iblk m c 1 t) (iblk m c 2 t) (iblk m c 3 t) (iblk m c 4 t) r))
      = fun r => up (W0 m c) (T0 m c (seqOf t) (posOf t r)) := funext fun r => funext fun k => up_at m c t r k
  have hp : posOf t r = ⟨512 * (t.val % 8) + r.val, by omega⟩ := rfl
  rw [hU, weights_at, token_at]
  unfold block
  rw [show back1 a (fun r => up (W0 m c) (T0 m c (seqOf t) (posOf t r))) r = _ from
      back1_before (fun s => up (W0 m c) (T0 m c (seqOf t) s)) (t.val % 8) (by omega) a r h1,
    show back2 b a (fun r => up (W0 m c) (T0 m c (seqOf t) (posOf t r))) r = _ from
      back2_before (fun s => up (W0 m c) (T0 m c (seqOf t) s)) (t.val % 8) (by omega) b a r h2 h3,
    before_pos 0 (fun s => up (W0 m c) (T0 m c (seqOf t) s)) (posOf t r).val (posOf t r) ⟨Nat.zero_le _, (posOf t r).isLt⟩ rfl]
  rfl

/-- **What a point leaves in its tile of the result.** -/
theorem out_at (t : Fin cfg0.N) (r : Fin 512) (q : Fin 1024) :
    (outsAt0 m c t.val t.isLt).1 (ix3 0 r q) = block gluKer (W0 m c) (T0 m c (seqOf t)) (posOf t r) q := by
  by_cases h0 : t.val % 8 = 0
  · refine (congrFun (fst_of (outsAt0_A m c t h0)) _).trans ?_
    refine (congrFun (out_run_start c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) ((hcond0_0 t).mpr h0)) (ix3 0 r q)).trans ?_
    exact tile_block m c t _ _ r q (before_zero _ _ _ (by omega)) (before_zero _ _ _ (by omega)) (before_zero _ _ _ (by omega))
  · have ht := point_lt t
    have hN : cfg0.N = 64 := N_0
    refine (congrFun (fst_of (outsAt0_B m c t h0)) _).trans ?_
    refine (congrFun (out_run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (fun h => h0 ((hcond0_0 t).mp h)) _) (ix3 0 r q)).trans ?_
    have hs : seqOf (⟨t.val - 1, by omega⟩ : Fin cfg0.N) = seqOf t := Fin.ext (by show (t.val - 1) / 8 = t.val / 8; omega)
    have hrow (n : Fin 8) : (fun k => (outsAt0 m c (t.val - 1) (by omega)).2 (ix2 (⟨n.val, by omega⟩ : Fin 264) k))
        = fun k => up (W0 m c) (T0 m c (seqOf t) (posOf (⟨t.val - 1, by omega⟩ : Fin cfg0.N) ⟨504 + n.val, by omega⟩)) k := by
      funext k
      rw [← hs]
      exact carry_at m c ⟨t.val - 1, by omega⟩ n k
    refine tile_block m c t _ _ r q ?_ ?_ ?_
    · refine Eq.trans ?_ (hrow ⟨7, by decide⟩).symm
      exact before_pos _ _ _ _ ⟨by omega, by omega⟩ (by show 512 * (t.val % 8) - 1 = 512 * ((t.val - 1) % 8) + (504 + 7); omega)
    · refine Eq.trans ?_ (hrow ⟨6, by decide⟩).symm
      exact before_pos _ _ _ _ ⟨by omega, by omega⟩ (by show 512 * (t.val % 8) - 2 = 512 * ((t.val - 1) % 8) + (504 + 6); omega)
    · refine Eq.trans ?_ (hrow ⟨7, by decide⟩).symm
      exact before_pos _ _ _ _ ⟨by omega, by omega⟩ (by show 512 * (t.val % 8) + 1 - 2 = 512 * ((t.val - 1) % 8) + (504 + 7); omega)

/-- **The kernel's result at every entry**: the closing block at one position of one sequence. -/
theorem result_apply (b : Fin 8) (s : Fin 4096) (q : Fin 1024) :
    G18 m c (ix3 b s q) = block gluKer (W0 m c) (T0 m c b) s q := by
  have hN : cfg0.N = 64 := N_0
  have hp : pt18Of (ix3 b s q) = 8 * b.val + s.val / 512 := by
    show 8 * (b.val / 1 - 0) + 1 * (s.val / 512 - 0) + 1 * (q.val / 1024 - 0) = _
    omega
  have hlt : pt18Of (ix3 b s q) < cfg0.N := by omega
  have hl : loc18Of (ix3 b s q) = ix3 0 (⟨s.val % 512, by omega⟩ : Fin 512) q := by
    funext a
    refine Fin.ext ?_
    match a with
    | ⟨0, _⟩ => show b.val % 1 = 0; omega
    | ⟨1, _⟩ => rfl
    | ⟨2, _⟩ => show q.val % 1024 = q.val; omega
  have ho := out_at m c ⟨pt18Of (ix3 b s q), hlt⟩ ⟨s.val % 512, by omega⟩ q
  have hb : seqOf ⟨pt18Of (ix3 b s q), hlt⟩ = b := Fin.ext (by show pt18Of (ix3 b s q) / 8 = b.val; omega)
  have hs : posOf ⟨pt18Of (ix3 b s q), hlt⟩ ⟨s.val % 512, by omega⟩ = s :=
    Fin.ext (by show 512 * (pt18Of (ix3 b s q) % 8) + s.val % 512 = s.val; omega)
  rw [hb, hs] at ho
  refine Eq.trans ?_ ho
  unfold G18
  rw [dif_pos hlt, hl, outsAt0_sweep]

end Cert.PostRun

end
-- ==== Proof.PostClaims.lean ====
module

public import proofs.«01_k».proof.Defs
public import proofs.«01_k».proof.Proof.Gen.Post
public import proofs.«01_k».proof.Proof.Gen.Post.Frame
public import proofs.«01_k».proof.Proof.PostArray
public import Idealize.ShloMosaic.Lib.Quiescent

@[expose] public section

/-!
# The claims about the closing block

The three frames, the two named constants, and the equality of the kernel's and the reference's results.
-/

set_option maxRecDepth 16384

noncomputable section

namespace Cert.PostRun

open Idealize.ShloMosaic Idealize.ShloMosaic.TcCoe Idealize.SL.Sem
open Cert.PostIdeal Cert.PostIdeal.Gen Cert.PostIdeal.Value
open Cert.PostRow hiding sig

/-- **The two results are one array**: entry by entry the kernel's is the closing block with the gate written by
    the exponential, the reference's the same block with the gate written by the hyperbolic tangent, and the two
    gates are one function. -/
theorem result_eq (m : (ℓ : Loc nD τ sig) → Buf (Elt Ideal) ℓ) (c : Dev nD) :
    G18 m c = Cert.PostRefIdeal.Read.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  rw [Cert.PostRow.href_eq]
  funext j
  have hj : j = ix3 (j 0) (j 1) (j 2) := by
    funext a
    match a with
    | ⟨0, _⟩ => rfl
    | ⟨1, _⟩ => rfl
    | ⟨2, _⟩ => rfl
  rw [hj]
  refine (result_apply m c (j 0) (j 1) (j 2)).trans ?_
  refine Eq.trans ?_ (href_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (j 0) (j 1) (j 2)).symm
  rw [show gluKer = gluRef from funext gluKer_eq]
  rfl

/-- The ideal reference runs to the end and leaves its arguments alone. -/
theorem frame_reference : Cert.quiescent_PostRefIdeal := fun m ρ _ =>
  (θ_run Cert.PostRefIdeal.defs _ _).mono (fun r h => ⟨fun c => (h c).2, sem_eq_zero_of_no_sems (by decide) r.2⟩)
    (Cert.PostRefIdeal.Value.run (F := Ideal) m ρ)

/-- The kernel's two named constants have the values their names are given. -/
theorem preserves : Cert.preserves_Post_PostIdeal :=
  ⟨IdealRules.named_const.statement Cert.PostIdeal.κ "k3" .f32 0xBDD2D3E8#32 (((-((6693141 / 4194304) * (Real.log 2)⁻¹)) * (12003091 / 268435456) : ℝ) : EReal) rfl,
    IdealRules.named_const.statement Cert.PostIdeal.κ "k1" .f32 0xC0135761#32 ((-((6693141 / 4194304) * (Real.log 2)⁻¹) : ℝ) : EReal) rfl⟩

/-- **From equal arguments the ideal kernel and the ideal reference end with equal results.** -/
theorem algebraic : Cert.algebraic_PostIdeal_PostRefIdeal := by
  intro m ρ m' ρ' _ hagree
  refine ⟨_, Cert.PostIdeal.Value.run (F := Ideal) m ρ, ?_⟩
  refine (θ_run Cert.PostRefIdeal.defs _ _).mono (fun _ h c => ⟨(h c).1.trans ?_, (h c).2⟩)
    (Cert.PostRefIdeal.Value.run (F := Ideal) m' ρ')
  refine (Cert.PostRefIdeal.Read.val_main_v116_eq (StableHlo.launchContents m' c)).trans ?_
  obtain ⟨h0, h1, h2, h3, h4, h5, h6, h7, h8, h9, h10, h11, h12, h13, h14, h15, h16, h17⟩ := hagree c
  refine Eq.trans ?_ (result_eq m c).symm
  rw [← h0, ← h1, ← h2, ← h3, ← h4, ← h5, ← h6, ← h7, ← h8, ← h9, ← h10, ← h11, ← h12, ← h13, ← h14, ← h15, ← h16, ← h17]

end Cert.PostRun

end
-- ==== Proof.InRow.lean ====
module

public import proofs.«01_k».proof.Proof.PostRow

@[expose] public section

/-!
# One token of the layer's input projection, over the extended reals

The input projection reads one token's residual row and position, and the weights. This module names what it
computes from them: the normalised row times the joint projection, the rotary rotation of the heads, the two
low-rank projections and the gates. The kernel's blocks and the reference's arrays are both read as these.
-/

noncomputable section

namespace Cert.InRow

open Idealize.ShloMosaic
open Cert.PostRow (lin eps width)
open scoped BigOperators

/-- A row scaled by the reciprocal root of its mean square, the length of the row being `w`, and by the gain. -/
def normed {n : ℕ} (w : EReal) (t g : Fin n → EReal) (c : Fin n) : EReal :=
  t c * Ideal.rsqrt (Ideal.div (∑ k, t k * t k) w + eps) * g c

/-- The length of the query latent, `256`, as its float pattern's value. -/
def width256 : EReal := Ideal.ofBits .f32 0x43800000#32
/-- The length of the key-value latent, `128`, as its float pattern's value. -/
def width128 : EReal := Ideal.ofBits .f32 0x43000000#32
/-- The factor on the first mixer's queries. -/
def scaleA : EReal := Ideal.ofBits .f32 0x3E38AA3B#32
/-- The factor on the second mixer's queries. -/
def scaleB : EReal := Ideal.ofBits .f32 0x3E16C740#32

/-- The weights that the input projection reads. -/
structure Weights where
  /-- The gain before the mixers. -/
  gpre : Fin 1024 → EReal
  /-- The joint projection: first mixer's queries, keys, values, both latents, shared rotary key, gates. -/
  win : Fin 1024 → Fin 3232 → EReal
  /-- The gates' bias. -/
  bg : Fin 2048 → EReal
  /-- The gain of the query latent. -/
  qng : Fin 256 → EReal
  /-- The projection of the query latent to the heads, 96 columns each. -/
  wuq : Fin 256 → Fin 768 → EReal
  /-- The gain of the key-value latent. -/
  kvng : Fin 128 → EReal
  /-- The projection of the key-value latent to the heads, 64 key and 64 value columns each. -/
  wukv : Fin 128 → Fin 1024 → EReal
  /-- The rotary frequencies of the first mixer. -/
  inva : Fin 32 → EReal
  /-- The rotary frequencies of the second mixer. -/
  invb : Fin 16 → EReal

/-- What the input projection reads of one token. -/
structure Token where
  /-- The residual row. -/
  x : Fin 1024 → EReal
  /-- The position. -/
  pos : EReal

variable (W : Weights) (t : Token)

/-- The normalised row times the joint projection. -/
def z : Fin 3232 → EReal := lin (normed width t.x W.gpre) W.win

/-- The cosine of the token's angle at a frequency of the first mixer. -/
def cosA (i : Fin 32) : EReal := Ideal.cos (t.pos * W.inva i)
/-- The sine of the token's angle at a frequency of the first mixer. -/
def sinA (i : Fin 32) : EReal := Ideal.sin (t.pos * W.inva i)
/-- The cosine of the token's angle at a frequency of the second mixer. -/
def cosB (i : Fin 16) : EReal := Ideal.cos (t.pos * W.invb i)
/-- The sine of the token's angle at a frequency of the second mixer. -/
def sinB (i : Fin 16) : EReal := Ideal.sin (t.pos * W.invb i)

/-- The first coordinate of a pair rotated by an angle. -/
def lo (c s a b : EReal) : EReal := a * c - b * s
/-- The second coordinate of a pair rotated by an angle. -/
def hi (c s a b : EReal) : EReal := b * c + a * s

/-- A head of the first mixer rotated: dimension `d` pairs with dimension `d + 32`. -/
def ropeA (f : Fin 64 → EReal) (d : Fin 64) : EReal :=
  if h : d.val < 32 then lo (cosA W t ⟨d.val, h⟩) (sinA W t ⟨d.val, h⟩) (f d) (f ⟨d.val + 32, by omega⟩)
  else hi (cosA W t ⟨d.val - 32, by omega⟩) (sinA W t ⟨d.val - 32, by omega⟩) (f ⟨d.val - 32, by omega⟩) (f d)

/-- The rotary dimensions of a head of the second mixer rotated: dimension `d` pairs with dimension `d + 16`. -/
def ropeB (f : Fin 32 → EReal) (d : Fin 32) : EReal :=
  if h : d.val < 16 then lo (cosB W t ⟨d.val, h⟩) (sinB W t ⟨d.val, h⟩) (f d) (f ⟨d.val + 16, by omega⟩)
  else hi (cosB W t ⟨d.val - 16, by omega⟩) (sinB W t ⟨d.val - 16, by omega⟩) (f ⟨d.val - 16, by omega⟩) (f d)

/-- The first mixer's query of head `h`, scaled. -/
def qaHead (h : Fin 8) (d : Fin 64) : EReal := ropeA W t (fun e => z W t ⟨64 * h.val + e.val, by omega⟩) d * scaleA
/-- The first mixer's key of head `h`. -/
def kaHead (h : Fin 2) (d : Fin 64) : EReal := ropeA W t (fun e => z W t ⟨512 + 64 * h.val + e.val, by omega⟩) d
/-- The first mixer's values, side by side. -/
def va (r : Fin 128) : EReal := z W t ⟨640 + r.val, by omega⟩

/-- The query latent projected to the heads. -/
def q : Fin 768 → EReal := lin (normed width256 (fun l : Fin 256 => z W t ⟨768 + l.val, by omega⟩) W.qng) W.wuq
/-- The key-value latent projected to the heads. -/
def kv : Fin 1024 → EReal := lin (normed width128 (fun l : Fin 128 => z W t ⟨1024 + l.val, by omega⟩) W.kvng) W.wukv

/-- The second mixer's query of head `h`, scaled and padded by zeros to 128 dimensions. -/
def qbHead (h : Fin 8) (d : Fin 128) : EReal :=
  if h1 : d.val < 64 then q W t ⟨96 * h.val + d.val, by omega⟩ * scaleB
  else if h2 : d.val < 96 then ropeB W t (fun e => q W t ⟨96 * h.val + 64 + e.val, by omega⟩) ⟨d.val - 64, by omega⟩ * scaleB
  else 0
/-- The second mixer's key of head `h`, padded by zeros to 128 dimensions. -/
def kbHead (h : Fin 8) (d : Fin 128) : EReal :=
  if h1 : d.val < 64 then kv W t ⟨128 * h.val + d.val, by omega⟩
  else if h2 : d.val < 96 then ropeB W t (fun e => z W t ⟨1152 + e.val, by omega⟩) ⟨d.val - 64, by omega⟩
  else 0
/-- The second mixer's value of head `h`. -/
def vbHead (h : Fin 8) (d : Fin 64) : EReal := kv W t ⟨128 * h.val + 64 + d.val, by omega⟩

/-- The first mixer's queries, the heads side by side. -/
def qa (r : Fin 512) : EReal := qaHead W t ⟨r.val / 64, by omega⟩ ⟨r.val % 64, by omega⟩
/-- The first mixer's keys, the heads side by side. -/
def ka (r : Fin 128) : EReal := kaHead W t ⟨r.val / 64, by omega⟩ ⟨r.val % 64, by omega⟩
/-- The second mixer's queries, the heads side by side. -/
def qb (r : Fin 1024) : EReal := qbHead W t ⟨r.val / 128, by omega⟩ ⟨r.val % 128, by omega⟩
/-- The second mixer's keys, the heads side by side. -/
def kb (r : Fin 1024) : EReal := kbHead W t ⟨r.val / 128, by omega⟩ ⟨r.val % 128, by omega⟩
/-- The second mixer's values, the heads side by side. -/
def vb (r : Fin 512) : EReal := vbHead W t ⟨r.val / 64, by omega⟩ ⟨r.val % 64, by omega⟩
/-- The gates of the two branches. -/
def gates (k : Fin 2048) : EReal := Cert.PostRow.sig (z W t ⟨1184 + k.val, by omega⟩ + W.bg k)

/-- A rotation's first coordinate is linear in a finite nonnegative factor. -/
theorem lo_scale (σ c s a b : EReal) (h0 : 0 ≤ σ) (h1 : σ ≠ ⊤) : lo c s (a * σ) (b * σ) = lo c s a b * σ := by
  unfold lo
  rw [mul_right_comm a, mul_right_comm b, mul_comm (a * c - b * s), sub_eq_add_neg (a * c),
    EReal.left_distrib_of_nonneg_of_ne_top h0 h1, mul_neg, mul_comm σ, mul_comm σ, ← sub_eq_add_neg]
/-- A rotation's second coordinate is linear in a finite nonnegative factor. -/
theorem hi_scale (σ c s a b : EReal) (h0 : 0 ≤ σ) (h1 : σ ≠ ⊤) : hi c s (a * σ) (b * σ) = hi c s a b * σ := by
  unfold hi
  rw [mul_right_comm a, mul_right_comm b, mul_comm (b * c + a * s),
    EReal.left_distrib_of_nonneg_of_ne_top h0 h1, mul_comm σ, mul_comm σ]

/-- A rotated head's dimension in its first half. -/
theorem ropeA_lo (f : Fin 64 → EReal) (d : Fin 64) (i : Fin 32) (h : d.val = i.val) :
    ropeA W t f d = lo (cosA W t i) (sinA W t i) (f ⟨i.val, by omega⟩) (f ⟨i.val + 32, by omega⟩) := by
  refine (congrArg (ropeA W t f) (Fin.ext h : d = ⟨i.val, by omega⟩)).trans ?_
  exact dif_pos i.isLt
/-- A rotated head's dimension in its second half. -/
theorem ropeA_hi (f : Fin 64 → EReal) (d : Fin 64) (i : Fin 32) (h : d.val = i.val + 32) :
    ropeA W t f d = hi (cosA W t i) (sinA W t i) (f ⟨i.val, by omega⟩) (f ⟨i.val + 32, by omega⟩) := by
  refine (congrArg (ropeA W t f) (Fin.ext h : d = ⟨i.val + 32, by omega⟩)).trans ?_
  refine (dif_neg (by simp)).trans ?_
  simp only [Nat.add_sub_cancel]
/-- A rotated rotary part's dimension in its first half. -/
theorem ropeB_lo (f : Fin 32 → EReal) (d : Fin 32) (i : Fin 16) (h : d.val = i.val) :
    ropeB W t f d = lo (cosB W t i) (sinB W t i) (f ⟨i.val, by omega⟩) (f ⟨i.val + 16, by omega⟩) := by
  refine (congrArg (ropeB W t f) (Fin.ext h : d = ⟨i.val, by omega⟩)).trans ?_
  exact dif_pos i.isLt
/-- A rotated rotary part's dimension in its second half. -/
theorem ropeB_hi (f : Fin 32 → EReal) (d : Fin 32) (i : Fin 16) (h : d.val = i.val + 16) :
    ropeB W t f d = hi (cosB W t i) (sinB W t i) (f ⟨i.val, by omega⟩) (f ⟨i.val + 16, by omega⟩) := by
  refine (congrArg (ropeB W t f) (Fin.ext h : d = ⟨i.val + 16, by omega⟩)).trans ?_
  refine (dif_neg (by simp)).trans ?_
  simp only [Nat.add_sub_cancel]

/-- The queries of the first mixer at row `r` of head `h`. -/
theorem qa_head (r : Fin 512) (h : Fin 8) (d : Fin 64) (e : r.val = 64 * h.val + d.val) : qa W t r = qaHead W t h d := by
  unfold qa
  congr 1 <;> (apply Fin.ext; show _ = _; simp only [e]; omega)
/-- The keys of the first mixer at row `r` of head `h`. -/
theorem ka_head (r : Fin 128) (h : Fin 2) (d : Fin 64) (e : r.val = 64 * h.val + d.val) : ka W t r = kaHead W t h d := by
  unfold ka
  congr 1 <;> (apply Fin.ext; show _ = _; simp only [e]; omega)
/-- The queries of the second mixer at row `r` of head `h`. -/
theorem qb_head (r : Fin 1024) (h : Fin 8) (d : Fin 128) (e : r.val = 128 * h.val + d.val) : qb W t r = qbHead W t h d := by
  unfold qb
  congr 1 <;> (apply Fin.ext; show _ = _; simp only [e]; omega)
/-- The keys of the second mixer at row `r` of head `h`. -/
theorem kb_head (r : Fin 1024) (h : Fin 8) (d : Fin 128) (e : r.val = 128 * h.val + d.val) : kb W t r = kbHead W t h d := by
  unfold kb
  congr 1 <;> (apply Fin.ext; show _ = _; simp only [e]; omega)
/-- The values of the second mixer at row `r` of head `h`. -/
theorem vb_head (r : Fin 512) (h : Fin 8) (d : Fin 64) (e : r.val = 64 * h.val + d.val) : vb W t r = vbHead W t h d := by
  unfold vb
  congr 1 <;> (apply Fin.ext; show _ = _; simp only [e]; omega)

/-- The factor on the second mixer's queries is a nonnegative real. -/
theorem scaleB_real : ∃ r : ℝ, 0 ≤ r ∧ scaleB = (r : EReal) := by
  refine ⟨9881408 / 67108864, by norm_num, ?_⟩
  simp [scaleB, Ideal.ofBits, Ideal.ieee, -EReal.coe_mul]; norm_num

/-- The factor on the second mixer's queries is not negative. -/
theorem scaleB_nonneg : 0 ≤ scaleB := by
  obtain ⟨r, h, e⟩ := scaleB_real
  rw [e]
  exact_mod_cast h
/-- The factor on the second mixer's queries is finite. -/
theorem scaleB_ne_top : scaleB ≠ ⊤ := by
  obtain ⟨r, -, e⟩ := scaleB_real
  rw [e]
  exact EReal.coe_ne_top r

end Cert.InRow

end
-- ==== Proof.InBlock.lean ====
module

public import proofs.«01_k».proof.Proof.InRow
public import proofs.«01_k».proof.Proof.Gen.InIdeal.Skeleton
public import Idealize.ShloMosaic.Lib.Pointwise
public import Idealize.ShloMosaic.Lib.ValueLayout
public import Idealize.ShloMosaic.Lib.Pipeline.Value

@[expose] public section

/-!
# What the kernel computes on a slab of 256 tokens

The kernel's body works on four slabs of 256 tokens, one below the other: most of its arrays have a column for each
token. These are its array operations, named once and read at an entry as the row functions of the input projection.
-/

set_option maxRecDepth 16384

noncomputable section

namespace Cert.InRow

open Idealize.ShloMosaic
open Cert.InIdeal Cert.InIdeal.Facts₀
open Cert.PostRow (lin eps width)
open scoped BigOperators

/-- A slab of 256 rows normalised, with the gain. -/
def hB (x : Vec Ideal S1x256x1024 .f32) (g : Vec Ideal S1x1024 .f32) : FVec Ideal S256x1024 .bf16 :=
  truncf .bf16 (mulf (mulf (shapeCast S256x1024 x shapeCasts_S1x256x1024_S256x1024) (broadcastTo S256x1024 (rsqrt (addf (divf (shapeCast S256x1
    (multiReduction .add [1] S256 (mulf (shapeCast S256x1024 x shapeCasts_S1x256x1024_S256x1024) (shapeCast S256x1024 x shapeCasts_S1x256x1024_S256x1024))
      0x00000000#32 reduces_S256x1024_S256 (.inl rfl) rfl) shapeCasts_S256_S256x1)
    (broadcast S256x1 (Scalar.ofBits .f32 0x44800000#32))) (broadcast S256x1 (Scalar.ofBits .f32 0x358637BD#32))))
    broadcasts_S256x1_S256x1024))
    (broadcastTo S256x1024 (shapeCast S1x1024 g shapeCasts_S1x1024_S1x1024) broadcasts_S1x1024_S256x1024)) bitsLt_bf16_f32

/-- Each row of the normalised slab is the row normalised. -/
theorem hB_apply (x : Vec Ideal S1x256x1024 .f32) (g : Vec Ideal S1x1024 .f32) (r : Fin 256) (c : Fin 1024) :
    hB x g (ix2 r c) = normed width (fun c => x (ix3 0 r c)) (fun c => g (ix2 0 c)) c := by
  unfold hB normed width eps
  pointwise

/-- The feature-major part of the joint projection, a column for each row of the slab. -/
def fmB (h : FVec Ideal S256x1024 .bf16) (w : Vec Ideal S1184x1024 .bf16) : FVec Ideal S1184x256 .f32 :=
  matmul (φ₁ := .bf16) (φ₂ := .bf16) dot_S1184x1024_S256x1024_S1184x256_1_1_0_0_n_n none
    (shapeCast S1184x1024 w shapeCasts_S1184x1024_S1184x1024) h (constant S1184x256 .f32 0x00000000#32)

/-- An entry of that part is the normalised row times the projection's column. -/
theorem fmB_apply (h : FVec Ideal S256x1024 .bf16) (w : Vec Ideal S1184x1024 .bf16) (k : Fin 1184) (q : Fin 256) :
    fmB h w (ix2 k q) = ∑ c : Fin 1024, h (ix2 q c) * w (ix2 k c) := by
  unfold fmB
  refine Eq.trans (b := ∑ c : Fin 1024, w (ix2 k c) * h (ix2 q c)) (by pointwise) ?_
  exact Finset.sum_congr rfl fun c _ => mul_comm _ _

/-- The gates of a slab. -/
def gatesB (h : FVec Ideal S256x1024 .bf16) (w : Vec Ideal S1024x2048 .bf16) (b : Vec Ideal S1x2048 .f32) : FVec Ideal S1x256x2048 .bf16 :=
  shapeCast S1x256x2048 (truncf .bf16 (divf (broadcast S256x2048 (Scalar.ofBits .f32 0x3F800000#32))
    (addf (broadcast S256x2048 (Scalar.ofBits .f32 0x3F800000#32)) (exp (subf (broadcast S256x2048 (Scalar.ofBits .f32 0x00000000#32))
      (addf (matmul (φ₁ := .bf16) (φ₂ := .bf16) dot_S256x1024_S1024x2048_S256x2048_1_0_0_1_n_n none h
          (shapeCast S1024x2048 w shapeCasts_S1024x2048_S1024x2048) (constant S256x2048 .f32 0x00000000#32))
        (broadcastTo S256x2048 (shapeCast S1x2048 b shapeCasts_S1x2048_S1x2048) broadcasts_S1x2048_S256x2048)))))) bitsLt_bf16_f32)
    shapeCasts_S256x2048_S1x256x2048

/-- A gate of a slab is the logistic function of its projection and bias. -/
theorem gatesB_apply (h : FVec Ideal S256x1024 .bf16) (w : Vec Ideal S1024x2048 .bf16) (b : Vec Ideal S1x2048 .f32) (q : Fin 256) (k : Fin 2048) :
    gatesB h w b (ix3 0 q k) = Cert.PostRow.sig (lin (fun c => h (ix2 q c)) (fun c k => w (ix2 c k)) k + b (ix2 0 k)) := by
  unfold gatesB Cert.PostRow.sig Cert.PostRow.one lin
  refine Eq.trans (b := Ideal.div (Ideal.ofBits .f32 0x3F800000#32) (Ideal.ofBits .f32 0x3F800000#32
    + Ideal.exp (0 - ((∑ c : Fin 1024, h (ix2 q c) * w (ix2 c k)) + b (ix2 0 k))))) (by pointwise) ?_
  rw [zero_sub]

/-- The angles of a slab's tokens at the first mixer's frequencies. -/
def angA (p : Vec Ideal S1x1x256 .f32) (f : Vec Ideal S32x1 .f32) : FVec Ideal S32x256 .f32 :=
  mulf (broadcastTo S32x256 (shapeCast S1x256 p shapeCasts_S1x1x256_S1x256) broadcasts_S1x256_S32x256)
    (broadcastTo S32x256 (shapeCast S32x1 f shapeCasts_S32x1_S32x1) broadcasts_S32x1_S32x256)
/-- The angles of a slab's tokens at the second mixer's frequencies. -/
def angB (p : Vec Ideal S1x1x256 .f32) (f : Vec Ideal S16x1 .f32) : FVec Ideal S16x256 .f32 :=
  mulf (broadcastTo S16x256 (shapeCast S1x256 p shapeCasts_S1x1x256_S1x256) broadcasts_S1x256_S16x256)
    (broadcastTo S16x256 (shapeCast S16x1 f shapeCasts_S16x1_S16x1) broadcasts_S16x1_S16x256)

/-- An angle is the token's position times the frequency. -/
theorem angA_apply (p : Vec Ideal S1x1x256 .f32) (f : Vec Ideal S32x1 .f32) (i : Fin 32) (q : Fin 256) :
    angA p f (ix2 i q) = p (ix3 0 0 q) * f (ix2 i 0) := by unfold angA; pointwise
/-- An angle is the token's position times the frequency. -/
theorem angB_apply (p : Vec Ideal S1x1x256 .f32) (f : Vec Ideal S16x1 .f32) (i : Fin 16) (q : Fin 256) :
    angB p f (ix2 i q) = p (ix3 0 0 q) * f (ix2 i 0) := by unfold angB; pointwise

/-- The query latent of a slab normalised by columns, times the padded projection, scaled. -/
def qB (fm : FVec Ideal S1184x256 .f32) (w : Vec Ideal S1024x256 .bf16) (g : Vec Ideal S256x1 .f32) : FVec Ideal S1024x256 .f32 :=
  mulf (matmul (φ₁ := .bf16) (φ₂ := .bf16) dot_S1024x256_S256x256_S1024x256_1_0_0_1_n_n none (shapeCast S1024x256 w shapeCasts_S1024x256_S1024x256)
    (truncf .bf16 (mulf (mulf (extractStridedSlice S256x256 ![768, 0] fm slices_S1184x256_o768_0_S256x256)
      (broadcastTo S256x256 (rsqrt (addf (divf (shapeCast S1x256 (multiReduction .add [0] S256
        (mulf (extractStridedSlice S256x256 ![768, 0] fm slices_S1184x256_o768_0_S256x256) (extractStridedSlice S256x256 ![768, 0] fm slices_S1184x256_o768_0_S256x256))
        0x00000000#32 reduces_S256x256_S256 (.inl rfl) rfl) shapeCasts_S256_S1x256) (broadcast S1x256 (Scalar.ofBits .f32 0x43800000#32)))
        (broadcast S1x256 (Scalar.ofBits .f32 0x358637BD#32)))) broadcasts_S1x256_S256x256))
      (broadcastTo S256x256 (shapeCast S256x1 g shapeCasts_S256x1_S256x1) broadcasts_S256x1_S256x256)) bitsLt_bf16_f32)
    (constant S1024x256 .f32 0x00000000#32)) (broadcast S1024x256 (Scalar.ofBits .f32 0x3E16C740#32))

/-- An entry of the scaled queries. -/
theorem qB_apply (fm : FVec Ideal S1184x256 .f32) (w : Vec Ideal S1024x256 .bf16) (g : Vec Ideal S256x1 .f32) (r : Fin 1024) (q : Fin 256) :
    qB fm w g (ix2 r q) = (∑ l : Fin 256, normed width256 (fun l : Fin 256 => fm (ix2 ⟨768 + l.val, by omega⟩ q)) (fun l => g (ix2 l 0)) l * w (ix2 r l)) * scaleB := by
  unfold qB
  refine Eq.trans (b := (∑ l : Fin 256, w (ix2 r l) * normed width256 (fun l : Fin 256 => fm (ix2 ⟨768 + l.val, by omega⟩ q)) (fun l => g (ix2 l 0)) l) * scaleB)
    (by unfold normed width256 eps scaleB; pointwise) ?_
  exact congrArg (· * scaleB) (Finset.sum_congr rfl fun c _ => mul_comm _ _)

/-- The key-value latent of a slab normalised by columns, times the regrouped projection. -/
def kvB (fm : FVec Ideal S1184x256 .f32) (w : Vec Ideal S1024x128 .bf16) (g : Vec Ideal S128x1 .f32) : FVec Ideal S1024x256 .f32 :=
  matmul (φ₁ := .bf16) (φ₂ := .bf16) dot_S1024x128_S128x256_S1024x256_1_0_0_1_n_n none (shapeCast S1024x128 w shapeCasts_S1024x128_S1024x128)
    (truncf .bf16 (mulf (mulf (extractStridedSlice S128x256 ![1024, 0] fm slices_S1184x256_o1024_0_S128x256)
      (broadcastTo S128x256 (rsqrt (addf (divf (shapeCast S1x256 (multiReduction .add [0] S256
        (mulf (extractStridedSlice S128x256 ![1024, 0] fm slices_S1184x256_o1024_0_S128x256) (extractStridedSlice S128x256 ![1024, 0] fm slices_S1184x256_o1024_0_S128x256))
        0x00000000#32 reduces_S128x256_S256 (.inl rfl) rfl) shapeCasts_S256_S1x256) (broadcast S1x256 (Scalar.ofBits .f32 0x43000000#32)))
        (broadcast S1x256 (Scalar.ofBits .f32 0x358637BD#32)))) broadcasts_S1x256_S128x256))
      (broadcastTo S128x256 (shapeCast S128x1 g shapeCasts_S128x1_S128x1) broadcasts_S128x1_S128x256)) bitsLt_bf16_f32)
    (constant S1024x256 .f32 0x00000000#32)

/-- An entry of the projected key-value latent. -/
theorem kvB_apply (fm : FVec Ideal S1184x256 .f32) (w : Vec Ideal S1024x128 .bf16) (g : Vec Ideal S128x1 .f32) (r : Fin 1024) (q : Fin 256) :
    kvB fm w g (ix2 r q) = ∑ l : Fin 128, normed width128 (fun l : Fin 128 => fm (ix2 ⟨1024 + l.val, by omega⟩ q)) (fun l => g (ix2 l 0)) l * w (ix2 r l) := by
  unfold kvB
  refine Eq.trans (b := ∑ l : Fin 128, w (ix2 r l) * normed width128 (fun l : Fin 128 => fm (ix2 ⟨1024 + l.val, by omega⟩ q)) (fun l => g (ix2 l 0)) l)
    (by unfold normed width128 eps; pointwise) ?_
  exact Finset.sum_congr rfl fun c _ => mul_comm _ _

/-- The shared rotary key of a slab, rotated, above 32 rows of zeros. -/
def tailB (fm : FVec Ideal S1184x256 .f32) (c s : FVec Ideal S16x256 .f32) : FVec Ideal S64x256 .f32 :=
  concatenate S64x256 0 [⟨S16x256, subf
      (mulf (extractStridedSlice S16x256 ![0, 0] (extractStridedSlice S32x256 ![1152, 0] fm slices_S1184x256_o1152_0_S32x256) slices_S32x256_o0_0_S16x256) c)
      (mulf (extractStridedSlice S16x256 ![16, 0] (extractStridedSlice S32x256 ![1152, 0] fm slices_S1184x256_o1152_0_S32x256) slices_S32x256_o16_0_S16x256) s)⟩,
    ⟨S16x256, addf
      (mulf (extractStridedSlice S16x256 ![16, 0] (extractStridedSlice S32x256 ![1152, 0] fm slices_S1184x256_o1152_0_S32x256) slices_S32x256_o16_0_S16x256) c)
      (mulf (extractStridedSlice S16x256 ![0, 0] (extractStridedSlice S32x256 ![1152, 0] fm slices_S1184x256_o1152_0_S32x256) slices_S32x256_o0_0_S16x256) s)⟩,
    ⟨S32x256, broadcast S32x256 (Scalar.ofBits .f32 0x00000000#32)⟩] concatenates_S16x256_S16x256_S32x256_S64x256_d0

/-- An entry of the rotated shared key's first half. -/
theorem tailB_lo (fm : FVec Ideal S1184x256 .f32) (c s : FVec Ideal S16x256 .f32) (i : Fin 16) (q : Fin 256) :
    tailB fm c s (ix2 (⟨i.val, by omega⟩ : Fin 64) q)
      = lo (c (ix2 i q)) (s (ix2 i q)) (fm (ix2 ⟨1152 + i.val, by omega⟩ q)) (fm (ix2 ⟨1152 + (i.val + 16), by omega⟩ q)) := by
  unfold tailB lo
  pointwise
  simp only [Nat.add_comm 16]
/-- An entry of the rotated shared key's second half. -/
theorem tailB_hi (fm : FVec Ideal S1184x256 .f32) (c s : FVec Ideal S16x256 .f32) (i : Fin 16) (q : Fin 256) :
    tailB fm c s (ix2 (⟨i.val + 16, by omega⟩ : Fin 64) q)
      = hi (c (ix2 i q)) (s (ix2 i q)) (fm (ix2 ⟨1152 + i.val, by omega⟩ q)) (fm (ix2 ⟨1152 + (i.val + 16), by omega⟩ q)) := by
  unfold tailB hi
  pointwise
  rw [dif_neg (by omega), dif_pos (by omega)]
  simp only [Nat.add_sub_cancel, Nat.add_comm 16]
/-- An entry of the zeros under the shared key. -/
theorem tailB_zero (fm : FVec Ideal S1184x256 .f32) (c s : FVec Ideal S16x256 .f32) (i : Fin 32) (q : Fin 256) :
    tailB fm c s (ix2 (⟨i.val + 32, by omega⟩ : Fin 64) q) = 0 := by
  unfold tailB
  pointwise
  rw [dif_neg (by omega), dif_neg (by omega)]

end Cert.InRow

end
-- ==== Proof.InPiece.lean ====
module

public import proofs.«01_k».proof.Proof.InBlock
public import Idealize.ShloMosaic.Lib.Pipeline.ValueKit.Tiles

@[expose] public section

/-!
# What each store of the kernel's body writes

The body writes its seven output blocks in many stores: a half of a head, or a whole head, of one slab of 256 tokens
each. The slab's arrays are known by predicates that say which token's row function a column holds; each kind of store
then writes the part of one function of the block's index that its rectangle names, whatever head and slab it is.
-/

set_option maxRecDepth 16384

noncomputable section

namespace Cert.InRow

open Idealize.ShloMosaic
open Cert.InIdeal
open Cert.PostRow (lin eps width)
open scoped BigOperators

variable (W : Weights) (T : ℕ → Token) (t0 : ℕ)

/-- Row `r` of the slab is the normalised row of token `t0 + r`. -/
structure IsH (h : FVec Ideal S256x1024 .bf16) : Prop where
  /-- An entry. -/
  entry : ∀ (r : Fin 256) (c : Fin 1024), h (ix2 r c) = normed width (T (t0 + r.val)).x W.gpre c
/-- Column `q` of the array is the joint projection of token `t0 + q`. -/
structure IsFm (fm : FVec Ideal S1184x256 .f32) : Prop where
  /-- An entry. -/
  entry : ∀ (k : Fin 1184) (q : Fin 256), fm (ix2 k q) = z W (T (t0 + q.val)) ⟨k.val, by omega⟩
/-- Column `q` of the array holds the first mixer's cosines of token `t0 + q`. -/
structure IsCosA (c : FVec Ideal S32x256 .f32) : Prop where
  /-- An entry. -/
  entry : ∀ (i : Fin 32) (q : Fin 256), c (ix2 i q) = cosA W (T (t0 + q.val)) i
/-- Column `q` of the array holds the first mixer's sines of token `t0 + q`. -/
structure IsSinA (s : FVec Ideal S32x256 .f32) : Prop where
  /-- An entry. -/
  entry : ∀ (i : Fin 32) (q : Fin 256), s (ix2 i q) = sinA W (T (t0 + q.val)) i
/-- Column `q` of the array holds the second mixer's cosines of token `t0 + q`. -/
structure IsCosB (c : FVec Ideal S16x256 .f32) : Prop where
  /-- An entry. -/
  entry : ∀ (i : Fin 16) (q : Fin 256), c (ix2 i q) = cosB W (T (t0 + q.val)) i
/-- Column `q` of the array holds the second mixer's sines of token `t0 + q`. -/
structure IsSinB (s : FVec Ideal S16x256 .f32) : Prop where
  /-- An entry. -/
  entry : ∀ (i : Fin 16) (q : Fin 256), s (ix2 i q) = sinB W (T (t0 + q.val)) i
/-- Column `q` of the array holds the scaled second mixer's queries of token `t0 + q`, each head padded to 128 rows. -/
structure IsQ (u : FVec Ideal S1024x256 .f32) : Prop where
  /-- An entry of a head. -/
  entry : ∀ (r : Fin 1024) (q : Fin 256) (k : Fin 768), k.val = 96 * (r.val / 128) + r.val % 128 → r.val % 128 < 96 →
    u (ix2 r q) = Cert.InRow.q W (T (t0 + q.val)) k * scaleB
/-- Column `q` of the array holds the second mixer's keys, then values, of token `t0 + q`. -/
structure IsKv (u : FVec Ideal S1024x256 .f32) : Prop where
  /-- An entry of a head's keys. -/
  key : ∀ (r : Fin 1024) (q : Fin 256) (k : Fin 1024), r.val < 512 → k.val = 128 * (r.val / 64) + r.val % 64 →
    u (ix2 r q) = kv W (T (t0 + q.val)) k
  /-- An entry of a head's values. -/
  value : ∀ (r : Fin 1024) (q : Fin 256) (k : Fin 1024), 512 ≤ r.val → k.val = 128 * ((r.val - 512) / 64) + 64 + r.val % 64 →
    u (ix2 r q) = kv W (T (t0 + q.val)) k
/-- Column `q` of the array holds the rotated shared key of token `t0 + q`, then zeros. -/
structure IsTail (u : FVec Ideal S64x256 .f32) : Prop where
  /-- An entry of the rotated key. -/
  key : ∀ (d : Fin 64) (q : Fin 256) (h : d.val < 32),
    u (ix2 d q) = ropeB W (T (t0 + q.val)) (fun e => z W (T (t0 + q.val)) ⟨1152 + e.val, by omega⟩) ⟨d.val, h⟩
  /-- An entry of the zeros. -/
  zero : ∀ (d : Fin 64) (q : Fin 256), 32 ≤ d.val → u (ix2 d q) = 0

/-- The block whose column for token `n` is `f n`. -/
def colsG {A : ℕ} (f : ℕ → Fin A → EReal) (y : (⟨3, ![1, A, 1024]⟩ : Shape).Idx) : EReal := f (y (2 : Fin 3)).val (y (1 : Fin 3))
/-- The block whose row for token `n` is `f n`. -/
def rowsG {A : ℕ} (f : ℕ → Fin A → EReal) (y : (⟨3, ![1, 1024, A]⟩ : Shape).Idx) : EReal := f (y (1 : Fin 3)).val (y (2 : Fin 3))

variable {W T t0}

/-- A store of `n` rows of a slab writes its part of the block with a column for each token. -/
theorem cols_piece {A n o : ℕ} (f : ℕ → Fin A → EReal)
    {inb : ∀ a, (![0, o, t0] : Fin 3 → ℕ) a + (![1, n, 256] : Fin 3 → ℕ) a ≤ (⟨3, ![1, A, 1024]⟩ : Shape).size a}
    (P : (⟨3, ![1, n, 256]⟩ : Shape).Idx → EReal)
    (h : ∀ (i : Fin n) (q : Fin 256) (r : Fin A), r.val = o + i.val → P (ix3 0 i q) = f (t0 + q.val) r) (x : (⟨3, ![1, n, 256]⟩ : Shape).Idx) :
    P x = colsG f ((Rect.unit (s := ⟨3, ![1, A, 1024]⟩) ![0, o, t0] ![1, n, 256] inb).emb x) := by
  have e1 := Rect.idx_unit_val (s := ⟨3, ![1, A, 1024]⟩) ![0, o, t0] ![1, n, 256] inb x (1 : Fin 3)
  have e2 := Rect.idx_unit_val (s := ⟨3, ![1, A, 1024]⟩) ![0, o, t0] ![1, n, 256] inb x (2 : Fin 3)
  have hx : x = ix3 (0 : Fin 1) (x (1 : Fin 3)) (x (2 : Fin 3)) := by
    funext a
    match a with
    | ⟨0, _⟩ => exact Subsingleton.elim (α := Fin 1) _ _
    | ⟨1, _⟩ => rfl
    | ⟨2, _⟩ => rfl
  refine ((congrArg P hx).trans (h (x (1 : Fin 3)) (x (2 : Fin 3)) _ e1)).trans ?_
  exact congrArg (fun n => f n _) e2.symm

/-- A store of `n` columns of a slab writes its part of the block with a row for each token. -/
theorem rows_piece {A n o : ℕ} (f : ℕ → Fin A → EReal)
    {inb : ∀ a, (![0, t0, o] : Fin 3 → ℕ) a + (![1, 256, n] : Fin 3 → ℕ) a ≤ (⟨3, ![1, 1024, A]⟩ : Shape).size a}
    (P : (⟨3, ![1, 256, n]⟩ : Shape).Idx → EReal)
    (h : ∀ (q : Fin 256) (i : Fin n) (r : Fin A), r.val = o + i.val → P (ix3 0 q i) = f (t0 + q.val) r) (x : (⟨3, ![1, 256, n]⟩ : Shape).Idx) :
    P x = rowsG f ((Rect.unit (s := ⟨3, ![1, 1024, A]⟩) ![0, t0, o] ![1, 256, n] inb).emb x) := by
  have e1 := Rect.idx_unit_val (s := ⟨3, ![1, 1024, A]⟩) ![0, t0, o] ![1, 256, n] inb x (1 : Fin 3)
  have e2 := Rect.idx_unit_val (s := ⟨3, ![1, 1024, A]⟩) ![0, t0, o] ![1, 256, n] inb x (2 : Fin 3)
  have hx : x = ix3 (0 : Fin 1) (x (1 : Fin 3)) (x (2 : Fin 3)) := by
    funext a
    match a with
    | ⟨0, _⟩ => exact Subsingleton.elim (α := Fin 1) _ _
    | ⟨1, _⟩ => rfl
    | ⟨2, _⟩ => rfl
  refine ((congrArg P hx).trans (h (x (1 : Fin 3)) (x (2 : Fin 3)) _ e2)).trans ?_
  exact congrArg (fun n => f n _) e1.symm

/-- Rows `o` on of an array, at a row and a column. -/
theorem slice_rows {N n C o : ℕ} (X : (⟨2, ![N, C]⟩ : Shape).Idx → EReal) (h : (⟨2, ![N, C]⟩ : Shape).Slices ![o, 0] ⟨2, ![n, C]⟩)
    (i : Fin n) (q : Fin C) (r : Fin N) (e : r.val = o + i.val) :
    extractStridedSlice ⟨2, ![n, C]⟩ ![o, 0] X h (ix2 i q) = X (ix2 r q) :=
  congrArg X (funext fun a => Fin.ext (by
    match a with
    | ⟨0, _⟩ => exact e.symm
    | ⟨1, _⟩ => exact Nat.zero_add _))

/-- An array under one more axis of length one, at an index. -/
theorem cast_lead {a b : ℕ} (X : (⟨2, ![a, b]⟩ : Shape).Idx → EReal) (h : (⟨2, ![a, b]⟩ : Shape).ShapeCasts ⟨3, ![1, a, b]⟩) (i : Fin a) (q : Fin b) :
    shapeCast ⟨3, ![1, a, b]⟩ X h (ix3 0 i q) = X (ix2 i q) :=
  ValueIdx.shapeCast_ab_1ab_apply _ _ _ _ _

/-- Rows of the joint projection, at a row and a column. -/
theorem slice_fm {fm : FVec Ideal S1184x256 .f32} (hf : IsFm W T t0 fm) {n o : ℕ} (h : S1184x256.Slices ![o, 0] ⟨2, ![n, 256]⟩)
    (i : Fin n) (q : Fin 256) (k : Fin 3232) (e : k.val = o + i.val) :
    extractStridedSlice ⟨2, ![n, 256]⟩ ![o, 0] fm h (ix2 i q) = z W (T (t0 + q.val)) k := by
  have hh : o + n ≤ 1184 := h.2 (0 : Fin 2)
  refine (slice_rows fm h i q ⟨o + i.val, by omega⟩ rfl).trans ((hf.entry _ _).trans (congrArg _ (Fin.ext e.symm)))

/-- Rows of the second mixer's queries, at a row and a column. -/
theorem slice_q {u : FVec Ideal S1024x256 .f32} (hu : IsQ W T t0 u) {n o : ℕ} (h : S1024x256.Slices ![o, 0] ⟨2, ![n, 256]⟩)
    (i : Fin n) (q : Fin 256) (k : Fin 768) (e : k.val = 96 * ((o + i.val) / 128) + (o + i.val) % 128) (hlt : (o + i.val) % 128 < 96) :
    extractStridedSlice ⟨2, ![n, 256]⟩ ![o, 0] u h (ix2 i q) = Cert.InRow.q W (T (t0 + q.val)) k * scaleB := by
  have hh : o + n ≤ 1024 := h.2 (0 : Fin 2)
  exact (slice_rows u h i q ⟨o + i.val, by omega⟩ rfl).trans (hu.entry _ _ k e hlt)

section

variable {fm : FVec Ideal S1184x256 .f32} {c s : FVec Ideal S32x256 .f32} {cb sb : FVec Ideal S16x256 .f32} {u : FVec Ideal S1024x256 .f32}
  {o o2 : ℕ} {hb : FTy.bits .bf16 < FTy.bits .f32}

/-- The store of the first half of a head of the first mixer's queries. -/
theorem qa_lo_piece (hf : IsFm W T t0 fm) (hc : IsCosA W T t0 c) (hs : IsSinA W T t0 s) (ho : o % 64 = 0 ∧ o + 64 ≤ 512) (h2 : o2 = o + 32)
    {inb : ∀ a, (![0, o, t0] : Fin 3 → ℕ) a + S1x32x256.size a ≤ S1x512x1024.size a}
    {s1 : S1184x256.Slices ![o, 0] S32x256} {s2 : S1184x256.Slices ![o2, 0] S32x256} {sc : S32x256.ShapeCasts S1x32x256} (x : S1x32x256.Idx) :
    shapeCast S1x32x256 (truncf .bf16 (mulf (subf (mulf (extractStridedSlice S32x256 ![o, 0] fm s1) c) (mulf (extractStridedSlice S32x256 ![o2, 0] fm s2) s)) (broadcast S32x256 (Scalar.ofBits .f32 0x3E38AA3B#32))) hb) sc x
      = colsG (fun n => qa W (T n)) ((Rect.unit (s := S1x512x1024) ![0, o, t0] S1x32x256.size inb).emb x) := by
  refine cols_piece (fun n => qa W (T n)) (n := 32) _ (fun i q r hr => ?_) x
  refine (cast_lead _ sc i q).trans ?_
  show (extractStridedSlice S32x256 ![o, 0] fm s1 (ix2 i q) * c (ix2 i q) - extractStridedSlice S32x256 ![o2, 0] fm s2 (ix2 i q) * s (ix2 i q)) * scaleA = _
  rw [slice_fm hf s1 i q ⟨64 * (o / 64) + i.val, by omega⟩ (by (try dsimp only); omega),
    slice_fm hf s2 i q ⟨64 * (o / 64) + (i.val + 32), by omega⟩ (by (try dsimp only); omega), hc.entry, hs.entry,
    qa_head W _ r ⟨o / 64, by omega⟩ ⟨i.val, by omega⟩ (by (try dsimp only); omega)]
  unfold qaHead
  rw [ropeA_lo W _ _ _ i rfl]
  rfl

/-- The store of the second half of a head of the first mixer's queries. -/
theorem qa_hi_piece (hf : IsFm W T t0 fm) (hc : IsCosA W T t0 c) (hs : IsSinA W T t0 s) (ho : o % 64 = 0 ∧ o + 64 ≤ 512) (h2 : o2 = o + 32)
    {inb : ∀ a, (![0, o2, t0] : Fin 3 → ℕ) a + S1x32x256.size a ≤ S1x512x1024.size a}
    {s1 : S1184x256.Slices ![o, 0] S32x256} {s2 : S1184x256.Slices ![o2, 0] S32x256} {sc : S32x256.ShapeCasts S1x32x256} (x : S1x32x256.Idx) :
    shapeCast S1x32x256 (truncf .bf16 (mulf (addf (mulf (extractStridedSlice S32x256 ![o2, 0] fm s2) c) (mulf (extractStridedSlice S32x256 ![o, 0] fm s1) s)) (broadcast S32x256 (Scalar.ofBits .f32 0x3E38AA3B#32))) hb) sc x
      = colsG (fun n => qa W (T n)) ((Rect.unit (s := S1x512x1024) ![0, o2, t0] S1x32x256.size inb).emb x) := by
  refine cols_piece (fun n => qa W (T n)) (n := 32) _ (fun i q r hr => ?_) x
  refine (cast_lead _ sc i q).trans ?_
  show (extractStridedSlice S32x256 ![o2, 0] fm s2 (ix2 i q) * c (ix2 i q) + extractStridedSlice S32x256 ![o, 0] fm s1 (ix2 i q) * s (ix2 i q)) * scaleA = _
  rw [slice_fm hf s1 i q ⟨64 * (o / 64) + i.val, by omega⟩ (by (try dsimp only); omega),
    slice_fm hf s2 i q ⟨64 * (o / 64) + (i.val + 32), by omega⟩ (by (try dsimp only); omega), hc.entry, hs.entry,
    qa_head W _ r ⟨o / 64, by omega⟩ ⟨i.val + 32, by omega⟩ (by (try dsimp only); omega)]
  unfold qaHead
  rw [ropeA_hi W _ _ _ i rfl]
  rfl

/-- The store of the first half of a head of the first mixer's keys. -/
theorem ka_lo_piece {k1 k2 : ℕ} (hf : IsFm W T t0 fm) (hc : IsCosA W T t0 c) (hs : IsSinA W T t0 s) (ho : o % 64 = 0 ∧ o + 64 ≤ 128) (h2 : o2 = o + 32) (h3 : k1 = 512 + o) (h4 : k2 = 512 + o2)
    {inb : ∀ a, (![0, o, t0] : Fin 3 → ℕ) a + S1x32x256.size a ≤ S1x128x1024.size a}
    {s1 : S1184x256.Slices ![k1, 0] S32x256} {s2 : S1184x256.Slices ![k2, 0] S32x256} {sc : S32x256.ShapeCasts S1x32x256} (x : S1x32x256.Idx) :
    shapeCast S1x32x256 (truncf .bf16 (subf (mulf (extractStridedSlice S32x256 ![k1, 0] fm s1) c) (mulf (extractStridedSlice S32x256 ![k2, 0] fm s2) s)) hb) sc x
      = colsG (fun n => ka W (T n)) ((Rect.unit (s := S1x128x1024) ![0, o, t0] S1x32x256.size inb).emb x) := by
  refine cols_piece (fun n => ka W (T n)) (n := 32) _ (fun i q r hr => ?_) x
  refine (cast_lead _ sc i q).trans ?_
  show extractStridedSlice S32x256 ![k1, 0] fm s1 (ix2 i q) * c (ix2 i q) - extractStridedSlice S32x256 ![k2, 0] fm s2 (ix2 i q) * s (ix2 i q) = _
  rw [slice_fm hf s1 i q ⟨512 + 64 * (o / 64) + i.val, by omega⟩ (by (try dsimp only); omega),
    slice_fm hf s2 i q ⟨512 + 64 * (o / 64) + (i.val + 32), by omega⟩ (by (try dsimp only); omega), hc.entry, hs.entry,
    ka_head W _ r ⟨o / 64, by omega⟩ ⟨i.val, by omega⟩ (by (try dsimp only); omega)]
  unfold kaHead
  rw [ropeA_lo W _ _ _ i rfl]
  rfl

/-- The store of the second half of a head of the first mixer's keys. -/
theorem ka_hi_piece {k1 k2 : ℕ} (hf : IsFm W T t0 fm) (hc : IsCosA W T t0 c) (hs : IsSinA W T t0 s) (h2 : o2 = o + 32) (h3 : k1 = 512 + o) (h4 : k2 = 512 + o2) (ho : o % 64 = 0 ∧ o + 64 ≤ 128)
    {inb : ∀ a, (![0, o2, t0] : Fin 3 → ℕ) a + S1x32x256.size a ≤ S1x128x1024.size a}
    {s1 : S1184x256.Slices ![k1, 0] S32x256} {s2 : S1184x256.Slices ![k2, 0] S32x256} {sc : S32x256.ShapeCasts S1x32x256} (x : S1x32x256.Idx) :
    shapeCast S1x32x256 (truncf .bf16 (addf (mulf (extractStridedSlice S32x256 ![k2, 0] fm s2) c) (mulf (extractStridedSlice S32x256 ![k1, 0] fm s1) s)) hb) sc x
      = colsG (fun n => ka W (T n)) ((Rect.unit (s := S1x128x1024) ![0, o2, t0] S1x32x256.size inb).emb x) := by
  refine cols_piece (fun n => ka W (T n)) (n := 32) _ (fun i q r hr => ?_) x
  refine (cast_lead _ sc i q).trans ?_
  show extractStridedSlice S32x256 ![k2, 0] fm s2 (ix2 i q) * c (ix2 i q) + extractStridedSlice S32x256 ![k1, 0] fm s1 (ix2 i q) * s (ix2 i q) = _
  rw [slice_fm hf s1 i q ⟨512 + 64 * (o / 64) + i.val, by omega⟩ (by (try dsimp only); omega),
    slice_fm hf s2 i q ⟨512 + 64 * (o / 64) + (i.val + 32), by omega⟩ (by (try dsimp only); omega), hc.entry, hs.entry,
    ka_head W _ r ⟨o / 64, by omega⟩ ⟨i.val + 32, by omega⟩ (by (try dsimp only); omega)]
  unfold kaHead
  rw [ropeA_hi W _ _ _ i rfl]
  rfl

/-- The store of the first mixer's values. -/
theorem va_piece (hf : IsFm W T t0 fm) {inb : ∀ a, (![0, 0, t0] : Fin 3 → ℕ) a + S1x128x256.size a ≤ S1x128x1024.size a}
    {s1 : S1184x256.Slices ![640, 0] S128x256} {sc : S128x256.ShapeCasts S1x128x256} (x : S1x128x256.Idx) :
    shapeCast S1x128x256 (truncf .bf16 (extractStridedSlice S128x256 ![640, 0] fm s1) hb) sc x
      = colsG (fun n => va W (T n)) ((Rect.unit (s := S1x128x1024) ![0, 0, t0] S1x128x256.size inb).emb x) := by
  refine cols_piece (fun n => va W (T n)) (n := 128) _ (fun i q r hr => ?_) x
  refine (cast_lead _ sc i q).trans ?_
  exact slice_fm hf s1 i q _ (by (try dsimp only); omega)

/-- The store of the part of a head of the second mixer's queries that is not rotated. -/
theorem qb_nope_piece (hu : IsQ W T t0 u) (ho : o % 128 = 0 ∧ o + 128 ≤ 1024)
    {inb : ∀ a, (![0, o, t0] : Fin 3 → ℕ) a + S1x64x256.size a ≤ S1x1024x1024.size a}
    {s1 : S1024x256.Slices ![o, 0] S64x256} {sc : S64x256.ShapeCasts S1x64x256} (x : S1x64x256.Idx) :
    shapeCast S1x64x256 (truncf .bf16 (extractStridedSlice S64x256 ![o, 0] u s1) hb) sc x
      = colsG (fun n => qb W (T n)) ((Rect.unit (s := S1x1024x1024) ![0, o, t0] S1x64x256.size inb).emb x) := by
  refine cols_piece (fun n => qb W (T n)) (n := 64) _ (fun i q r hr => ?_) x
  refine (cast_lead _ sc i q).trans ?_
  refine (slice_q hu s1 i q ⟨96 * (o / 128) + i.val, by omega⟩ (by (try dsimp only); omega) (by omega)).trans ?_
  rw [qb_head W _ r ⟨o / 128, by omega⟩ ⟨i.val, by omega⟩ (by (try dsimp only); omega)]
  unfold qbHead
  rw [dif_pos i.isLt]

/-- The store of the first half of the rotated part of a head of the second mixer's queries. -/
theorem qb_lo_piece (hu : IsQ W T t0 u) (hc : IsCosB W T t0 cb) (hs : IsSinB W T t0 sb) (ho : o % 128 = 64 ∧ o + 64 ≤ 1024) (h2 : o2 = o + 16)
    {inb : ∀ a, (![0, o, t0] : Fin 3 → ℕ) a + S1x16x256.size a ≤ S1x1024x1024.size a}
    {s1 : S1024x256.Slices ![o, 0] S16x256} {s2 : S1024x256.Slices ![o2, 0] S16x256} {sc : S16x256.ShapeCasts S1x16x256} (x : S1x16x256.Idx) :
    shapeCast S1x16x256 (truncf .bf16 (subf (mulf (extractStridedSlice S16x256 ![o, 0] u s1) cb) (mulf (extractStridedSlice S16x256 ![o2, 0] u s2) sb)) hb) sc x
      = colsG (fun n => qb W (T n)) ((Rect.unit (s := S1x1024x1024) ![0, o, t0] S1x16x256.size inb).emb x) := by
  refine cols_piece (fun n => qb W (T n)) (n := 16) _ (fun i q r hr => ?_) x
  refine (cast_lead _ sc i q).trans ?_
  show extractStridedSlice S16x256 ![o, 0] u s1 (ix2 i q) * cb (ix2 i q) - extractStridedSlice S16x256 ![o2, 0] u s2 (ix2 i q) * sb (ix2 i q) = _
  rw [slice_q hu s1 i q ⟨96 * (o / 128) + 64 + i.val, by omega⟩ (by (try dsimp only); omega) (by omega),
    slice_q hu s2 i q ⟨96 * (o / 128) + 64 + (i.val + 16), by omega⟩ (by (try dsimp only); omega) (by omega), hc.entry, hs.entry,
    qb_head W _ r ⟨o / 128, by omega⟩ ⟨64 + i.val, by omega⟩ (by (try dsimp only); omega)]
  refine (lo_scale scaleB _ _ _ _ scaleB_nonneg scaleB_ne_top).trans ?_
  unfold qbHead
  rw [dif_neg (by (try dsimp only); omega), dif_pos (by (try dsimp only); omega), ropeB_lo W _ _ _ i (by (try dsimp only); omega)]

/-- The store of the second half of the rotated part of a head of the second mixer's queries. -/
theorem qb_hi_piece (hu : IsQ W T t0 u) (hc : IsCosB W T t0 cb) (hs : IsSinB W T t0 sb) (ho : o % 128 = 64 ∧ o + 64 ≤ 1024) (h2 : o2 = o + 16)
    {inb : ∀ a, (![0, o2, t0] : Fin 3 → ℕ) a + S1x16x256.size a ≤ S1x1024x1024.size a}
    {s1 : S1024x256.Slices ![o, 0] S16x256} {s2 : S1024x256.Slices ![o2, 0] S16x256} {sc : S16x256.ShapeCasts S1x16x256} (x : S1x16x256.Idx) :
    shapeCast S1x16x256 (truncf .bf16 (addf (mulf (extractStridedSlice S16x256 ![o2, 0] u s2) cb) (mulf (extractStridedSlice S16x256 ![o, 0] u s1) sb)) hb) sc x
      = colsG (fun n => qb W (T n)) ((Rect.unit (s := S1x1024x1024) ![0, o2, t0] S1x16x256.size inb).emb x) := by
  refine cols_piece (fun n => qb W (T n)) (n := 16) _ (fun i q r hr => ?_) x
  refine (cast_lead _ sc i q).trans ?_
  show extractStridedSlice S16x256 ![o2, 0] u s2 (ix2 i q) * cb (ix2 i q) + extractStridedSlice S16x256 ![o, 0] u s1 (ix2 i q) * sb (ix2 i q) = _
  rw [slice_q hu s1 i q ⟨96 * (o / 128) + 64 + i.val, by omega⟩ (by (try dsimp only); omega) (by omega),
    slice_q hu s2 i q ⟨96 * (o / 128) + 64 + (i.val + 16), by omega⟩ (by (try dsimp only); omega) (by omega), hc.entry, hs.entry,
    qb_head W _ r ⟨o / 128, by omega⟩ ⟨64 + (i.val + 16), by omega⟩ (by (try dsimp only); omega)]
  refine (hi_scale scaleB _ _ _ _ scaleB_nonneg scaleB_ne_top).trans ?_
  unfold qbHead
  rw [dif_neg (by (try dsimp only); omega), dif_pos (by (try dsimp only); omega), ropeB_hi W _ _ _ i (by (try dsimp only); omega)]

/-- The store of the zeros under a head of the second mixer's queries. -/
theorem qb_pad_piece (ho : o % 128 = 96 ∧ o + 32 ≤ 1024)
    {inb : ∀ a, (![0, o, t0] : Fin 3 → ℕ) a + S1x32x256.size a ≤ S1x1024x1024.size a} {sc : S32x256.ShapeCasts S1x32x256} (x : S1x32x256.Idx) :
    shapeCast S1x32x256 (broadcast S32x256 (Scalar.ofBits (F := Ideal) .bf16 0x0000#16)) sc x
      = colsG (fun n => qb W (T n)) ((Rect.unit (s := S1x1024x1024) ![0, o, t0] S1x32x256.size inb).emb x) := by
  refine cols_piece (fun n => qb W (T n)) (n := 32) _ (fun i q r hr => ?_) x
  refine (cast_lead _ sc i q).trans ?_
  rw [qb_head W _ r ⟨o / 128, by omega⟩ ⟨96 + i.val, by omega⟩ (by (try dsimp only); omega)]
  unfold qbHead
  rw [dif_neg (by (try dsimp only); omega), dif_neg (by (try dsimp only); omega)]
  show Ideal.ofBits .bf16 0x0000#16 = 0
  simp [Ideal.ofBits, Ideal.ieee]

/-- The store of a head of the second mixer's keys: the head's own rows above the shared key, turned over. -/
theorem kb_piece {v : FVec Ideal S64x256 .f32} (hu : IsKv W T t0 u) (hv : IsTail W T t0 v) (ho : o % 128 = 0 ∧ o + 128 ≤ 1024) (h2 : 2 * o2 = o)
    {inb : ∀ a, (![0, t0, o] : Fin 3 → ℕ) a + S1x256x128.size a ≤ S1x1024x1024.size a}
    {s1 : S1024x256.Slices ![o2, 0] S64x256} {cc : Shape.Concatenates [S64x256, S64x256] S128x256 0} {tt : S128x256.Transposes [1, 0] S256x128}
    {sc : S256x128.ShapeCasts S1x256x128} (x : S1x256x128.Idx) :
    shapeCast S1x256x128 (truncf .bf16 (transpose S256x128 [1, 0] (concatenate S128x256 0
        [⟨S64x256, extractStridedSlice S64x256 ![o2, 0] u s1⟩, ⟨S64x256, v⟩] cc) tt) hb) sc x
      = rowsG (fun n => kb W (T n)) ((Rect.unit (s := S1x1024x1024) ![0, t0, o] S1x256x128.size inb).emb x) := by
  refine rows_piece (fun n => kb W (T n)) (n := 128) _ (fun q i r hr => ?_) x
  refine (cast_lead _ sc q i).trans ?_
  rw [kb_head W _ r ⟨o / 128, by omega⟩ i (by (try dsimp only); omega)]
  generalize hw : extractStridedSlice S64x256 ![o2, 0] u s1 = w
  have e : (truncf (F := Ideal) .bf16 (transpose S256x128 [1, 0] (concatenate S128x256 0 [⟨S64x256, w⟩, ⟨S64x256, v⟩] cc) tt) hb) (ix2 q i)
      = if h : i.val < 64 then w (ix2 ⟨i.val, h⟩ q) else v (ix2 ⟨i.val - 64, by omega⟩ q) := by pointwise
  refine e.trans ?_
  unfold kbHead
  split
  · rename_i h
    subst hw
    exact (slice_rows u s1 ⟨i.val, h⟩ q ⟨o2 + i.val, by omega⟩ rfl).trans (hu.key _ _ _ (by (try dsimp only); omega) (by (try dsimp only); omega))
  · rename_i h
    split
    · rename_i h'
      exact hv.key _ _ (by (try dsimp only); omega)
    · exact hv.zero _ _ (by (try dsimp only); omega)

/-- The store of the second mixer's values. -/
theorem vb_piece (hu : IsKv W T t0 u) {inb : ∀ a, (![0, 0, t0] : Fin 3 → ℕ) a + S1x512x256.size a ≤ S1x512x1024.size a}
    {s1 : S1024x256.Slices ![512, 0] S512x256} {sc : S512x256.ShapeCasts S1x512x256} (x : S1x512x256.Idx) :
    shapeCast S1x512x256 (truncf .bf16 (extractStridedSlice S512x256 ![512, 0] u s1) hb) sc x
      = colsG (fun n => vb W (T n)) ((Rect.unit (s := S1x512x1024) ![0, 0, t0] S1x512x256.size inb).emb x) := by
  refine cols_piece (fun n => vb W (T n)) (n := 512) _ (fun i q r hr => ?_) x
  refine (cast_lead _ sc i q).trans ?_
  refine (slice_rows u s1 i q ⟨512 + i.val, by omega⟩ rfl).trans ?_
  exact hu.value _ _ _ (by (try dsimp only); omega) (by (try dsimp only); omega)

/-- The store of a slab's gates. -/
theorem gates_piece {h : FVec Ideal S256x1024 .bf16} {w : Vec Ideal S1024x2048 .bf16} {b : Vec Ideal S1x2048 .f32} (hh : IsH W T t0 h)
    (hw : ∀ c k, w (ix2 c k) = W.win c ⟨1184 + k.val, by omega⟩) (hbg : ∀ k, b (ix2 0 k) = W.bg k)
    {inb : ∀ a, (![0, t0, 0] : Fin 3 → ℕ) a + S1x256x2048.size a ≤ S1x1024x2048.size a} (x : S1x256x2048.Idx) :
    gatesB h w b x = rowsG (fun n => gates W (T n)) ((Rect.unit (s := S1x1024x2048) ![0, t0, 0] S1x256x2048.size inb).emb x) := by
  refine rows_piece (fun n => gates W (T n)) (n := 2048) _ (fun q i r hr => ?_) x
  obtain rfl : i = r := Fin.ext (by omega)
  rw [gatesB_apply, hbg]
  unfold gates z lin
  simp only [hh.entry, hw]

end

end Cert.InRow

end
-- ==== Proof.InSlab.lean ====
module

public import proofs.«01_k».proof.Proof.InPiece

@[expose] public section

/-!
# A slab's arrays in terms of its tokens

The blocks that a run of the body reads hold the weights and the rows of 1024 tokens. From that, the arrays that the
body computes on each of its four slabs have the entries that the stores' lemmas ask for. The second half of the module
says which of the body's values are which of these arrays.
-/

set_option maxRecDepth 16384

noncomputable section

namespace Cert.InRow

open Idealize.ShloMosaic
open Cert.InIdeal Cert.InIdeal.Gen Cert.InIdeal.Facts₀
open Cert.PostRow (lin eps width)
open scoped BigOperators

/-- The twelve blocks hold the weights `W` and the tokens `T 0`, …, `T 1023`. -/
structure Reads (W : Weights) (T : ℕ → Token) (x0 : Vec Ideal S1x1024x1024 .f32) (x1 : Vec Ideal S1x1x1024 .f32) (x2 : Vec Ideal S1x1024 .f32)
    (x3 : Vec Ideal S1184x1024 .bf16) (x4 : Vec Ideal S1024x2048 .bf16) (x5 : Vec Ideal S1x2048 .f32) (x6 : Vec Ideal S256x1 .f32)
    (x7 : Vec Ideal S128x1 .f32) (x8 : Vec Ideal S1024x256 .bf16) (x9 : Vec Ideal S1024x128 .bf16) (x10 : Vec Ideal S32x1 .f32)
    (x11 : Vec Ideal S16x1 .f32) : Prop where
  /-- The residual rows. -/
  row : ∀ (n : Fin 1024) (c : Fin 1024), x0 (ix3 0 n c) = (T n.val).x c
  /-- The positions. -/
  pos : ∀ n : Fin 1024, x1 (ix3 0 0 n) = (T n.val).pos
  /-- The gain before the mixers. -/
  gpre : ∀ c : Fin 1024, x2 (ix2 0 c) = W.gpre c
  /-- The joint projection without the gates, turned over. -/
  joint : ∀ (k : Fin 1184) (c : Fin 1024), x3 (ix2 k c) = W.win c ⟨k.val, by omega⟩
  /-- The gates' projection. -/
  gate : ∀ (c : Fin 1024) (k : Fin 2048), x4 (ix2 c k) = W.win c ⟨1184 + k.val, by omega⟩
  /-- The gates' bias. -/
  bias : ∀ k : Fin 2048, x5 (ix2 0 k) = W.bg k
  /-- The gain of the query latent. -/
  qng : ∀ l : Fin 256, x6 (ix2 l 0) = W.qng l
  /-- The gain of the key-value latent. -/
  kvng : ∀ l : Fin 128, x7 (ix2 l 0) = W.kvng l
  /-- The queries' projection, turned over, 128 rows to a head. -/
  wuq : ∀ (r : Fin 1024) (l : Fin 256) (k : Fin 768), k.val = 96 * (r.val / 128) + r.val % 128 → r.val % 128 < 96 → x8 (ix2 r l) = W.wuq l k
  /-- The keys' projection, turned over. -/
  wuk : ∀ (r : Fin 1024) (l : Fin 128) (k : Fin 1024), r.val < 512 → k.val = 128 * (r.val / 64) + r.val % 64 → x9 (ix2 r l) = W.wukv l k
  /-- The values' projection, turned over, under the keys'. -/
  wuv : ∀ (r : Fin 1024) (l : Fin 128) (k : Fin 1024), 512 ≤ r.val → k.val = 128 * ((r.val - 512) / 64) + 64 + r.val % 64 → x9 (ix2 r l) = W.wukv l k
  /-- The first mixer's frequencies. -/
  inva : ∀ i : Fin 32, x10 (ix2 i 0) = W.inva i
  /-- The second mixer's frequencies. -/
  invb : ∀ i : Fin 16, x11 (ix2 i 0) = W.invb i

section

variable {W : Weights} {T : ℕ → Token} {x0 : Vec Ideal S1x1024x1024 .f32} {x1 : Vec Ideal S1x1x1024 .f32} {x2 : Vec Ideal S1x1024 .f32}
    {x3 : Vec Ideal S1184x1024 .bf16} {x4 : Vec Ideal S1024x2048 .bf16} {x5 : Vec Ideal S1x2048 .f32} {x6 : Vec Ideal S256x1 .f32}
    {x7 : Vec Ideal S128x1 .f32} {x8 : Vec Ideal S1024x256 .bf16} {x9 : Vec Ideal S1024x128 .bf16} {x10 : Vec Ideal S32x1 .f32}
    {x11 : Vec Ideal S16x1 .f32}

/-- The normalised rows of a slab. -/
theorem is_h (H : Reads W T x0 x1 x2 x3 x4 x5 x6 x7 x8 x9 x10 x11) (t0 : ℕ) {inb : ∀ a, (![0, t0, 0] : Fin 3 → ℕ) a + S1x256x1024.size a ≤ S1x1024x1024.size a} :
    IsH W T t0 (hB (View.ld x0 (Rect.unit (s := S1x1024x1024) ![0, t0, 0] S1x256x1024.size inb)) x2) where
  entry r c := by
    have ht : t0 + 256 ≤ 1024 := inb (1 : Fin 3)
    refine (hB_apply _ _ r c).trans ?_
    refine congrArg₂ (fun t g => normed width t g c) (funext fun c => ?_) (funext H.gpre)
    refine Eq.trans ?_ (H.row ⟨t0 + r.val, by omega⟩ c)
    exact View.ld_unit_apply_of x0 _ _ inb _ (ix3 0 ⟨t0 + r.val, by omega⟩ c) fun a => by
      match a with
      | ⟨0, _⟩ => rfl
      | ⟨1, _⟩ => rfl
      | ⟨2, _⟩ => exact (Nat.zero_add _).symm

/-- The joint projection of a slab. -/
theorem is_fm (H : Reads W T x0 x1 x2 x3 x4 x5 x6 x7 x8 x9 x10 x11) {t0 : ℕ} {h : FVec Ideal S256x1024 .bf16} (hh : IsH W T t0 h) :
    IsFm W T t0 (fmB h x3) where
  entry k q := by
    refine (fmB_apply h x3 k q).trans ?_
    unfold z lin
    exact Finset.sum_congr rfl fun c _ => congrArg₂ (· * ·) (hh.entry q c) (H.joint k c)

/-- A slab's positions. -/
theorem ld_pos (H : Reads W T x0 x1 x2 x3 x4 x5 x6 x7 x8 x9 x10 x11) (t0 : ℕ) {inb : ∀ a, (![0, 0, t0] : Fin 3 → ℕ) a + S1x1x256.size a ≤ S1x1x1024.size a} (q : Fin 256) :
    View.ld x1 (Rect.unit (s := S1x1x1024) ![0, 0, t0] S1x1x256.size inb) (ix3 0 0 q) = (T (t0 + q.val)).pos := by
  have ht : t0 + 256 ≤ 1024 := inb (2 : Fin 3)
  refine Eq.trans ?_ (H.pos ⟨t0 + q.val, by omega⟩)
  exact View.ld_unit_apply_of x1 _ _ inb _ (ix3 0 0 ⟨t0 + q.val, by omega⟩) fun a => by
    match a with
    | ⟨0, _⟩ => rfl
    | ⟨1, _⟩ => rfl
    | ⟨2, _⟩ => rfl

/-- The first mixer's angles of a slab. -/
theorem angA_at (H : Reads W T x0 x1 x2 x3 x4 x5 x6 x7 x8 x9 x10 x11) (t0 : ℕ) {inb : ∀ a, (![0, 0, t0] : Fin 3 → ℕ) a + S1x1x256.size a ≤ S1x1x1024.size a} (i : Fin 32) (q : Fin 256) :
    angA (View.ld x1 (Rect.unit (s := S1x1x1024) ![0, 0, t0] S1x1x256.size inb)) x10 (ix2 i q) = (T (t0 + q.val)).pos * W.inva i :=
  (angA_apply _ _ i q).trans (congrArg₂ (· * ·) (ld_pos H t0 q) (H.inva i))
/-- The second mixer's angles of a slab. -/
theorem angB_at (H : Reads W T x0 x1 x2 x3 x4 x5 x6 x7 x8 x9 x10 x11) (t0 : ℕ) {inb : ∀ a, (![0, 0, t0] : Fin 3 → ℕ) a + S1x1x256.size a ≤ S1x1x1024.size a} (i : Fin 16) (q : Fin 256) :
    angB (View.ld x1 (Rect.unit (s := S1x1x1024) ![0, 0, t0] S1x1x256.size inb)) x11 (ix2 i q) = (T (t0 + q.val)).pos * W.invb i :=
  (angB_apply _ _ i q).trans (congrArg₂ (· * ·) (ld_pos H t0 q) (H.invb i))

/-- The first mixer's cosines of a slab. -/
theorem is_cosA (H : Reads W T x0 x1 x2 x3 x4 x5 x6 x7 x8 x9 x10 x11) (t0 : ℕ) {inb : ∀ a, (![0, 0, t0] : Fin 3 → ℕ) a + S1x1x256.size a ≤ S1x1x1024.size a} :
    IsCosA W T t0 (cos (angA (View.ld x1 (Rect.unit (s := S1x1x1024) ![0, 0, t0] S1x1x256.size inb)) x10)) where
  entry i q := congrArg Ideal.cos (angA_at H t0 i q)
/-- The first mixer's sines of a slab. -/
theorem is_sinA (H : Reads W T x0 x1 x2 x3 x4 x5 x6 x7 x8 x9 x10 x11) (t0 : ℕ) {inb : ∀ a, (![0, 0, t0] : Fin 3 → ℕ) a + S1x1x256.size a ≤ S1x1x1024.size a} :
    IsSinA W T t0 (sin (angA (View.ld x1 (Rect.unit (s := S1x1x1024) ![0, 0, t0] S1x1x256.size inb)) x10)) where
  entry i q := congrArg Ideal.sin (angA_at H t0 i q)
/-- The second mixer's cosines of a slab. -/
theorem is_cosB (H : Reads W T x0 x1 x2 x3 x4 x5 x6 x7 x8 x9 x10 x11) (t0 : ℕ) {inb : ∀ a, (![0, 0, t0] : Fin 3 → ℕ) a + S1x1x256.size a ≤ S1x1x1024.size a} :
    IsCosB W T t0 (cos (angB (View.ld x1 (Rect.unit (s := S1x1x1024) ![0, 0, t0] S1x1x256.size inb)) x11)) where
  entry i q := congrArg Ideal.cos (angB_at H t0 i q)
/-- The second mixer's sines of a slab. -/
theorem is_sinB (H : Reads W T x0 x1 x2 x3 x4 x5 x6 x7 x8 x9 x10 x11) (t0 : ℕ) {inb : ∀ a, (![0, 0, t0] : Fin 3 → ℕ) a + S1x1x256.size a ≤ S1x1x1024.size a} :
    IsSinB W T t0 (sin (angB (View.ld x1 (Rect.unit (s := S1x1x1024) ![0, 0, t0] S1x1x256.size inb)) x11)) where
  entry i q := congrArg Ideal.sin (angB_at H t0 i q)

/-- The second mixer's queries of a slab. -/
theorem is_q (H : Reads W T x0 x1 x2 x3 x4 x5 x6 x7 x8 x9 x10 x11) {t0 : ℕ} {fm : FVec Ideal S1184x256 .f32} (hf : IsFm W T t0 fm) :
    IsQ W T t0 (qB fm x8 x6) where
  entry r q k e h := by
    refine (qB_apply fm x8 x6 r q).trans (congrArg (· * scaleB) ?_)
    unfold Cert.InRow.q lin
    refine Finset.sum_congr rfl fun l _ => congrArg₂ (· * ·) ?_ (H.wuq r l k e h)
    exact congrArg₂ (fun t g => normed width256 t g l) (funext fun l => hf.entry _ _) (funext H.qng)

/-- The second mixer's keys and values of a slab. -/
theorem is_kv (H : Reads W T x0 x1 x2 x3 x4 x5 x6 x7 x8 x9 x10 x11) {t0 : ℕ} {fm : FVec Ideal S1184x256 .f32} (hf : IsFm W T t0 fm) :
    IsKv W T t0 (kvB fm x9 x7) where
  key r q k e h := by
    refine (kvB_apply fm x9 x7 r q).trans ?_
    unfold Cert.InRow.kv lin
    refine Finset.sum_congr rfl fun l _ => congrArg₂ (· * ·) ?_ (H.wuk r l k e h)
    exact congrArg₂ (fun t g => normed width128 t g l) (funext fun l => hf.entry _ _) (funext H.kvng)
  value r q k e h := by
    refine (kvB_apply fm x9 x7 r q).trans ?_
    unfold Cert.InRow.kv lin
    refine Finset.sum_congr rfl fun l _ => congrArg₂ (· * ·) ?_ (H.wuv r l k e h)
    exact congrArg₂ (fun t g => normed width128 t g l) (funext fun l => hf.entry _ _) (funext H.kvng)

end

/-- The rotated shared key of a slab. -/
theorem is_tail {W : Weights} {T : ℕ → Token} {t0 : ℕ} {fm : FVec Ideal S1184x256 .f32} {c s : FVec Ideal S16x256 .f32}
    (hf : IsFm W T t0 fm) (hc : IsCosB W T t0 c) (hs : IsSinB W T t0 s) : IsTail W T t0 (tailB fm c s) where
  key d q h := by
    by_cases hd : d.val < 16
    · refine (tailB_lo fm c s ⟨d.val, hd⟩ q).trans ?_
      rw [hc.entry, hs.entry, hf.entry, hf.entry, ropeB_lo W _ _ _ ⟨d.val, hd⟩ rfl]
    · obtain ⟨i, hi⟩ : ∃ i : Fin 16, d.val = i.val + 16 := ⟨⟨d.val - 16, by omega⟩, by (try dsimp only); omega⟩
      refine (congrArg (fun d => tailB fm c s (ix2 d q)) (Fin.ext hi : d = ⟨i.val + 16, by omega⟩)).trans ?_
      refine (tailB_hi fm c s i q).trans ?_
      rw [hc.entry, hs.entry, hf.entry, hf.entry, ropeB_hi W _ _ _ i hi]
  zero d q h := by
    obtain ⟨i, hi⟩ : ∃ i : Fin 32, d.val = i.val + 32 := ⟨⟨d.val - 32, by omega⟩, by (try dsimp only); omega⟩
    exact (congrArg (fun d => tailB fm c s (ix2 d q)) (Fin.ext hi : d = ⟨i.val + 32, by omega⟩)).trans (tailB_zero fm c s i q)

section

variable (v : Vec Ideal S1x256x1024 .f32) (g : Vec Ideal S1x1024 .f32) (h : FVec Ideal S256x1024 .bf16) (w : Vec Ideal S1184x1024 .bf16)
  (wg : Vec Ideal S1024x2048 .bf16) (bg : Vec Ideal S1x2048 .f32) (p : Vec Ideal S1x1x256 .f32) (fa : Vec Ideal S32x1 .f32) (fb : Vec Ideal S16x1 .f32)
  (fm : FVec Ideal S1184x256 .f32) (wq : Vec Ideal S1024x256 .bf16) (gq : Vec Ideal S256x1 .f32) (wk : Vec Ideal S1024x128 .bf16) (gk : Vec Ideal S128x1 .f32)
  (c s : FVec Ideal S16x256 .f32)

/-- The first slab's normalised rows. -/
theorem pay_h0 : k0_pay7 (F := Ideal) v g = hB v g := rfl
/-- The second slab's normalised rows. -/
theorem pay_h1 : k0_pay8 (F := Ideal) v g = hB v g := rfl
/-- The third slab's normalised rows. -/
theorem pay_h2 : k0_pay10 (F := Ideal) (k0_pay9 v) g = hB v g := rfl
/-- The fourth slab's normalised rows. -/
theorem pay_h3 : k0_pay11 (F := Ideal) v g = hB v g := rfl
/-- The first slab's joint projection. -/
theorem pay_fm0 : k0_pay12 (F := Ideal) h w = fmB h w := rfl
/-- The second slab's joint projection. -/
theorem pay_fm1 : k0_pay13 (F := Ideal) h w = fmB h w := rfl
/-- The third slab's joint projection. -/
theorem pay_fm2 : k0_pay15 (F := Ideal) h (k0_pay14 w) = fmB h w := rfl
/-- The fourth slab's joint projection. -/
theorem pay_fm3 : k0_pay16 (F := Ideal) h w = fmB h w := rfl
/-- The first slab's gates. -/
theorem pay_gates0 : k0_pay17 (F := Ideal) h wg bg = gatesB h wg bg := rfl
/-- The second slab's gates. -/
theorem pay_gates1 : k0_pay19 (F := Ideal) (k0_pay18 h wg bg) = gatesB h wg bg := rfl
/-- The third slab's gates. -/
theorem pay_gates2 : k0_pay20 (F := Ideal) h wg bg = gatesB h wg bg := rfl
/-- The fourth slab's gates. -/
theorem pay_gates3 : k0_pay22 (F := Ideal) (k0_pay21 h wg bg) = gatesB h wg bg := rfl
/-- The first slab's cosines of the first mixer. -/
theorem pay_cosA0 : k0_pay26 (F := Ideal) p fa = cos (angA p fa) := rfl
/-- The first slab's sines of the first mixer. -/
theorem pay_sinA0 : k0_pay27 (F := Ideal) p fa = sin (angA p fa) := rfl
/-- The first slab's cosines of the second mixer. -/
theorem pay_cosB0 : k0_pay28 (F := Ideal) p fb = cos (angB p fb) := rfl
/-- The first slab's sines of the second mixer. -/
theorem pay_sinB0 : k0_pay29 (F := Ideal) p fb = sin (angB p fb) := rfl
/-- The second slab's cosines of the first mixer. -/
theorem pay_cosA1 : k0_pay33 (F := Ideal) p fa = cos (angA p fa) := rfl
/-- The second slab's sines of the first mixer. -/
theorem pay_sinA1 : k0_pay34 (F := Ideal) p fa = sin (angA p fa) := rfl
/-- The second slab's cosines of the second mixer. -/
theorem pay_cosB1 : k0_pay35 (F := Ideal) p fb = cos (angB p fb) := rfl
/-- The second slab's sines of the second mixer. -/
theorem pay_sinB1 : k0_pay36 (F := Ideal) p fb = sin (angB p fb) := rfl
/-- The third slab's cosines of the first mixer. -/
theorem pay_cosA2 : k0_pay40 (F := Ideal) (k0_pay37 p) fa = cos (angA p fa) := rfl
/-- The third slab's sines of the first mixer. -/
theorem pay_sinA2 : k0_pay41 (F := Ideal) (k0_pay37 p) fa = sin (angA p fa) := rfl
/-- The third slab's cosines of the second mixer. -/
theorem pay_cosB2 : k0_pay42 (F := Ideal) (k0_pay37 p) fb = cos (angB p fb) := rfl
/-- The third slab's sines of the second mixer. -/
theorem pay_sinB2 : k0_pay43 (F := Ideal) (k0_pay37 p) fb = sin (angB p fb) := rfl
/-- The fourth slab's cosines of the first mixer. -/
theorem pay_cosA3 : k0_pay47 (F := Ideal) p fa = cos (angA p fa) := rfl
/-- The fourth slab's sines of the first mixer. -/
theorem pay_sinA3 : k0_pay48 (F := Ideal) p fa = sin (angA p fa) := rfl
/-- The fourth slab's cosines of the second mixer. -/
theorem pay_cosB3 : k0_pay49 (F := Ideal) p fb = cos (angB p fb) := rfl
/-- The fourth slab's sines of the second mixer. -/
theorem pay_sinB3 : k0_pay50 (F := Ideal) p fb = sin (angB p fb) := rfl
/-- The four slabs' queries of the second mixer. -/
theorem pay_q : k0_pay229 (F := Ideal) fm wq gq = qB fm wq gq ∧ k0_pay230 (F := Ideal) fm wq gq = qB fm wq gq
    ∧ k0_pay231 (F := Ideal) fm wq gq = qB fm wq gq ∧ k0_pay232 (F := Ideal) fm wq gq = qB fm wq gq := ⟨rfl, rfl, rfl, rfl⟩
/-- The four slabs' keys and values of the second mixer. -/
theorem pay_kv : k0_pay233 (F := Ideal) fm wk gk = kvB fm wk gk ∧ k0_pay236 (F := Ideal) (k0_pay234 wk) (k0_pay235 fm) gk = kvB fm wk gk
    ∧ k0_pay237 (F := Ideal) fm wk gk = kvB fm wk gk
    ∧ k0_pay242 (F := Ideal) (k0_pay238 wk) (k0_pay239 fm) (k0_pay240 gk) (k0_pay241 fm) = kvB fm wk gk := ⟨rfl, rfl, rfl, rfl⟩
/-- The four slabs' rotated shared keys. -/
theorem pay_tail : k0_pay243 (F := Ideal) fm c s = tailB fm c s ∧ k0_pay305 (F := Ideal) fm c s = tailB fm c s
    ∧ k0_pay369 (F := Ideal) fm c s = tailB fm c s ∧ k0_pay433 (F := Ideal) fm c s = tailB fm c s := ⟨rfl, rfl, rfl, rfl⟩

end

end Cert.InRow

end
-- ==== Proof.InWhole.lean ====
module

public import proofs.«01_k».proof.Proof.InSlab
public import proofs.«01_k».proof.Proof.Gen.InIdeal.Value

@[expose] public section

/-!
# Whole loads

The body loads its weights whole: such a load is the block.
-/

set_option maxRecDepth 16384

noncomputable section

namespace Cert.InRun

open Idealize.ShloMosaic Idealize.ShloMosaic.TcCoe Idealize.SL.Sem
open Cert.InIdeal Cert.InIdeal.Gen
open Cert.InRow

/-- The load of the gain before the mixers is the whole block. -/
theorem whole2 (x : Vec Ideal S1x1024 .f32) :
    View.ld x (Rect.unit (s := S1x1024) ![0, 0] S1x1024.size Facts₀.inb_S1x1024_S1x1024_0_0) = x := View.ld_unit_lit _ x (by decide)
/-- The load of the joint projection is the whole block. -/
theorem whole3 (x : Vec Ideal S1184x1024 .bf16) :
    View.ld x (Rect.unit (s := S1184x1024) ![0, 0] S1184x1024.size Facts₀.inb_S1184x1024_S1184x1024_0_0) = x := View.ld_unit_lit _ x (by decide)
/-- The load of the gates' projection is the whole block. -/
theorem whole4 (x : Vec Ideal S1024x2048 .bf16) :
    View.ld x (Rect.unit (s := S1024x2048) ![0, 0] S1024x2048.size Facts₀.inb_S1024x2048_S1024x2048_0_0) = x := View.ld_unit_lit _ x (by decide)
/-- The load of the gates' bias is the whole block. -/
theorem whole5 (x : Vec Ideal S1x2048 .f32) :
    View.ld x (Rect.unit (s := S1x2048) ![0, 0] S1x2048.size Facts₀.inb_S1x2048_S1x2048_0_0) = x := View.ld_unit_lit _ x (by decide)
/-- The load of the query latent's gain is the whole block. -/
theorem whole6 (x : Vec Ideal S256x1 .f32) :
    View.ld x (Rect.unit (s := S256x1) ![0, 0] S256x1.size Facts₀.inb_S256x1_S256x1_0_0) = x := View.ld_unit_lit _ x (by decide)
/-- The load of the key-value latent's gain is the whole block. -/
theorem whole7 (x : Vec Ideal S128x1 .f32) :
    View.ld x (Rect.unit (s := S128x1) ![0, 0] S128x1.size Facts₀.inb_S128x1_S128x1_0_0) = x := View.ld_unit_lit _ x (by decide)
/-- The load of the queries' projection is the whole block. -/
theorem whole8 (x : Vec Ideal S1024x256 .bf16) :
    View.ld x (Rect.unit (s := S1024x256) ![0, 0] S1024x256.size Facts₀.inb_S1024x256_S1024x256_0_0) = x := View.ld_unit_lit _ x (by decide)
/-- The load of the keys' and values' projection is the whole block. -/
theorem whole9 (x : Vec Ideal S1024x128 .bf16) :
    View.ld x (Rect.unit (s := S1024x128) ![0, 0] S1024x128.size Facts₀.inb_S1024x128_S1024x128_0_0) = x := View.ld_unit_lit _ x (by decide)
/-- The load of the first mixer's frequencies is the whole block. -/
theorem whole10 (x : Vec Ideal S32x1 .f32) :
    View.ld x (Rect.unit (s := S32x1) ![0, 0] S32x1.size Facts₀.inb_S32x1_S32x1_0_0) = x := View.ld_unit_lit _ x (by decide)
/-- The load of the second mixer's frequencies is the whole block. -/
theorem whole11 (x : Vec Ideal S16x1 .f32) :
    View.ld x (Rect.unit (s := S16x1) ![0, 0] S16x1.size Facts₀.inb_S16x1_S16x1_0_0) = x := View.ld_unit_lit _ x (by decide)

end Cert.InRun

end
-- ==== Proof.InRunA.lean ====
module

public import proofs.«01_k».proof.Proof.InWhole

@[expose] public section

/-!
# What one run of the body leaves: the first mixer and the gates

On blocks holding the weights and 1024 tokens, the body leaves the first mixer's queries, keys and values with a
column for each token, and the gates with a row for each token.
-/

set_option maxRecDepth 16384

noncomputable section

namespace Cert.InRun

open Idealize.ShloMosaic Idealize.ShloMosaic.TcCoe Idealize.SL.Sem
open Cert.InIdeal Cert.InIdeal.Gen
open Cert.InRow

variable (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S1184x1024 .bf16) (harg5 : arg5.IsWhole) (arg6 : Memref sig .tc .vmem S1024x2048 .bf16) (harg6 : arg6.IsWhole) (arg7 : Memref sig .tc .vmem S1x2048 .f32) (harg7 : arg7.IsWhole) (arg8 : Memref sig .tc .vmem S256x1 .f32) (harg8 : arg8.IsWhole) (arg9 : Memref sig .tc .vmem S128x1 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S32x1 .f32) (harg12 : arg12.IsWhole) (arg13 : Memref sig .tc .vmem S16x1 .f32) (harg13 : arg13.IsWhole) (arg14 : Memref sig .tc .vmem S1x512x1024 .bf16) (harg14 : arg14.IsWhole) (arg15 : Memref sig .tc .vmem S1x128x1024 .bf16) (harg15 : arg15.IsWhole) (arg16 : Memref sig .tc .vmem S1x128x1024 .bf16) (harg16 : arg16.IsWhole) (arg17 : Memref sig .tc .vmem S1x1024x1024 .bf16) (harg17 : arg17.IsWhole) (arg18 : Memref sig .tc .vmem S1x1024x1024 .bf16) (harg18 : arg18.IsWhole) (arg19 : Memref sig .tc .vmem S1x512x1024 .bf16) (harg19 : arg19.IsWhole) (arg20 : Memref sig .tc .vmem S1x1024x2048 .bf16) (harg20 : arg20.IsWhole)

variable {W : Weights} {T : ℕ → Token} {x0 : Vec Ideal S1x1024x1024 .f32} {x1 : Vec Ideal S1x1x1024 .f32} {x2 : Vec Ideal S1x1024 .f32} {x3 : Vec Ideal S1184x1024 .bf16} {x4 : Vec Ideal S1024x2048 .bf16} {x5 : Vec Ideal S1x2048 .f32} {x6 : Vec Ideal S256x1 .f32} {x7 : Vec Ideal S128x1 .f32} {x8 : Vec Ideal S1024x256 .bf16} {x9 : Vec Ideal S1024x128 .bf16} {x10 : Vec Ideal S32x1 .f32} {x11 : Vec Ideal S16x1 .f32}

set_option maxHeartbeats 1000000 in
/-- A run leaves the first mixer's queries of the block's 1024 tokens. -/
theorem out_qa (H : Reads W T x0 x1 x2 x3 x4 x5 x6 x7 x8 x9 x10 x11) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 = colsG (fun n => qa W (T n)) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11)]
  funext y
  refine View.canon_apply_of_pieces _ _ ?_ y (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 y)
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread]
  simp only [whole2 x2, whole3 x3, whole10 x10, pay_h0, pay_h1, pay_h2, pay_h3, pay_fm0, pay_fm1, pay_fm2, pay_fm3, pay_cosA0, pay_sinA0, pay_cosA1, pay_sinA1, pay_cosA2, pay_sinA2, pay_cosA3, pay_sinA3]
  iterate 32
    refine List.forall_mem_cons.2 ⟨?_, List.forall_mem_cons.2 ⟨?_, ?_⟩⟩
    · intro x; dsimp only; exact qa_hi_piece (s1 := by decide) (s2 := by decide) (is_fm H (is_h H _)) (is_cosA H _) (is_sinA H _) (by decide) (by rfl) x
    · intro x; dsimp only; exact qa_lo_piece (s1 := by decide) (s2 := by decide) (is_fm H (is_h H _)) (is_cosA H _) (is_sinA H _) (by decide) (by rfl) x
  exact fun _ h => absurd h List.not_mem_nil

set_option maxHeartbeats 1000000 in
/-- A run leaves the first mixer's keys of the block's 1024 tokens. -/
theorem out_ka (H : Reads W T x0 x1 x2 x3 x4 x5 x6 x7 x8 x9 x10 x11) :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 = colsG (fun n => ka W (T n)) := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11)]
  funext y
  refine View.canon_apply_of_pieces _ _ ?_ y (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 y)
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread]
  simp only [whole2 x2, whole3 x3, whole10 x10, pay_h0, pay_h1, pay_h2, pay_h3, pay_fm0, pay_fm1, pay_fm2, pay_fm3, pay_cosA0, pay_sinA0, pay_cosA1, pay_sinA1, pay_cosA2, pay_sinA2, pay_cosA3, pay_sinA3]
  iterate 8
    refine List.forall_mem_cons.2 ⟨?_, List.forall_mem_cons.2 ⟨?_, ?_⟩⟩
    · intro x; dsimp only; exact ka_hi_piece (s1 := by decide) (s2 := by decide) (is_fm H (is_h H _)) (is_cosA H _) (is_sinA H _) (by rfl) (by rfl) (by rfl) (by decide) x
    · intro x; dsimp only; exact ka_lo_piece (s1 := by decide) (s2 := by decide) (is_fm H (is_h H _)) (is_cosA H _) (is_sinA H _) (by decide) (by rfl) (by rfl) (by rfl) x
  exact fun _ h => absurd h List.not_mem_nil

set_option maxHeartbeats 1000000 in
/-- A run leaves the first mixer's values of the block's 1024 tokens. -/
theorem out_va (H : Reads W T x0 x1 x2 x3 x4 x5 x6 x7 x8 x9 x10 x11) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 = colsG (fun n => va W (T n)) := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11)]
  funext y
  refine View.canon_apply_of_pieces _ _ ?_ y (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 y)
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread]
  simp only [whole2 x2, whole3 x3, pay_h0, pay_h1, pay_h2, pay_h3, pay_fm0, pay_fm1, pay_fm2, pay_fm3]
  iterate 4
    refine List.forall_mem_cons.2 ⟨?_, ?_⟩
    · intro x; dsimp only; exact va_piece (s1 := by decide) (is_fm H (is_h H _)) x
  exact fun _ h => absurd h List.not_mem_nil

set_option maxHeartbeats 1000000 in
/-- A run leaves the gates of the block's 1024 tokens. -/
theorem out_gates (H : Reads W T x0 x1 x2 x3 x4 x5 x6 x7 x8 x9 x10 x11) :
    out0_A_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 = rowsG (fun n => gates W (T n)) := by
  unfold out0_A_18
  rw [View.read_writes_eq_canon _ _ _ (cover0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11)]
  funext y
  refine View.canon_apply_of_pieces _ _ ?_ y (cover0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 y)
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread]
  simp only [whole2 x2, whole4 x4, whole5 x5, pay_h0, pay_h1, pay_h2, pay_h3, pay_gates0, pay_gates1, pay_gates2, pay_gates3]
  iterate 4
    refine List.forall_mem_cons.2 ⟨?_, ?_⟩
    · intro x; dsimp only; exact gates_piece (is_h H _) H.gate H.bias x
  exact fun _ h => absurd h List.not_mem_nil

end Cert.InRun

end
-- ==== Proof.InRunB.lean ====
module

public import proofs.«01_k».proof.Proof.InWhole

@[expose] public section

/-!
# What one run of the body leaves: the second mixer

On blocks holding the weights and 1024 tokens, the body leaves the second mixer's queries and values with a column for
each token, and its keys with a row for each token.
-/

set_option maxRecDepth 16384

noncomputable section

namespace Cert.InRun

open Idealize.ShloMosaic Idealize.ShloMosaic.TcCoe Idealize.SL.Sem
open Cert.InIdeal Cert.InIdeal.Gen
open Cert.InRow

variable (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S1184x1024 .bf16) (harg5 : arg5.IsWhole) (arg6 : Memref sig .tc .vmem S1024x2048 .bf16) (harg6 : arg6.IsWhole) (arg7 : Memref sig .tc .vmem S1x2048 .f32) (harg7 : arg7.IsWhole) (arg8 : Memref sig .tc .vmem S256x1 .f32) (harg8 : arg8.IsWhole) (arg9 : Memref sig .tc .vmem S128x1 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S32x1 .f32) (harg12 : arg12.IsWhole) (arg13 : Memref sig .tc .vmem S16x1 .f32) (harg13 : arg13.IsWhole) (arg14 : Memref sig .tc .vmem S1x512x1024 .bf16) (harg14 : arg14.IsWhole) (arg15 : Memref sig .tc .vmem S1x128x1024 .bf16) (harg15 : arg15.IsWhole) (arg16 : Memref sig .tc .vmem S1x128x1024 .bf16) (harg16 : arg16.IsWhole) (arg17 : Memref sig .tc .vmem S1x1024x1024 .bf16) (harg17 : arg17.IsWhole) (arg18 : Memref sig .tc .vmem S1x1024x1024 .bf16) (harg18 : arg18.IsWhole) (arg19 : Memref sig .tc .vmem S1x512x1024 .bf16) (harg19 : arg19.IsWhole) (arg20 : Memref sig .tc .vmem S1x1024x2048 .bf16) (harg20 : arg20.IsWhole)

variable {W : Weights} {T : ℕ → Token} {x0 : Vec Ideal S1x1024x1024 .f32} {x1 : Vec Ideal S1x1x1024 .f32} {x2 : Vec Ideal S1x1024 .f32} {x3 : Vec Ideal S1184x1024 .bf16} {x4 : Vec Ideal S1024x2048 .bf16} {x5 : Vec Ideal S1x2048 .f32} {x6 : Vec Ideal S256x1 .f32} {x7 : Vec Ideal S128x1 .f32} {x8 : Vec Ideal S1024x256 .bf16} {x9 : Vec Ideal S1024x128 .bf16} {x10 : Vec Ideal S32x1 .f32} {x11 : Vec Ideal S16x1 .f32}

set_option maxHeartbeats 1000000 in
/-- A run leaves the second mixer's queries of the block's 1024 tokens. -/
theorem out_qb (H : Reads W T x0 x1 x2 x3 x4 x5 x6 x7 x8 x9 x10 x11) :
    out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 = colsG (fun n => qb W (T n)) := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11)]
  funext y
  refine View.canon_apply_of_pieces _ _ ?_ y (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 y)
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread]
  simp only [whole2 x2, whole3 x3, whole6 x6, whole8 x8, whole11 x11, pay_h0, pay_h1, pay_h2, pay_h3, pay_fm0, pay_fm1, pay_fm2, pay_fm3, pay_cosB0, pay_sinB0, pay_cosB1, pay_sinB1, pay_cosB2, pay_sinB2, pay_cosB3, pay_sinB3, pay_q]
  iterate 32
    refine List.forall_mem_cons.2 ⟨?_, List.forall_mem_cons.2 ⟨?_, List.forall_mem_cons.2 ⟨?_, List.forall_mem_cons.2 ⟨?_, ?_⟩⟩⟩⟩
    · intro x; dsimp only; exact qb_pad_piece (sc := by decide) (by decide) x
    · intro x; dsimp only; exact qb_hi_piece (s1 := by decide) (s2 := by decide) (is_q H (is_fm H (is_h H _))) (is_cosB H _) (is_sinB H _) (by decide) (by rfl) x
    · intro x; dsimp only; exact qb_lo_piece (s1 := by decide) (s2 := by decide) (is_q H (is_fm H (is_h H _))) (is_cosB H _) (is_sinB H _) (by decide) (by rfl) x
    · intro x; dsimp only; exact qb_nope_piece (s1 := by decide) (is_q H (is_fm H (is_h H _))) (by decide) x
  exact fun _ h => absurd h List.not_mem_nil

set_option maxHeartbeats 1000000 in
/-- A run leaves the second mixer's keys of the block's 1024 tokens. -/
theorem out_kb (H : Reads W T x0 x1 x2 x3 x4 x5 x6 x7 x8 x9 x10 x11) :
    out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 = rowsG (fun n => kb W (T n)) := by
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11)]
  funext y
  refine View.canon_apply_of_pieces _ _ ?_ y (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 y)
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread]
  simp only [whole2 x2, whole3 x3, whole7 x7, whole9 x9, whole11 x11, pay_h0, pay_h1, pay_h2, pay_h3, pay_fm0, pay_fm1, pay_fm2, pay_fm3, pay_cosB0, pay_sinB0, pay_cosB1, pay_sinB1, pay_cosB2, pay_sinB2, pay_cosB3, pay_sinB3, pay_kv, pay_tail]
  iterate 32
    refine List.forall_mem_cons.2 ⟨?_, ?_⟩
    · intro x; dsimp only; exact kb_piece (s1 := by decide) (is_kv H (is_fm H (is_h H _))) (is_tail (is_fm H (is_h H _)) (is_cosB H _) (is_sinB H _)) (by decide) (by rfl) x
  exact fun _ h => absurd h List.not_mem_nil

set_option maxHeartbeats 1000000 in
/-- A run leaves the second mixer's values of the block's 1024 tokens. -/
theorem out_vb (H : Reads W T x0 x1 x2 x3 x4 x5 x6 x7 x8 x9 x10 x11) :
    out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 = colsG (fun n => vb W (T n)) := by
  unfold out0_A_17
  rw [View.read_writes_eq_canon _ _ _ (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11)]
  funext y
  refine View.canon_apply_of_pieces _ _ ?_ y (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 y)
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread]
  simp only [whole2 x2, whole3 x3, whole7 x7, whole9 x9, pay_h0, pay_h1, pay_h2, pay_h3, pay_fm0, pay_fm1, pay_fm2, pay_fm3, pay_kv]
  iterate 4
    refine List.forall_mem_cons.2 ⟨?_, ?_⟩
    · intro x; dsimp only; exact vb_piece (s1 := by decide) (is_kv H (is_fm H (is_h H _))) x
  exact fun _ h => absurd h List.not_mem_nil

end Cert.InRun

end
-- ==== Proof.InArgs.lean ====
module

public import proofs.«01_k».proof.Proof.InRow
public import Idealize.ShloMosaic.Lib.Pointwise

@[expose] public section

/-!
# The arguments of the input projection

The weights and one token of one sequence, read out of the argument arrays.
-/

noncomputable section

namespace Cert.InRow

open Idealize.ShloMosaic

/-- The weights, read out of the argument arrays. -/
def weights (x2 : FVec Ideal ⟨1, ![32]⟩ .f32) (x3 : FVec Ideal ⟨1, ![16]⟩ .f32) (x4 : FVec Ideal ⟨1, ![1024]⟩ .f32)
    (x5 : FVec Ideal ⟨2, ![1024, 3232]⟩ .f32) (x6 : FVec Ideal ⟨1, ![2048]⟩ .f32) (x7 : FVec Ideal ⟨1, ![256]⟩ .f32)
    (x8 : FVec Ideal ⟨2, ![256, 768]⟩ .f32) (x9 : FVec Ideal ⟨1, ![128]⟩ .f32) (x10 : FVec Ideal ⟨2, ![128, 1024]⟩ .f32) : Weights where
  gpre c := x4 (ix1 c)
  win c k := x5 (ix2 c k)
  bg k := x6 (ix1 k)
  qng l := x7 (ix1 l)
  wuq l k := x8 (ix2 l k)
  kvng l := x9 (ix1 l)
  wukv l k := x10 (ix2 l k)
  inva i := x2 (ix1 i)
  invb i := x3 (ix1 i)

/-- One token of one sequence, read out of the argument arrays. -/
def token (x0 : FVec Ideal ⟨3, ![8, 4096, 1024]⟩ .f32) (x1 : IVec ⟨2, ![8, 4096]⟩ 32) (b : Fin 8) (s : Fin 4096) : Token where
  x c := x0 (ix3 b s c)
  pos := FloatOps.sitofp (F := Ideal) .f32 (x1 (ix2 b s))

end Cert.InRow

end
-- ==== Proof.InHost.lean ====
module

public import proofs.«01_k».proof.Proof.InSlab
public import proofs.«01_k».proof.Proof.InArgs
public import proofs.«01_k».proof.Proof.Gen.InIdeal.Value
public import Idealize.ShloMosaic.Lib.ValueLayout
public import Idealize.ShloMosaic.Lib.KernelVsHost

@[expose] public section

/-!
# The blocks the grid hands to the body

The grid has 8 × 4 points: the first coordinate is the sequence, the second a tile of 1024 tokens. The residual rows
and the positions are cut into tiles. The weights are handed over whole, after the host has cut the joint projection
in two, padded the queries' heads to 128 columns, sorted the keys' and the values' columns, and turned them over.
-/

set_option maxRecDepth 16384

noncomputable section

namespace Cert.InRun

open Idealize.ShloMosaic Idealize.ShloMosaic.TcCoe Idealize.SL.Sem
open Cert.InIdeal Cert.InIdeal.Gen
open Cert.InRow

variable (m : (ℓ : Loc nD τ sig) → Buf (Elt Ideal) ℓ) (c : Dev nD)

/-- A point of the grid is below 32. -/
theorem point_lt (t : Fin cfg0.N) : t.val < 32 := lt_of_lt_of_eq t.isLt (show cfg0.N = 32 from N_0)

/-- The weights as launched. -/
def W0 : Weights := weights (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7))
  (m ((c : Thread nD τ).loc main_arg8)) (m ((c : Thread nD τ).loc main_arg9)) (m ((c : Thread nD τ).loc main_arg10))

/-- The tokens of a sequence as launched. -/
def T0 (b : Fin 8) (s : Fin 4096) : Token := token (m ((c : Thread nD τ).loc main_arg0)) (m ((c : Thread nD τ).loc main_arg1)) b s

/-- The sequence of a point. -/
def seqOf (t : Fin cfg0.N) : Fin 8 := ⟨t.val / 4, by have := point_lt t; omega⟩

/-- The position in its sequence of row `n` of a point's tile. -/
def posOf (t : Fin cfg0.N) (n : ℕ) : Fin 4096 := ⟨(1024 * (t.val % 4) + n) % 4096, by omega⟩

/-- A block that is the whole array starts at its corner. -/
theorem whole_coord (n k : ℕ) : 0 * n + 1 * k = k := by omega

/-- The host's queries' projection: 128 columns to a head, the last 32 zero, turned over. -/
def headsWuq (x : FVec Ideal S256x768 .bf16) (v : FVec Ideal S_ .bf16) : FVec Ideal S1024x256 .bf16 :=
  transpose S1024x256 [1, 0] (shapeCast S256x1024 (pad S256x8x128 ![0, 0, 0] ![0, 0, 32] ![0, 0, 0]
    (shapeCast S256x8x96 x Facts₀.shapeCasts_S256x768_S256x8x96) v Facts₀.pads_S256x8x96_S256x8x128_000_000_0320 Facts₀.h_S_)
    Facts₀.shapeCasts_S256x8x128_S256x1024) Facts₀.transposes_S256x1024_S1024x256_1_0

/-- A row of it that belongs to one of a head's 96 columns. -/
theorem headsWuq_apply (x : FVec Ideal S256x768 .bf16) (v : FVec Ideal S_ .bf16) (r : Fin 1024) (l : Fin 256) (k : Fin 768)
    (hk : k.val = 96 * (r.val / 128) + r.val % 128) (hr : r.val % 128 < 96) : headsWuq x v (ix2 r l) = x (ix2 l k) := by
  unfold headsWuq
  refine (transpose_apply [1, 0] _ _ (ix2 r l) (ix2 l r) (fun b => match b with | ⟨0, _⟩ => rfl | ⟨1, _⟩ => rfl)).trans ?_
  refine (shapeCast_apply _ _ (ix2 l r) (ix3 l (⟨r.val / 128, by omega⟩ : Fin 8) (⟨r.val % 128, by omega⟩ : Fin 128)) ?_).trans ?_
  · rw [Shape.rowMajor_val_two, Shape.rowMajor_val_three]
    show (l.val * 8 + r.val / 128) * 128 + r.val % 128 = l.val * 1024 + r.val
    omega
  refine (pad_apply_of_inside _ _ _ _ _ _ _ _ (ix3 l (⟨r.val / 128, by omega⟩ : Fin 8) (⟨r.val % 128, hr⟩ : Fin 96)) fun a => ?_).trans ?_
  · match a with
    | ⟨0, _⟩ => show l.val = 0 + l.val * 1; omega
    | ⟨1, _⟩ => show r.val / 128 = 0 + r.val / 128 * 1; omega
    | ⟨2, _⟩ => show r.val % 128 = 0 + r.val % 128 * 1; omega
  · refine shapeCast_apply _ _ _ (ix2 l k) ?_
    rw [Shape.rowMajor_val_two, Shape.rowMajor_val_three]
    show l.val * 768 + k.val = (l.val * 8 + r.val / 128) * 96 + r.val % 128
    omega

/-- Half of every head's columns, side by side. -/
def halfHeads (o : ℕ) (h : S128x8x128.Slices ![0, 0, o] S128x8x64) (x : FVec Ideal S128x1024 .bf16) : FVec Ideal S128x512 .bf16 :=
  shapeCast S128x512 (extractStridedSlice S128x8x64 ![0, 0, o] (shapeCast S128x8x128 x Facts₀.shapeCasts_S128x1024_S128x8x128) h)
    Facts₀.shapeCasts_S128x8x64_S128x512

/-- A column of it. -/
theorem halfHeads_apply (o : ℕ) (h : S128x8x128.Slices ![0, 0, o] S128x8x64) (x : FVec Ideal S128x1024 .bf16) (l : Fin 128) (r : Fin 512) (k : Fin 1024)
    (ho : o ≤ 64) (hk : k.val = 128 * (r.val / 64) + o + r.val % 64) : halfHeads o h x (ix2 l r) = x (ix2 l k) := by
  unfold halfHeads
  refine (shapeCast_apply _ _ (ix2 l r) (ix3 l (⟨r.val / 64, by omega⟩ : Fin 8) (⟨r.val % 64, by omega⟩ : Fin 64)) ?_).trans ?_
  · rw [Shape.rowMajor_val_two, Shape.rowMajor_val_three]
    show (l.val * 8 + r.val / 64) * 64 + r.val % 64 = l.val * 512 + r.val
    omega
  refine (extractStridedSlice_apply _ _ _ _ (ix3 l (⟨r.val / 64, by omega⟩ : Fin 8) (⟨o + r.val % 64, by omega⟩ : Fin 128)) fun a => ?_).trans ?_
  · match a with
    | ⟨0, _⟩ => show l.val = 0 + l.val; omega
    | ⟨1, _⟩ => show r.val / 64 = 0 + r.val / 64; omega
    | ⟨2, _⟩ => rfl
  · refine shapeCast_apply _ _ _ (ix2 l k) ?_
    rw [Shape.rowMajor_val_two, Shape.rowMajor_val_three]
    show l.val * 1024 + k.val = (l.val * 8 + r.val / 64) * 128 + (o + r.val % 64)
    omega

/-- The host's key-value projection: the keys' columns of all heads before the values', turned over. -/
def sortedWukv (x : FVec Ideal S128x1024 .bf16) : FVec Ideal S1024x128 .bf16 :=
  transpose S1024x128 [1, 0] (concatenate S128x1024 1 [⟨S128x512, halfHeads 0 Facts₀.slices_S128x8x128_S128x8x64_0_0_0 x⟩,
    ⟨S128x512, halfHeads 64 Facts₀.slices_S128x8x128_S128x8x64_0_0_64 x⟩] Facts₀.concatenates_S128x512_S128x512_S128x1024_d1)
    Facts₀.transposes_S128x1024_S1024x128_1_0

/-- A key row of it. -/
theorem sortedWukv_key (x : FVec Ideal S128x1024 .bf16) (r : Fin 1024) (l : Fin 128) (k : Fin 1024) (h : r.val < 512)
    (hk : k.val = 128 * (r.val / 64) + r.val % 64) : sortedWukv x (ix2 r l) = x (ix2 l k) := by
  unfold sortedWukv
  refine (transpose_apply [1, 0] _ _ (ix2 r l) (ix2 l r) (fun b => match b with | ⟨0, _⟩ => rfl | ⟨1, _⟩ => rfl)).trans ?_
  refine (concatenate_pair_apply_left (t := S128x1024) (s₁ := S128x512) (s₂ := S128x512) _ _ _ _ (ix2 l r) rfl (ix2 l (⟨r.val, h⟩ : Fin 512)) (fun b => match b with | ⟨0, _⟩ => rfl | ⟨1, _⟩ => rfl)).trans ?_
  exact halfHeads_apply 0 _ x l _ k (by decide) (by show k.val = 128 * (r.val / 64) + 0 + r.val % 64; omega)

/-- A value row of it. -/
theorem sortedWukv_value (x : FVec Ideal S128x1024 .bf16) (r : Fin 1024) (l : Fin 128) (k : Fin 1024) (h : 512 ≤ r.val)
    (hk : k.val = 128 * ((r.val - 512) / 64) + 64 + r.val % 64) : sortedWukv x (ix2 r l) = x (ix2 l k) := by
  unfold sortedWukv
  refine (transpose_apply [1, 0] _ _ (ix2 r l) (ix2 l r) (fun b => match b with | ⟨0, _⟩ => rfl | ⟨1, _⟩ => rfl)).trans ?_
  refine (concatenate_pair_apply_right (t := S128x1024) (s₁ := S128x512) (s₂ := S128x512) _ _ _ _ (ix2 l r) rfl rfl (ix2 l (⟨r.val - 512, by omega⟩ : Fin 512)) (fun b hb => match b with
    | ⟨0, _⟩ => rfl
    | ⟨1, _⟩ => absurd rfl hb) (by show r.val - 512 + 512 = r.val; omega)).trans ?_
  exact halfHeads_apply 64 _ x l _ k (by decide) (by show k.val = 128 * ((r.val - 512) / 64) + 64 + (r.val - 512) % 64; omega)

/-- The positions, as the host leaves them. -/
theorem host_pos (b : Fin 8) (s : Fin 4096) :
    (V m c main_v1 : S8x1x4096.Idx → EReal) (ix3 b 0 s) = FloatOps.sitofp (F := Ideal) .f32 ((m ((c : Thread nD τ).loc main_arg1) : IVec S8x4096 32) (ix2 b s)) := by
  show StableHlo.after (List.flatten [hostOps0, hostOps0_1, hostOps0_2]) _ (Proc.devRef .tc main_v1) _ = _
  simp only [List.flatten_cons, List.flatten_nil, List.cons_append, List.nil_append, List.append_nil]
  after_results
  refine shapeCast_apply _ _ _ (ix2 b s) ?_
  show (S8x4096.rowMajor (ix2 b s)).val = (S8x1x4096.rowMajor (ix3 b 0 s)).val
  rw [Shape.rowMajor_val_two, Shape.rowMajor_val_three]
  show b.val * 4096 + s.val = (b.val * 1 + 0) * 4096 + s.val
  omega

/-- The joint projection without the gates, as the host leaves it. -/
theorem host_joint (k : Fin 1184) (q : Fin 1024) :
    (V m c main_v6 : S1184x1024.Idx → EReal) (ix2 k q) = (m ((c : Thread nD τ).loc main_arg5) : S1024x3232.Idx → EReal) (ix2 q ⟨k.val, by omega⟩) := by
  show StableHlo.after (List.flatten [hostOps0, hostOps0_1, hostOps0_2]) _ (Proc.devRef .tc main_v6) _ = _
  simp only [List.flatten_cons, List.flatten_nil, List.cons_append, List.nil_append, List.append_nil]
  after_results
  pointwise

/-- The gates' projection, as the host leaves it. -/
theorem host_gate (q : Fin 1024) (k : Fin 2048) :
    (V m c main_v7 : S1024x2048.Idx → EReal) (ix2 q k) = (m ((c : Thread nD τ).loc main_arg5) : S1024x3232.Idx → EReal) (ix2 q ⟨1184 + k.val, by omega⟩) := by
  show StableHlo.after (List.flatten [hostOps0, hostOps0_1, hostOps0_2]) _ (Proc.devRef .tc main_v7) _ = _
  simp only [List.flatten_cons, List.flatten_nil, List.cons_append, List.nil_append, List.append_nil]
  after_results
  pointwise

/-- The queries' projection, as the host leaves it. -/
theorem host_wuq (r : Fin 1024) (l : Fin 256) (k : Fin 768) (hk : k.val = 96 * (r.val / 128) + r.val % 128) (hr : r.val % 128 < 96) :
    (V m c main_v12 : S1024x256.Idx → EReal) (ix2 r l) = (m ((c : Thread nD τ).loc main_arg8) : S256x768.Idx → EReal) (ix2 l k) := by
  show StableHlo.after (List.flatten [hostOps0, hostOps0_1, hostOps0_2]) _ (Proc.devRef .tc main_v12) _ = _
  simp only [List.flatten_cons, List.flatten_nil, List.cons_append, List.nil_append, List.append_nil]
  after_results
  exact headsWuq_apply (m ((c : Thread nD τ).loc main_arg8)) (sitofp .bf16 (constantI S_ 32 0#32)) r l k hk hr

/-- The keys' projection, as the host leaves it. -/
theorem host_wuk (r : Fin 1024) (l : Fin 128) (k : Fin 1024) (h : r.val < 512) (hk : k.val = 128 * (r.val / 64) + r.val % 64) :
    (V m c main_v20 : S1024x128.Idx → EReal) (ix2 r l) = (m ((c : Thread nD τ).loc main_arg10) : S128x1024.Idx → EReal) (ix2 l k) := by
  show StableHlo.after (List.flatten [hostOps0, hostOps0_1, hostOps0_2]) _ (Proc.devRef .tc main_v20) _ = _
  simp only [List.flatten_cons, List.flatten_nil, List.cons_append, List.nil_append, List.append_nil]
  after_results
  exact sortedWukv_key (m ((c : Thread nD τ).loc main_arg10)) r l k h hk

/-- The values' projection, as the host leaves it. -/
theorem host_wuv (r : Fin 1024) (l : Fin 128) (k : Fin 1024) (h : 512 ≤ r.val) (hk : k.val = 128 * ((r.val - 512) / 64) + 64 + r.val % 64) :
    (V m c main_v20 : S1024x128.Idx → EReal) (ix2 r l) = (m ((c : Thread nD τ).loc main_arg10) : S128x1024.Idx → EReal) (ix2 l k) := by
  show StableHlo.after (List.flatten [hostOps0, hostOps0_1, hostOps0_2]) _ (Proc.devRef .tc main_v20) _ = _
  simp only [List.flatten_cons, List.flatten_nil, List.cons_append, List.nil_append, List.append_nil]
  after_results
  exact sortedWukv_value (m ((c : Thread nD τ).loc main_arg10)) r l k h hk

/-- The gain before the mixers, laid out as a row. -/
theorem host_gpre (q : Fin 1024) :
    (V m c main_v21 : S1x1024.Idx → EReal) (ix2 0 q) = (m ((c : Thread nD τ).loc main_arg4) : S1024.Idx → EReal) (ix1 q) := by
  show StableHlo.after (List.flatten [hostOps0, hostOps0_1, hostOps0_2]) _ (Proc.devRef .tc main_v21) _ = _
  simp only [List.flatten_cons, List.flatten_nil, List.cons_append, List.nil_append, List.append_nil]
  after_results
  exact ValueIdx.shapeCast_a_1a_apply _ _ _ _

/-- The gates' bias, laid out as a row. -/
theorem host_bias (q : Fin 2048) :
    (V m c main_v22 : S1x2048.Idx → EReal) (ix2 0 q) = (m ((c : Thread nD τ).loc main_arg6) : S2048.Idx → EReal) (ix1 q) := by
  show StableHlo.after (List.flatten [hostOps0, hostOps0_1, hostOps0_2]) _ (Proc.devRef .tc main_v22) _ = _
  simp only [List.flatten_cons, List.flatten_nil, List.cons_append, List.nil_append, List.append_nil]
  after_results
  exact ValueIdx.shapeCast_a_1a_apply _ _ _ _

/-- The gain of the query latent, laid out as a column. -/
theorem host_qng (q : Fin 256) :
    (V m c main_v23 : S256x1.Idx → EReal) (ix2 q 0) = (m ((c : Thread nD τ).loc main_arg7) : S256.Idx → EReal) (ix1 q) := by
  show StableHlo.after (List.flatten [hostOps0, hostOps0_1, hostOps0_2]) _ (Proc.devRef .tc main_v23) _ = _
  simp only [List.flatten_cons, List.flatten_nil, List.cons_append, List.nil_append, List.append_nil]
  after_results
  refine shapeCast_apply _ _ _ (ix1 q) ?_
  show (S256.rowMajor (ix1 q)).val = (S256x1.rowMajor (ix2 q 0)).val
  rw [Shape.rowMajor_val_one, Shape.rowMajor_val_two]
  show q.val = q.val * 1 + 0
  omega

/-- The gain of the key-value latent, laid out as a column. -/
theorem host_kvng (q : Fin 128) :
    (V m c main_v24 : S128x1.Idx → EReal) (ix2 q 0) = (m ((c : Thread nD τ).loc main_arg9) : S128.Idx → EReal) (ix1 q) := by
  show StableHlo.after (List.flatten [hostOps0, hostOps0_1, hostOps0_2]) _ (Proc.devRef .tc main_v24) _ = _
  simp only [List.flatten_cons, List.flatten_nil, List.cons_append, List.nil_append, List.append_nil]
  after_results
  refine shapeCast_apply _ _ _ (ix1 q) ?_
  show (S128.rowMajor (ix1 q)).val = (S128x1.rowMajor (ix2 q 0)).val
  rw [Shape.rowMajor_val_one, Shape.rowMajor_val_two]
  show q.val = q.val * 1 + 0
  omega

/-- The first mixer's frequencies, laid out as a column. -/
theorem host_inva (q : Fin 32) :
    (V m c main_v2 : S32x1.Idx → EReal) (ix2 q 0) = (m ((c : Thread nD τ).loc main_arg2) : S32.Idx → EReal) (ix1 q) := by
  show StableHlo.after (List.flatten [hostOps0, hostOps0_1, hostOps0_2]) _ (Proc.devRef .tc main_v2) _ = _
  simp only [List.flatten_cons, List.flatten_nil, List.cons_append, List.nil_append, List.append_nil]
  after_results
  refine shapeCast_apply _ _ _ (ix1 q) ?_
  show (S32.rowMajor (ix1 q)).val = (S32x1.rowMajor (ix2 q 0)).val
  rw [Shape.rowMajor_val_one, Shape.rowMajor_val_two]
  show q.val = q.val * 1 + 0
  omega

/-- The second mixer's frequencies, laid out as a column. -/
theorem host_invb (q : Fin 16) :
    (V m c main_v3 : S16x1.Idx → EReal) (ix2 q 0) = (m ((c : Thread nD τ).loc main_arg3) : S16.Idx → EReal) (ix1 q) := by
  show StableHlo.after (List.flatten [hostOps0, hostOps0_1, hostOps0_2]) _ (Proc.devRef .tc main_v3) _ = _
  simp only [List.flatten_cons, List.flatten_nil, List.cons_append, List.nil_append, List.append_nil]
  after_results
  refine shapeCast_apply _ _ _ (ix1 q) ?_
  show (S16.rowMajor (ix1 q)).val = (S16x1.rowMajor (ix2 q 0)).val
  rw [Shape.rowMajor_val_one, Shape.rowMajor_val_two]
  show q.val = q.val * 1 + 0
  omega

/-- Where a tile of rows lies. -/
theorem tile_coord (i : Fin 3 → ℕ) (t r q n : ℕ) (h : i = ![t / 4, t % 4, 0]) (hr : r < 1024) :
    i 0 * 1 + 1 * 0 = t / 4 ∧ i 1 * 1024 + 1 * r = (1024 * (t % 4) + r) % 4096 ∧ i 2 * n + 1 * q = q := by
  subst h
  show t / 4 * 1 + 1 * 0 = t / 4 ∧ t % 4 * 1024 + 1 * r = (1024 * (t % 4) + r) % 4096 ∧ 0 * n + 1 * q = q
  omega

/-- Where a tile of columns lies. -/
theorem tile_coord_cols (i : Fin 3 → ℕ) (t r q n : ℕ) (h : i = ![t / 4, 0, t % 4]) (hr : r < 1024) :
    i 0 * 1 + 1 * 0 = t / 4 ∧ i 1 * n + 1 * q = q ∧ i 2 * 1024 + 1 * r = (1024 * (t % 4) + r) % 4096 := by
  subst h
  show t / 4 * 1 + 1 * 0 = t / 4 ∧ 0 * n + 1 * q = q ∧ t % 4 * 1024 + 1 * r = (1024 * (t % 4) + r) % 4096
  omega

/-- The tile of window 0, the residual rows. -/
theorem blk0 (t : Fin cfg0.N) (n : Fin 1024) (q : Fin 1024) :
    iblk m c 0 t (ix3 0 n q) = m ((c : Thread nD τ).loc main_arg0) (ix3 (seqOf t) (posOf t n.val) q) := by
  have hi : ∀ t : Fin cfg0.N, win0_0.index t = ![t.val / 4, t.val % 4, 0] := by decide +kernel
  have hc := tile_coord (win0_0.index t) t.val n.val q.val 1024 (hi t) n.isLt
  show V m c main_arg0 (((cfg0.win 0).blk t).view.emb (ix3 0 n q)) = _
  rw [V_main_arg0]
  exact congrArg _ (funext fun a => Fin.ext (match a with
    | ⟨0, _⟩ => hc.1
    | ⟨1, _⟩ => hc.2.1
    | ⟨2, _⟩ => hc.2.2))

/-- The tile of window 1, the positions. -/
theorem blk1 (t : Fin cfg0.N) (n : Fin 1024) :
    iblk m c 1 t (ix3 0 0 n) = FloatOps.sitofp (F := Ideal) .f32 ((m ((c : Thread nD τ).loc main_arg1) : IVec S8x4096 32) (ix2 (seqOf t) (posOf t n.val))) := by
  have hi : ∀ t : Fin cfg0.N, win0_1.index t = ![t.val / 4, 0, t.val % 4] := by decide +kernel
  have hc := tile_coord_cols (win0_1.index t) t.val n.val 0 1 (hi t) n.isLt
  refine Eq.trans ?_ (host_pos m c (seqOf t) (posOf t n.val))
  exact congrArg (V m c main_v1) (funext fun a => Fin.ext (match a with
    | ⟨0, _⟩ => hc.1
    | ⟨1, _⟩ => hc.2.1
    | ⟨2, _⟩ => hc.2.2))

/-- Window 2, the gain before the mixers, at an entry. -/
theorem blk2 (t : Fin cfg0.N) (q : Fin 1024) :
    iblk m c 2 t (ix2 0 q) = (W0 m c).gpre q := by
  refine Eq.trans ?_ (host_gpre m c q)
  exact congrArg (V m c main_v21) (funext fun a => Fin.ext (match a with
    | ⟨0, _⟩ => whole_coord 1 _
    | ⟨1, _⟩ => whole_coord 1024 _))

/-- Window 3, the joint projection without the gates, at an entry. -/
theorem blk3 (t : Fin cfg0.N) (k : Fin 1184) (q : Fin 1024) :
    iblk m c 3 t (ix2 k q) = (W0 m c).win q ⟨k.val, by omega⟩ := by
  refine Eq.trans ?_ (host_joint m c k q)
  exact congrArg (V m c main_v6) (funext fun a => Fin.ext (match a with
    | ⟨0, _⟩ => whole_coord 1184 _
    | ⟨1, _⟩ => whole_coord 1024 _))

/-- Window 4, the gates' projection, at an entry. -/
theorem blk4 (t : Fin cfg0.N) (q : Fin 1024) (k : Fin 2048) :
    iblk m c 4 t (ix2 q k) = (W0 m c).win q ⟨1184 + k.val, by omega⟩ := by
  refine Eq.trans ?_ (host_gate m c q k)
  exact congrArg (V m c main_v7) (funext fun a => Fin.ext (match a with
    | ⟨0, _⟩ => whole_coord 1024 _
    | ⟨1, _⟩ => whole_coord 2048 _))

/-- Window 5, the gates' bias, at an entry. -/
theorem blk5 (t : Fin cfg0.N) (q : Fin 2048) :
    iblk m c 5 t (ix2 0 q) = (W0 m c).bg q := by
  refine Eq.trans ?_ (host_bias m c q)
  exact congrArg (V m c main_v22) (funext fun a => Fin.ext (match a with
    | ⟨0, _⟩ => whole_coord 1 _
    | ⟨1, _⟩ => whole_coord 2048 _))

/-- Window 6, the gain of the query latent, at an entry. -/
theorem blk6 (t : Fin cfg0.N) (q : Fin 256) :
    iblk m c 6 t (ix2 q 0) = (W0 m c).qng q := by
  refine Eq.trans ?_ (host_qng m c q)
  exact congrArg (V m c main_v23) (funext fun a => Fin.ext (match a with
    | ⟨0, _⟩ => whole_coord 256 _
    | ⟨1, _⟩ => whole_coord 1 _))

/-- Window 7, the gain of the key-value latent, at an entry. -/
theorem blk7 (t : Fin cfg0.N) (q : Fin 128) :
    iblk m c 7 t (ix2 q 0) = (W0 m c).kvng q := by
  refine Eq.trans ?_ (host_kvng m c q)
  exact congrArg (V m c main_v24) (funext fun a => Fin.ext (match a with
    | ⟨0, _⟩ => whole_coord 128 _
    | ⟨1, _⟩ => whole_coord 1 _))

/-- Window 10, the first mixer's frequencies, at an entry. -/
theorem blk10 (t : Fin cfg0.N) (q : Fin 32) :
    iblk m c 10 t (ix2 q 0) = (W0 m c).inva q := by
  refine Eq.trans ?_ (host_inva m c q)
  exact congrArg (V m c main_v2) (funext fun a => Fin.ext (match a with
    | ⟨0, _⟩ => whole_coord 32 _
    | ⟨1, _⟩ => whole_coord 1 _))

/-- Window 11, the second mixer's frequencies, at an entry. -/
theorem blk11 (t : Fin cfg0.N) (q : Fin 16) :
    iblk m c 11 t (ix2 q 0) = (W0 m c).invb q := by
  refine Eq.trans ?_ (host_invb m c q)
  exact congrArg (V m c main_v3) (funext fun a => Fin.ext (match a with
    | ⟨0, _⟩ => whole_coord 16 _
    | ⟨1, _⟩ => whole_coord 1 _))

/-- Window 8, the queries' projection, is the host's array. -/
theorem blk8 (t : Fin cfg0.N) (r : Fin 1024) (l : Fin 256) : iblk m c 8 t (ix2 r l) = (V m c main_v12 : S1024x256.Idx → EReal) (ix2 r l) :=
  congrArg (V m c main_v12) (funext fun a => Fin.ext (match a with
    | ⟨0, _⟩ => whole_coord 1024 _
    | ⟨1, _⟩ => whole_coord 256 _))

/-- Window 9, the key-value projection, is the host's array. -/
theorem blk9 (t : Fin cfg0.N) (r : Fin 1024) (l : Fin 128) : iblk m c 9 t (ix2 r l) = (V m c main_v20 : S1024x128.Idx → EReal) (ix2 r l) :=
  congrArg (V m c main_v20) (funext fun a => Fin.ext (match a with
    | ⟨0, _⟩ => whole_coord 1024 _
    | ⟨1, _⟩ => whole_coord 128 _))

set_option maxHeartbeats 2000000 in
/-- **What the body finds at a point**: the launched weights and the tokens of the point's tile. -/
theorem reads_at (t : Fin cfg0.N) : Reads (W0 m c) (fun n => T0 m c (seqOf t) (posOf t n)) (iblk m c 0 t) (iblk m c 1 t) (iblk m c 2 t)
    (iblk m c 3 t) (iblk m c 4 t) (iblk m c 5 t) (iblk m c 6 t) (iblk m c 7 t) (iblk m c 8 t) (iblk m c 9 t) (iblk m c 10 t) (iblk m c 11 t) where
  row n q := blk0 m c t n q
  pos n := blk1 m c t n
  gpre q := blk2 m c t q
  joint k q := blk3 m c t k q
  gate q k := blk4 m c t q k
  bias q := blk5 m c t q
  qng q := blk6 m c t q
  kvng q := blk7 m c t q
  wuq r l k hk hr := (blk8 m c t r l).trans (host_wuq m c r l k hk hr)
  wuk r l k h hk := (blk9 m c t r l).trans (host_wuk m c r l k h hk)
  wuv r l k h hk := (blk9 m c t r l).trans (host_wuv m c r l k h hk)
  inva q := blk10 m c t q
  invb q := blk11 m c t q

end Cert.InRun

end
-- ==== Proof.InArray.lean ====
module

public import proofs.«01_k».proof.Proof.InRunA
public import proofs.«01_k».proof.Proof.InRunB
public import proofs.«01_k».proof.Proof.InHost

@[expose] public section

/-!
# The kernel's result arrays

Each of the kernel's seven result arrays at every entry: the row of its token, the token of the sequence and the
position that the entry names.
-/

set_option maxRecDepth 16384

noncomputable section

namespace Cert.InRun

open Idealize.ShloMosaic Idealize.ShloMosaic.TcCoe Idealize.SL.Sem
open Cert.InIdeal Cert.InIdeal.Gen Cert.InIdeal.Value
open Cert.InRow

variable (m : (ℓ : Loc nD τ sig) → Buf (Elt Ideal) ℓ) (c : Dev nD)

/-- The point whose tile holds a position of a sequence. -/
def pointOf (b : Fin 8) (s : Fin 4096) : Fin cfg0.N :=
  ⟨4 * b.val + s.val / 1024, lt_of_lt_of_eq (show 4 * b.val + s.val / 1024 < 32 by omega) (show 32 = cfg0.N from N_0.symm)⟩

/-- Its sequence. -/
theorem seq_pointOf (b : Fin 8) (s : Fin 4096) : (pointOf b s).val / 4 = b.val := by
  show (4 * b.val + s.val / 1024) / 4 = b.val
  omega

/-- Its rows' positions. -/
theorem pos_pointOf (b : Fin 8) (s : Fin 4096) : (1024 * ((pointOf b s).val % 4) + s.val % 1024) % 4096 = s.val := by
  show (1024 * ((4 * b.val + s.val / 1024) % 4) + s.val % 1024) % 4096 = s.val
  omega

/-- The token of that point and row. -/
theorem token_pointOf (b : Fin 8) (s : Fin 4096) :
    T0 m c (seqOf (pointOf b s)) (posOf (pointOf b s) (s.val % 1024)) = T0 m c b s := by
  rw [show seqOf (pointOf b s) = b from Fin.ext (seq_pointOf b s), show posOf (pointOf b s) (s.val % 1024) = s from Fin.ext (pos_pointOf b s)]

/-- The first mixer's queries, at an entry. -/
theorem qa_arr (b : Fin 8) (s : Fin 4096) (r : Fin 512) : (dats m 0 c).arrAt 12 cfg0.N (ix3 b r s) = qa (W0 m c) (T0 m c b s) r := by
  have hi : ∀ t : Fin cfg0.N, win0_12.index t = ![t.val / 4, 0, t.val % 4] := by decide +kernel
  have hc := tile_coord_cols (win0_12.index (pointOf b s)) (pointOf b s).val (s.val % 1024) r.val 512 (hi _) (Nat.mod_lt _ (by decide))
  have he : ((cfg0.win 12).blk (pointOf b s)).view.emb (ix3 0 r ⟨s.val % 1024, Nat.mod_lt _ (by decide)⟩) = ix3 b r s := funext fun a => Fin.ext (match a with
    | ⟨0, _⟩ => hc.1.trans (seq_pointOf b s)
    | ⟨1, _⟩ => hc.2.1
    | ⟨2, _⟩ => hc.2.2.trans (pos_pointOf b s))
  refine (congrArg ((dats m 0 c).arrAt 12 cfg0.N) he.symm).trans ?_
  refine (congrFun (blocks12 m c (pointOf b s) (flush0_12 _)) (ix3 0 r ⟨s.val % 1024, Nat.mod_lt _ (by decide)⟩)).trans ?_
  rw [flushed12_A, out_qa (H := reads_at m c (pointOf b s))]
  exact congrArg (fun T => qa (W0 m c) T r) (token_pointOf m c b s)

/-- The first mixer's keys, at an entry. -/
theorem ka_arr (b : Fin 8) (s : Fin 4096) (r : Fin 128) : (dats m 0 c).arrAt 13 cfg0.N (ix3 b r s) = ka (W0 m c) (T0 m c b s) r := by
  have hi : ∀ t : Fin cfg0.N, win0_13.index t = ![t.val / 4, 0, t.val % 4] := by decide +kernel
  have hc := tile_coord_cols (win0_13.index (pointOf b s)) (pointOf b s).val (s.val % 1024) r.val 128 (hi _) (Nat.mod_lt _ (by decide))
  have he : ((cfg0.win 13).blk (pointOf b s)).view.emb (ix3 0 r ⟨s.val % 1024, Nat.mod_lt _ (by decide)⟩) = ix3 b r s := funext fun a => Fin.ext (match a with
    | ⟨0, _⟩ => hc.1.trans (seq_pointOf b s)
    | ⟨1, _⟩ => hc.2.1
    | ⟨2, _⟩ => hc.2.2.trans (pos_pointOf b s))
  refine (congrArg ((dats m 0 c).arrAt 13 cfg0.N) he.symm).trans ?_
  refine (congrFun (blocks13 m c (pointOf b s) (flush0_13 _)) (ix3 0 r ⟨s.val % 1024, Nat.mod_lt _ (by decide)⟩)).trans ?_
  rw [flushed13_A, out_ka (H := reads_at m c (pointOf b s))]
  exact congrArg (fun T => ka (W0 m c) T r) (token_pointOf m c b s)

/-- The first mixer's values, at an entry. -/
theorem va_arr (b : Fin 8) (s : Fin 4096) (r : Fin 128) : (dats m 0 c).arrAt 14 cfg0.N (ix3 b r s) = va (W0 m c) (T0 m c b s) r := by
  have hi : ∀ t : Fin cfg0.N, win0_14.index t = ![t.val / 4, 0, t.val % 4] := by decide +kernel
  have hc := tile_coord_cols (win0_14.index (pointOf b s)) (pointOf b s).val (s.val % 1024) r.val 128 (hi _) (Nat.mod_lt _ (by decide))
  have he : ((cfg0.win 14).blk (pointOf b s)).view.emb (ix3 0 r ⟨s.val % 1024, Nat.mod_lt _ (by decide)⟩) = ix3 b r s := funext fun a => Fin.ext (match a with
    | ⟨0, _⟩ => hc.1.trans (seq_pointOf b s)
    | ⟨1, _⟩ => hc.2.1
    | ⟨2, _⟩ => hc.2.2.trans (pos_pointOf b s))
  refine (congrArg ((dats m 0 c).arrAt 14 cfg0.N) he.symm).trans ?_
  refine (congrFun (blocks14 m c (pointOf b s) (flush0_14 _)) (ix3 0 r ⟨s.val % 1024, Nat.mod_lt _ (by decide)⟩)).trans ?_
  rw [flushed14_A, out_va (H := reads_at m c (pointOf b s))]
  exact congrArg (fun T => va (W0 m c) T r) (token_pointOf m c b s)

/-- The second mixer's queries, at an entry. -/
theorem qb_arr (b : Fin 8) (s : Fin 4096) (r : Fin 1024) : (dats m 0 c).arrAt 15 cfg0.N (ix3 b r s) = qb (W0 m c) (T0 m c b s) r := by
  have hi : ∀ t : Fin cfg0.N, win0_15.index t = ![t.val / 4, 0, t.val % 4] := by decide +kernel
  have hc := tile_coord_cols (win0_15.index (pointOf b s)) (pointOf b s).val (s.val % 1024) r.val 1024 (hi _) (Nat.mod_lt _ (by decide))
  have he : ((cfg0.win 15).blk (pointOf b s)).view.emb (ix3 0 r ⟨s.val % 1024, Nat.mod_lt _ (by decide)⟩) = ix3 b r s := funext fun a => Fin.ext (match a with
    | ⟨0, _⟩ => hc.1.trans (seq_pointOf b s)
    | ⟨1, _⟩ => hc.2.1
    | ⟨2, _⟩ => hc.2.2.trans (pos_pointOf b s))
  refine (congrArg ((dats m 0 c).arrAt 15 cfg0.N) he.symm).trans ?_
  refine (congrFun (blocks15 m c (pointOf b s) (flush0_15 _)) (ix3 0 r ⟨s.val % 1024, Nat.mod_lt _ (by decide)⟩)).trans ?_
  rw [flushed15_A, out_qb (H := reads_at m c (pointOf b s))]
  exact congrArg (fun T => qb (W0 m c) T r) (token_pointOf m c b s)

/-- The second mixer's keys, at an entry. -/
theorem kb_arr (b : Fin 8) (s : Fin 4096) (r : Fin 1024) : (dats m 0 c).arrAt 16 cfg0.N (ix3 b s r) = kb (W0 m c) (T0 m c b s) r := by
  have hi : ∀ t : Fin cfg0.N, win0_16.index t = ![t.val / 4, t.val % 4, 0] := by decide +kernel
  have hc := tile_coord (win0_16.index (pointOf b s)) (pointOf b s).val (s.val % 1024) r.val 1024 (hi _) (Nat.mod_lt _ (by decide))
  have he : ((cfg0.win 16).blk (pointOf b s)).view.emb (ix3 0 ⟨s.val % 1024, Nat.mod_lt _ (by decide)⟩ r) = ix3 b s r := funext fun a => Fin.ext (match a with
    | ⟨0, _⟩ => hc.1.trans (seq_pointOf b s)
    | ⟨1, _⟩ => hc.2.1.trans (pos_pointOf b s)
    | ⟨2, _⟩ => hc.2.2)
  refine (congrArg ((dats m 0 c).arrAt 16 cfg0.N) he.symm).trans ?_
  refine (congrFun (blocks16 m c (pointOf b s) (flush0_16 _)) (ix3 0 ⟨s.val % 1024, Nat.mod_lt _ (by decide)⟩ r)).trans ?_
  rw [flushed16_A, out_kb (H := reads_at m c (pointOf b s))]
  exact congrArg (fun T => kb (W0 m c) T r) (token_pointOf m c b s)

/-- The second mixer's values, at an entry. -/
theorem vb_arr (b : Fin 8) (s : Fin 4096) (r : Fin 512) : (dats m 0 c).arrAt 17 cfg0.N (ix3 b r s) = vb (W0 m c) (T0 m c b s) r := by
  have hi : ∀ t : Fin cfg0.N, win0_17.index t = ![t.val / 4, 0, t.val % 4] := by decide +kernel
  have hc := tile_coord_cols (win0_17.index (pointOf b s)) (pointOf b s).val (s.val % 1024) r.val 512 (hi _) (Nat.mod_lt _ (by decide))
  have he : ((cfg0.win 17).blk (pointOf b s)).view.emb (ix3 0 r ⟨s.val % 1024, Nat.mod_lt _ (by decide)⟩) = ix3 b r s := funext fun a => Fin.ext (match a with
    | ⟨0, _⟩ => hc.1.trans (seq_pointOf b s)
    | ⟨1, _⟩ => hc.2.1
    | ⟨2, _⟩ => hc.2.2.trans (pos_pointOf b s))
  refine (congrArg ((dats m 0 c).arrAt 17 cfg0.N) he.symm).trans ?_
  refine (congrFun (blocks17 m c (pointOf b s) (flush0_17 _)) (ix3 0 r ⟨s.val % 1024, Nat.mod_lt _ (by decide)⟩)).trans ?_
  rw [flushed17_A, out_vb (H := reads_at m c (pointOf b s))]
  exact congrArg (fun T => vb (W0 m c) T r) (token_pointOf m c b s)

/-- The gates, at an entry. -/
theorem gates_arr (b : Fin 8) (s : Fin 4096) (r : Fin 2048) : (dats m 0 c).arrAt 18 cfg0.N (ix3 b s r) = gates (W0 m c) (T0 m c b s) r := by
  have hi : ∀ t : Fin cfg0.N, win0_18.index t = ![t.val / 4, t.val % 4, 0] := by decide +kernel
  have hc := tile_coord (win0_18.index (pointOf b s)) (pointOf b s).val (s.val % 1024) r.val 2048 (hi _) (Nat.mod_lt _ (by decide))
  have he : ((cfg0.win 18).blk (pointOf b s)).view.emb (ix3 0 ⟨s.val % 1024, Nat.mod_lt _ (by decide)⟩ r) = ix3 b s r := funext fun a => Fin.ext (match a with
    | ⟨0, _⟩ => hc.1.trans (seq_pointOf b s)
    | ⟨1, _⟩ => hc.2.1.trans (pos_pointOf b s)
    | ⟨2, _⟩ => hc.2.2)
  refine (congrArg ((dats m 0 c).arrAt 18 cfg0.N) he.symm).trans ?_
  refine (congrFun (blocks18 m c (pointOf b s) (flush0_18 _)) (ix3 0 ⟨s.val % 1024, Nat.mod_lt _ (by decide)⟩ r)).trans ?_
  rw [flushed18_A, out_gates (H := reads_at m c (pointOf b s))]
  exact congrArg (fun T => gates (W0 m c) T r) (token_pointOf m c b s)

end Cert.InRun

end
-- ==== Proof.InRef.lean ====
module

public import proofs.«01_k».proof.Proof.InArgs
public import proofs.«01_k».proof.Proof.Gen.InRefIdeal.Read
public import Idealize.ShloMosaic.Lib.KernelVsHost

@[expose] public section

/-!
# What the reference computes

The reference's array operations, named once, and its seven results read at an index as the row functions of the
input projection.
-/

set_option maxRecDepth 16384

noncomputable section

namespace Cert.InRow

open Idealize.ShloMosaic
open Cert.InRefIdeal
open Cert.PostRow (lin eps width)
open scoped BigOperators

/-- Heads laid side by side, at an index. -/
theorem merge_apply {H D N : ℕ} (y : FVec Ideal ⟨4, ![8, 4096, H, D]⟩ .f32) (hc : (⟨4, ![8, 4096, H, D]⟩ : Shape).ShapeCasts ⟨3, ![8, 4096, N]⟩)
    (b : Fin 8) (s : Fin 4096) (r : Fin N) (h : Fin H) (d : Fin D) (hN : N = H * D) (hr : r.val = h.val * D + d.val) :
    shapeCast ⟨3, ![8, 4096, N]⟩ y hc (ix3 b s r) = y (ix4 b s h d) := by
  refine shapeCast_apply _ _ _ (ix4 b s h d) ?_
  rw [Shape.rowMajor_val_four, Shape.rowMajor_val_three]
  show ((b.val * 4096 + s.val) * H + h.val) * D + d.val = (b.val * 4096 + s.val) * N + r.val
  rw [hr, hN]; ring

/-- Columns cut into heads, at an index. -/
theorem split_apply {H D N : ℕ} (y : FVec Ideal ⟨3, ![8, 4096, N]⟩ .f32) (hc : (⟨3, ![8, 4096, N]⟩ : Shape).ShapeCasts ⟨4, ![8, 4096, H, D]⟩)
    (b : Fin 8) (s : Fin 4096) (r : Fin N) (h : Fin H) (d : Fin D) (hN : N = H * D) (hr : r.val = h.val * D + d.val) :
    shapeCast ⟨4, ![8, 4096, H, D]⟩ y hc (ix4 b s h d) = y (ix3 b s r) := by
  refine shapeCast_apply _ _ _ (ix3 b s r) ?_
  rw [Shape.rowMajor_val_four, Shape.rowMajor_val_three]
  show (b.val * 4096 + s.val) * N + r.val = ((b.val * 4096 + s.val) * H + h.val) * D + d.val
  rw [hr, hN]; ring

/-- Rows and columns exchanged, at an index. -/
theorem turn_apply {N : ℕ} (y : FVec Ideal ⟨3, ![8, 4096, N]⟩ .f32) (ht : (⟨3, ![8, 4096, N]⟩ : Shape).Transposes [0, 2, 1] ⟨3, ![8, N, 4096]⟩)
    (b : Fin 8) (s : Fin 4096) (r : Fin N) : transpose ⟨3, ![8, N, 4096]⟩ [0, 2, 1] y ht (ix3 b r s) = y (ix3 b s r) :=
  transpose_apply [0, 2, 1] y ht _ _ (fun a => match a with | ⟨0, _⟩ => rfl | ⟨1, _⟩ => rfl | ⟨2, _⟩ => rfl)

/-- The reference's normalisation of the residual rows. -/
def hnorm (t : FVec Ideal S8x4096x1024 .f32) (g : FVec Ideal S1024 .f32) : FVec Ideal S8x4096x1024 .f32 :=
  mulf (mulf t (broadcastInDim S8x4096x1024 ![0, 1, 2] Facts₀.bcast_S8x4096x1_S8x4096x1024_0_1_2
    (Host.rsqrt (addf (Host.divf (broadcastInDim S8x4096x1 ![0, 1] Facts₀.bcast_S8x4096_S8x4096x1_0_1
        (Host.reduceAdd (mulf t t) (constant S_ .f32 0x00000000#32) Facts₀.reducesTo_S8x4096x1024_S8x4096_d2 Facts₀.h_S_))
      (broadcastInDim S8x4096x1 ![] Facts₀.bcast_S_S8x4096x1 (constant S_ .f32 0x44800000#32)))
      (broadcastInDim S8x4096x1 ![] Facts₀.bcast_S_S8x4096x1 (constant S_ .f32 0x358637BD#32))))))
    (broadcastInDim S8x4096x1024 ![0, 1, 2] Facts₀.bcast_S1x1x1024_S8x4096x1024_0_1_2
      (broadcastInDim S1x1x1024 ![2] Facts₀.bcast_S1024_S1x1x1024_2 g))

/-- The reference's normalisation of the query latent. -/
def hnorm256 (t : FVec Ideal S8x4096x256 .f32) (g : FVec Ideal S256 .f32) : FVec Ideal S8x4096x256 .f32 :=
  mulf (mulf t (broadcastInDim S8x4096x256 ![0, 1, 2] Facts₀.bcast_S8x4096x1_S8x4096x256_0_1_2
    (Host.rsqrt (addf (Host.divf (broadcastInDim S8x4096x1 ![0, 1] Facts₀.bcast_S8x4096_S8x4096x1_0_1
        (Host.reduceAdd (mulf t t) (constant S_ .f32 0x00000000#32) Facts₀.reducesTo_S8x4096x256_S8x4096_d2 Facts₀.h_S_))
      (broadcastInDim S8x4096x1 ![] Facts₀.bcast_S_S8x4096x1 (constant S_ .f32 0x43800000#32)))
      (broadcastInDim S8x4096x1 ![] Facts₀.bcast_S_S8x4096x1 (constant S_ .f32 0x358637BD#32))))))
    (broadcastInDim S8x4096x256 ![0, 1, 2] Facts₀.bcast_S1x1x256_S8x4096x256_0_1_2
      (broadcastInDim S1x1x256 ![2] Facts₀.bcast_S256_S1x1x256_2 g))

/-- The reference's normalisation of the key-value latent. -/
def hnorm128 (t : FVec Ideal S8x4096x128 .f32) (g : FVec Ideal S128 .f32) : FVec Ideal S8x4096x128 .f32 :=
  mulf (mulf t (broadcastInDim S8x4096x128 ![0, 1, 2] Facts₀.bcast_S8x4096x1_S8x4096x128_0_1_2
    (Host.rsqrt (addf (Host.divf (broadcastInDim S8x4096x1 ![0, 1] Facts₀.bcast_S8x4096_S8x4096x1_0_1
        (Host.reduceAdd (mulf t t) (constant S_ .f32 0x00000000#32) Facts₀.reducesTo_S8x4096x128_S8x4096_d2 Facts₀.h_S_))
      (broadcastInDim S8x4096x1 ![] Facts₀.bcast_S_S8x4096x1 (constant S_ .f32 0x43000000#32)))
      (broadcastInDim S8x4096x1 ![] Facts₀.bcast_S_S8x4096x1 (constant S_ .f32 0x358637BD#32))))))
    (broadcastInDim S8x4096x128 ![0, 1, 2] Facts₀.bcast_S1x1x128_S8x4096x128_0_1_2
      (broadcastInDim S1x1x128 ![2] Facts₀.bcast_S128_S1x1x128_2 g))

/-- Each normalised residual row. -/
theorem hnorm_apply (t : FVec Ideal S8x4096x1024 .f32) (g : FVec Ideal S1024 .f32) (b : Fin 8) (s : Fin 4096) (c : Fin 1024) :
    hnorm t g (ix3 b s c) = normed width (fun c => t (ix3 b s c)) (fun c => g (ix1 c)) c := by
  unfold hnorm normed width eps
  pointwise
/-- Each normalised query latent. -/
theorem hnorm256_apply (t : FVec Ideal S8x4096x256 .f32) (g : FVec Ideal S256 .f32) (b : Fin 8) (s : Fin 4096) (c : Fin 256) :
    hnorm256 t g (ix3 b s c) = normed width256 (fun c => t (ix3 b s c)) (fun c => g (ix1 c)) c := by
  unfold hnorm256 normed width256 eps
  pointwise
/-- Each normalised key-value latent. -/
theorem hnorm128_apply (t : FVec Ideal S8x4096x128 .f32) (g : FVec Ideal S128 .f32) (b : Fin 8) (s : Fin 4096) (c : Fin 128) :
    hnorm128 t g (ix3 b s c) = normed width128 (fun c => t (ix3 b s c)) (fun c => g (ix1 c)) c := by
  unfold hnorm128 normed width128 eps
  pointwise

/-- The reference's joint projection. -/
def hz (x0 : FVec Ideal S8x4096x1024 .f32) (x4 : FVec Ideal S1024 .f32) (x5 : FVec Ideal S1024x3232 .f32) : FVec Ideal S8x4096x3232 .f32 :=
  Host.dotGeneral dot_S8x4096x1024_S1024x3232_S8x4096x3232_2_0_01_1_n_n none (hnorm x0 x4) x5

/-- The joint projection, at an index. -/
theorem hz_apply (x0 : FVec Ideal S8x4096x1024 .f32) (x4 : FVec Ideal S1024 .f32) (x5 : FVec Ideal S1024x3232 .f32) (b : Fin 8) (s : Fin 4096) (k : Fin 3232) :
    hz x0 x4 x5 (ix3 b s k) = lin (normed width (fun c => x0 (ix3 b s c)) (fun c => x4 (ix1 c))) (fun c k => x5 (ix2 c k)) k := by
  unfold hz lin
  generalize hq : hnorm x0 x4 = q
  refine Eq.trans (b := ∑ c : Fin 1024, q (ix3 b s c) * x5 (ix2 c k)) (by pointwise) ?_
  subst hq
  exact Finset.sum_congr rfl fun c _ => by rw [hnorm_apply]

/-- The reference's query latent projected to the heads. -/
def hq (z : FVec Ideal S8x4096x3232 .f32) (x7 : FVec Ideal S256 .f32) (x8 : FVec Ideal S256x768 .f32) : FVec Ideal S8x4096x768 .f32 :=
  Host.dotGeneral dot_S8x4096x256_S256x768_S8x4096x768_2_0_01_1_n_n none
    (hnorm256 (extractStridedSlice S8x4096x256 ![0, 0, 768] z Facts₀.slices_S8x4096x3232_S8x4096x256_0_0_768) x7) x8

/-- The query latent projected, at an index. -/
theorem hq_apply (z : FVec Ideal S8x4096x3232 .f32) (x7 : FVec Ideal S256 .f32) (x8 : FVec Ideal S256x768 .f32) (b : Fin 8) (s : Fin 4096) (k : Fin 768) :
    hq z x7 x8 (ix3 b s k) = lin (normed width256 (fun l : Fin 256 => z (ix3 b s ⟨768 + l.val, by omega⟩)) (fun l => x7 (ix1 l))) (fun l k => x8 (ix2 l k)) k := by
  unfold hq lin
  generalize hy : hnorm256 (extractStridedSlice S8x4096x256 ![0, 0, 768] z Facts₀.slices_S8x4096x3232_S8x4096x256_0_0_768) x7 = y
  refine Eq.trans (b := ∑ l : Fin 256, y (ix3 b s l) * x8 (ix2 l k)) (by pointwise) ?_
  subst hy
  refine Finset.sum_congr rfl fun l _ => ?_
  rw [hnorm256_apply]
  refine congrArg (fun t => normed width256 t _ l * _) (funext fun l => ?_)
  pointwise

/-- The reference's key-value latent projected to the heads. -/
def hkv (z : FVec Ideal S8x4096x3232 .f32) (x9 : FVec Ideal S128 .f32) (x10 : FVec Ideal S128x1024 .f32) : FVec Ideal S8x4096x1024 .f32 :=
  Host.dotGeneral dot_S8x4096x128_S128x1024_S8x4096x1024_2_0_01_1_n_n none
    (hnorm128 (extractStridedSlice S8x4096x128 ![0, 0, 1024] z Facts₀.slices_S8x4096x3232_S8x4096x128_0_0_1024) x9) x10

/-- The key-value latent projected, at an index. -/
theorem hkv_apply (z : FVec Ideal S8x4096x3232 .f32) (x9 : FVec Ideal S128 .f32) (x10 : FVec Ideal S128x1024 .f32) (b : Fin 8) (s : Fin 4096) (k : Fin 1024) :
    hkv z x9 x10 (ix3 b s k) = lin (normed width128 (fun l : Fin 128 => z (ix3 b s ⟨1024 + l.val, by omega⟩)) (fun l => x9 (ix1 l))) (fun l k => x10 (ix2 l k)) k := by
  unfold hkv lin
  generalize hy : hnorm128 (extractStridedSlice S8x4096x128 ![0, 0, 1024] z Facts₀.slices_S8x4096x3232_S8x4096x128_0_0_1024) x9 = y
  refine Eq.trans (b := ∑ l : Fin 128, y (ix3 b s l) * x10 (ix2 l k)) (by pointwise) ?_
  subst hy
  refine Finset.sum_congr rfl fun l _ => ?_
  rw [hnorm128_apply]
  refine congrArg (fun t => normed width128 t _ l * _) (funext fun l => ?_)
  pointwise

/-- The angles of the first mixer. -/
def hangA (x1 : IVec S8x4096 32) (x2 : FVec Ideal S32 .f32) : FVec Ideal S8x4096x32 .f32 :=
  mulf (broadcastInDim S8x4096x32 ![0, 1, 2] Facts₀.bcast_S8x4096x1_S8x4096x32_0_1_2 (broadcastInDim S8x4096x1 ![0, 1] Facts₀.bcast_S8x4096_S8x4096x1_0_1 (sitofp .f32 x1)))
    (broadcastInDim S8x4096x32 ![0, 1, 2] Facts₀.bcast_S1x1x32_S8x4096x32_0_1_2 (broadcastInDim S1x1x32 ![2] Facts₀.bcast_S32_S1x1x32_2 x2))
/-- The angles of the second mixer. -/
def hangB (x1 : IVec S8x4096 32) (x3 : FVec Ideal S16 .f32) : FVec Ideal S8x4096x16 .f32 :=
  mulf (broadcastInDim S8x4096x16 ![0, 1, 2] Facts₀.bcast_S8x4096x1_S8x4096x16_0_1_2 (broadcastInDim S8x4096x1 ![0, 1] Facts₀.bcast_S8x4096_S8x4096x1_0_1 (sitofp .f32 x1)))
    (broadcastInDim S8x4096x16 ![0, 1, 2] Facts₀.bcast_S1x1x16_S8x4096x16_0_1_2 (broadcastInDim S1x1x16 ![2] Facts₀.bcast_S16_S1x1x16_2 x3))

/-- An angle of the first mixer. -/
theorem hangA_apply (x1 : IVec S8x4096 32) (x2 : FVec Ideal S32 .f32) (b : Fin 8) (s : Fin 4096) (i : Fin 32) :
    hangA x1 x2 (ix3 b s i) = FloatOps.sitofp (F := Ideal) .f32 (x1 (ix2 b s)) * x2 (ix1 i) := by
  unfold hangA
  rw [mulf_apply]
  refine congrArg₂ (· * ·) ?_ (by pointwise)
  generalize hy : (sitofp .f32 x1 : FVec Ideal S8x4096 .f32) = y
  refine Eq.trans (b := y (ix2 b s)) (by pointwise) ?_
  subst hy; rfl
/-- An angle of the second mixer. -/
theorem hangB_apply (x1 : IVec S8x4096 32) (x3 : FVec Ideal S16 .f32) (b : Fin 8) (s : Fin 4096) (i : Fin 16) :
    hangB x1 x3 (ix3 b s i) = FloatOps.sitofp (F := Ideal) .f32 (x1 (ix2 b s)) * x3 (ix1 i) := by
  unfold hangB
  rw [mulf_apply]
  refine congrArg₂ (· * ·) ?_ (by pointwise)
  generalize hy : (sitofp .f32 x1 : FVec Ideal S8x4096 .f32) = y
  refine Eq.trans (b := y (ix2 b s)) (by pointwise) ?_
  subst hy; rfl

/-- The reference's rotation of eight heads of 64 dimensions. -/
def hrope8 (t : FVec Ideal S8x4096x8x64 .f32) (cs sn : FVec Ideal S8x4096x32 .f32) : FVec Ideal S8x4096x8x64 .f32 :=
  concatenate S8x4096x8x64 3 [⟨S8x4096x8x32, subf
      (mulf (extractStridedSlice S8x4096x8x32 ![0, 0, 0, 0] t Facts₀.slices_S8x4096x8x64_S8x4096x8x32_0_0_0_0)
        (broadcastInDim S8x4096x8x32 ![0, 1, 2, 3] Facts₀.bcast_S8x4096x1x32_S8x4096x8x32_0_1_2_3 (broadcastInDim S8x4096x1x32 ![0, 1, 3] Facts₀.bcast_S8x4096x32_S8x4096x1x32_0_1_3 cs)))
      (mulf (extractStridedSlice S8x4096x8x32 ![0, 0, 0, 32] t Facts₀.slices_S8x4096x8x64_S8x4096x8x32_0_0_0_32)
        (broadcastInDim S8x4096x8x32 ![0, 1, 2, 3] Facts₀.bcast_S8x4096x1x32_S8x4096x8x32_0_1_2_3 (broadcastInDim S8x4096x1x32 ![0, 1, 3] Facts₀.bcast_S8x4096x32_S8x4096x1x32_0_1_3 sn)))⟩,
    ⟨S8x4096x8x32, addf
      (mulf (extractStridedSlice S8x4096x8x32 ![0, 0, 0, 32] t Facts₀.slices_S8x4096x8x64_S8x4096x8x32_0_0_0_32)
        (broadcastInDim S8x4096x8x32 ![0, 1, 2, 3] Facts₀.bcast_S8x4096x1x32_S8x4096x8x32_0_1_2_3 (broadcastInDim S8x4096x1x32 ![0, 1, 3] Facts₀.bcast_S8x4096x32_S8x4096x1x32_0_1_3 cs)))
      (mulf (extractStridedSlice S8x4096x8x32 ![0, 0, 0, 0] t Facts₀.slices_S8x4096x8x64_S8x4096x8x32_0_0_0_0)
        (broadcastInDim S8x4096x8x32 ![0, 1, 2, 3] Facts₀.bcast_S8x4096x1x32_S8x4096x8x32_0_1_2_3 (broadcastInDim S8x4096x1x32 ![0, 1, 3] Facts₀.bcast_S8x4096x32_S8x4096x1x32_0_1_3 sn)))⟩]
    Facts₀.concatenates_S8x4096x8x32_S8x4096x8x32_S8x4096x8x64_d3

/-- The rotation, at an index. -/
theorem hrope8_apply (t : FVec Ideal S8x4096x8x64 .f32) (cs sn : FVec Ideal S8x4096x32 .f32) (b : Fin 8) (s : Fin 4096) (h : Fin 8) (d : Fin 64) :
    hrope8 t cs sn (ix4 b s h d) = if hd : d.val < 32
      then lo (cs (ix3 b s ⟨d.val, hd⟩)) (sn (ix3 b s ⟨d.val, hd⟩)) (t (ix4 b s h d)) (t (ix4 b s h ⟨d.val + 32, by omega⟩))
      else hi (cs (ix3 b s ⟨d.val - 32, by omega⟩)) (sn (ix3 b s ⟨d.val - 32, by omega⟩)) (t (ix4 b s h ⟨d.val - 32, by omega⟩)) (t (ix4 b s h d)) := by
  unfold hrope8 lo hi
  pointwise
  by_cases hd : d.val < 32
  · simp only [dif_pos hd, Nat.add_comm 32]
  · have e : 32 + (d.val - 32) = d.val := by omega
    simp only [dif_neg hd, e]

/-- The reference's rotation of two heads of 64 dimensions. -/
def hrope2 (t : FVec Ideal S8x4096x2x64 .f32) (cs sn : FVec Ideal S8x4096x32 .f32) : FVec Ideal S8x4096x2x64 .f32 :=
  concatenate S8x4096x2x64 3 [⟨S8x4096x2x32, subf
      (mulf (extractStridedSlice S8x4096x2x32 ![0, 0, 0, 0] t Facts₀.slices_S8x4096x2x64_S8x4096x2x32_0_0_0_0)
        (broadcastInDim S8x4096x2x32 ![0, 1, 2, 3] Facts₀.bcast_S8x4096x1x32_S8x4096x2x32_0_1_2_3 (broadcastInDim S8x4096x1x32 ![0, 1, 3] Facts₀.bcast_S8x4096x32_S8x4096x1x32_0_1_3 cs)))
      (mulf (extractStridedSlice S8x4096x2x32 ![0, 0, 0, 32] t Facts₀.slices_S8x4096x2x64_S8x4096x2x32_0_0_0_32)
        (broadcastInDim S8x4096x2x32 ![0, 1, 2, 3] Facts₀.bcast_S8x4096x1x32_S8x4096x2x32_0_1_2_3 (broadcastInDim S8x4096x1x32 ![0, 1, 3] Facts₀.bcast_S8x4096x32_S8x4096x1x32_0_1_3 sn)))⟩,
    ⟨S8x4096x2x32, addf
      (mulf (extractStridedSlice S8x4096x2x32 ![0, 0, 0, 32] t Facts₀.slices_S8x4096x2x64_S8x4096x2x32_0_0_0_32)
        (broadcastInDim S8x4096x2x32 ![0, 1, 2, 3] Facts₀.bcast_S8x4096x1x32_S8x4096x2x32_0_1_2_3 (broadcastInDim S8x4096x1x32 ![0, 1, 3] Facts₀.bcast_S8x4096x32_S8x4096x1x32_0_1_3 cs)))
      (mulf (extractStridedSlice S8x4096x2x32 ![0, 0, 0, 0] t Facts₀.slices_S8x4096x2x64_S8x4096x2x32_0_0_0_0)
        (broadcastInDim S8x4096x2x32 ![0, 1, 2, 3] Facts₀.bcast_S8x4096x1x32_S8x4096x2x32_0_1_2_3 (broadcastInDim S8x4096x1x32 ![0, 1, 3] Facts₀.bcast_S8x4096x32_S8x4096x1x32_0_1_3 sn)))⟩]
    Facts₀.concatenates_S8x4096x2x32_S8x4096x2x32_S8x4096x2x64_d3

/-- The rotation, at an index. -/
theorem hrope2_apply (t : FVec Ideal S8x4096x2x64 .f32) (cs sn : FVec Ideal S8x4096x32 .f32) (b : Fin 8) (s : Fin 4096) (h : Fin 2) (d : Fin 64) :
    hrope2 t cs sn (ix4 b s h d) = if hd : d.val < 32
      then lo (cs (ix3 b s ⟨d.val, hd⟩)) (sn (ix3 b s ⟨d.val, hd⟩)) (t (ix4 b s h d)) (t (ix4 b s h ⟨d.val + 32, by omega⟩))
      else hi (cs (ix3 b s ⟨d.val - 32, by omega⟩)) (sn (ix3 b s ⟨d.val - 32, by omega⟩)) (t (ix4 b s h ⟨d.val - 32, by omega⟩)) (t (ix4 b s h d)) := by
  unfold hrope2 lo hi
  pointwise
  by_cases hd : d.val < 32
  · simp only [dif_pos hd, Nat.add_comm 32]
  · have e : 32 + (d.val - 32) = d.val := by omega
    simp only [dif_neg hd, e]

/-- The reference's rotation of eight heads of 32 dimensions. -/
def hropeQ (t : FVec Ideal S8x4096x8x32 .f32) (cs sn : FVec Ideal S8x4096x16 .f32) : FVec Ideal S8x4096x8x32 .f32 :=
  concatenate S8x4096x8x32 3 [⟨S8x4096x8x16, subf
      (mulf (extractStridedSlice S8x4096x8x16 ![0, 0, 0, 0] t Facts₀.slices_S8x4096x8x32_S8x4096x8x16_0_0_0_0)
        (broadcastInDim S8x4096x8x16 ![0, 1, 2, 3] Facts₀.bcast_S8x4096x1x16_S8x4096x8x16_0_1_2_3 (broadcastInDim S8x4096x1x16 ![0, 1, 3] Facts₀.bcast_S8x4096x16_S8x4096x1x16_0_1_3 cs)))
      (mulf (extractStridedSlice S8x4096x8x16 ![0, 0, 0, 16] t Facts₀.slices_S8x4096x8x32_S8x4096x8x16_0_0_0_16)
        (broadcastInDim S8x4096x8x16 ![0, 1, 2, 3] Facts₀.bcast_S8x4096x1x16_S8x4096x8x16_0_1_2_3 (broadcastInDim S8x4096x1x16 ![0, 1, 3] Facts₀.bcast_S8x4096x16_S8x4096x1x16_0_1_3 sn)))⟩,
    ⟨S8x4096x8x16, addf
      (mulf (extractStridedSlice S8x4096x8x16 ![0, 0, 0, 16] t Facts₀.slices_S8x4096x8x32_S8x4096x8x16_0_0_0_16)
        (broadcastInDim S8x4096x8x16 ![0, 1, 2, 3] Facts₀.bcast_S8x4096x1x16_S8x4096x8x16_0_1_2_3 (broadcastInDim S8x4096x1x16 ![0, 1, 3] Facts₀.bcast_S8x4096x16_S8x4096x1x16_0_1_3 cs)))
      (mulf (extractStridedSlice S8x4096x8x16 ![0, 0, 0, 0] t Facts₀.slices_S8x4096x8x32_S8x4096x8x16_0_0_0_0)
        (broadcastInDim S8x4096x8x16 ![0, 1, 2, 3] Facts₀.bcast_S8x4096x1x16_S8x4096x8x16_0_1_2_3 (broadcastInDim S8x4096x1x16 ![0, 1, 3] Facts₀.bcast_S8x4096x16_S8x4096x1x16_0_1_3 sn)))⟩]
    Facts₀.concatenates_S8x4096x8x16_S8x4096x8x16_S8x4096x8x32_d3

/-- The rotation, at an index. -/
theorem hropeQ_apply (t : FVec Ideal S8x4096x8x32 .f32) (cs sn : FVec Ideal S8x4096x16 .f32) (b : Fin 8) (s : Fin 4096) (h : Fin 8) (d : Fin 32) :
    hropeQ t cs sn (ix4 b s h d) = if hd : d.val < 16
      then lo (cs (ix3 b s ⟨d.val, hd⟩)) (sn (ix3 b s ⟨d.val, hd⟩)) (t (ix4 b s h d)) (t (ix4 b s h ⟨d.val + 16, by omega⟩))
      else hi (cs (ix3 b s ⟨d.val - 16, by omega⟩)) (sn (ix3 b s ⟨d.val - 16, by omega⟩)) (t (ix4 b s h ⟨d.val - 16, by omega⟩)) (t (ix4 b s h d)) := by
  unfold hropeQ lo hi
  pointwise
  by_cases hd : d.val < 16
  · simp only [dif_pos hd, Nat.add_comm 16]
  · have e : 16 + (d.val - 16) = d.val := by omega
    simp only [dif_neg hd, e]

/-- The reference's rotation of the shared rotary key, spread over the heads. -/
def hropeK (t : FVec Ideal S8x4096x32 .f32) (cs sn : FVec Ideal S8x4096x16 .f32) : FVec Ideal S8x4096x8x32 .f32 :=
  broadcastInDim S8x4096x8x32 ![0, 1, 2, 3] Facts₀.bcast_S8x4096x1x32_S8x4096x8x32_0_1_2_3 (concatenate S8x4096x1x32 3 [⟨S8x4096x1x16, subf
      (mulf (extractStridedSlice S8x4096x1x16 ![0, 0, 0, 0] (broadcastInDim S8x4096x1x32 ![0, 1, 3] Facts₀.bcast_S8x4096x32_S8x4096x1x32_0_1_3 t) Facts₀.slices_S8x4096x1x32_S8x4096x1x16_0_0_0_0)
        (broadcastInDim S8x4096x1x16 ![0, 1, 3] Facts₀.bcast_S8x4096x16_S8x4096x1x16_0_1_3 cs))
      (mulf (extractStridedSlice S8x4096x1x16 ![0, 0, 0, 16] (broadcastInDim S8x4096x1x32 ![0, 1, 3] Facts₀.bcast_S8x4096x32_S8x4096x1x32_0_1_3 t) Facts₀.slices_S8x4096x1x32_S8x4096x1x16_0_0_0_16)
        (broadcastInDim S8x4096x1x16 ![0, 1, 3] Facts₀.bcast_S8x4096x16_S8x4096x1x16_0_1_3 sn))⟩,
    ⟨S8x4096x1x16, addf
      (mulf (extractStridedSlice S8x4096x1x16 ![0, 0, 0, 16] (broadcastInDim S8x4096x1x32 ![0, 1, 3] Facts₀.bcast_S8x4096x32_S8x4096x1x32_0_1_3 t) Facts₀.slices_S8x4096x1x32_S8x4096x1x16_0_0_0_16)
        (broadcastInDim S8x4096x1x16 ![0, 1, 3] Facts₀.bcast_S8x4096x16_S8x4096x1x16_0_1_3 cs))
      (mulf (extractStridedSlice S8x4096x1x16 ![0, 0, 0, 0] (broadcastInDim S8x4096x1x32 ![0, 1, 3] Facts₀.bcast_S8x4096x32_S8x4096x1x32_0_1_3 t) Facts₀.slices_S8x4096x1x32_S8x4096x1x16_0_0_0_0)
        (broadcastInDim S8x4096x1x16 ![0, 1, 3] Facts₀.bcast_S8x4096x16_S8x4096x1x16_0_1_3 sn))⟩]
    Facts₀.concatenates_S8x4096x1x16_S8x4096x1x16_S8x4096x1x32_d3)

/-- The rotated shared key, at an index. -/
theorem hropeK_apply (t : FVec Ideal S8x4096x32 .f32) (cs sn : FVec Ideal S8x4096x16 .f32) (b : Fin 8) (s : Fin 4096) (h : Fin 8) (d : Fin 32) :
    hropeK t cs sn (ix4 b s h d) = if hd : d.val < 16
      then lo (cs (ix3 b s ⟨d.val, hd⟩)) (sn (ix3 b s ⟨d.val, hd⟩)) (t (ix3 b s d)) (t (ix3 b s ⟨d.val + 16, by omega⟩))
      else hi (cs (ix3 b s ⟨d.val - 16, by omega⟩)) (sn (ix3 b s ⟨d.val - 16, by omega⟩)) (t (ix3 b s ⟨d.val - 16, by omega⟩)) (t (ix3 b s d)) := by
  unfold hropeK lo hi
  pointwise
  by_cases hd : d.val < 16
  · simp only [dif_pos hd, Nat.add_comm 16]
  · have e : 16 + (d.val - 16) = d.val := by omega
    simp only [dif_neg hd, e]

/-- A head's plain and rotary dimensions put together. -/
def hjoin (a : FVec Ideal S8x4096x8x64 .f32) (e : FVec Ideal S8x4096x8x32 .f32) : FVec Ideal S8x4096x8x96 .f32 :=
  concatenate S8x4096x8x96 3 [⟨S8x4096x8x64, a⟩, ⟨S8x4096x8x32, e⟩] Facts₀.concatenates_S8x4096x8x64_S8x4096x8x32_S8x4096x8x96_d3

/-- A head put together, at an index. -/
theorem hjoin_apply (a : FVec Ideal S8x4096x8x64 .f32) (e : FVec Ideal S8x4096x8x32 .f32) (b : Fin 8) (s : Fin 4096) (h : Fin 8) (d : Fin 96) :
    hjoin a e (ix4 b s h d) = if hd : d.val < 64 then a (ix4 b s h ⟨d.val, hd⟩) else e (ix4 b s h ⟨d.val - 64, by omega⟩) := by
  unfold hjoin
  pointwise

/-- Heads of 96 dimensions padded by zeros to 128. -/
def hpadded (y : FVec Ideal S8x4096x8x96 .f32) : FVec Ideal S8x4096x8x128 .f32 :=
  pad S8x4096x8x128 ![0, 0, 0, 0] ![0, 0, 0, 32] ![0, 0, 0, 0] y (sitofp .f32 (constantI S_ 32 0#32)) Facts₀.pads_S8x4096x8x96_S8x4096x8x128_000_000_000_0320 Facts₀.h_S_

/-- A padded head, at an index. -/
theorem hpadded_apply (y : FVec Ideal S8x4096x8x96 .f32) (b : Fin 8) (s : Fin 4096) (h : Fin 8) (d : Fin 128) :
    hpadded y (ix4 b s h d) = if hd : d.val < 96 then y (ix4 b s h ⟨d.val, hd⟩) else 0 := by
  unfold hpadded
  split
  · rename_i hd
    refine pad_apply_of_inside _ _ _ _ _ _ _ _ _ fun a => ?_
    match a with
    | ⟨0, _⟩ => show b.val = 0 + b.val * 1; omega
    | ⟨1, _⟩ => show s.val = 0 + s.val * 1; omega
    | ⟨2, _⟩ => show h.val = 0 + h.val * 1; omega
    | ⟨3, _⟩ => show d.val = 0 + d.val * 1; omega
  · rename_i hd
    refine (pad_apply_of_not_inside _ _ _ _ _ _ _ _ (3 : Fin 4) ?_).trans ?_
    · intro hh
      have h3 : (d.val - 0) / (0 + 1) < 96 := hh.2.2
      omega
    · show ((((0#32 : BitVec 32).toInt : ℤ) : ℝ) : EReal) = 0
      simp

end Cert.InRow

end
-- ==== Proof.InRefRows.lean ====
module

public import proofs.«01_k».proof.Proof.InRef

@[expose] public section

/-!
# The reference's seven results, row by row

Each result of the reference in the operations of the module before, and read at an index.
-/

set_option maxRecDepth 16384

noncomputable section

namespace Cert.InRow

open Idealize.ShloMosaic
open Cert.InRefIdeal
open Cert.PostRow (lin eps width)
open scoped BigOperators

/-- A narrowed array has the same extended reals. -/
theorem narrowed {t : Shape} (a : FVec Ideal t .f32) (h : FTy.bf16.bits < FTy.f32.bits) (i : t.Idx) : (truncf .bf16 a h : FVec Ideal t .bf16) i = a i := rfl

section

variable (W : Weights) (T : Token) (z : FVec Ideal S8x4096x3232 .f32) (b : Fin 8) (s : Fin 4096) (hz : ∀ k, z (ix3 b s k) = InRow.z W T k)

/-- The first mixer's queries, of the joint projection and the angles' cosines and sines. -/
def hqa (z : FVec Ideal S8x4096x3232 .f32) (cs sn : FVec Ideal S8x4096x32 .f32) : FVec Ideal S8x512x4096 .bf16 :=
  truncf .bf16 (transpose S8x512x4096 [0, 2, 1] (shapeCast S8x4096x512 (mulf (hrope8 (shapeCast S8x4096x8x64
      (extractStridedSlice S8x4096x512 ![0, 0, 0] z Facts₀.slices_S8x4096x3232_S8x4096x512_0_0_0) Facts₀.shapeCasts_S8x4096x512_S8x4096x8x64) cs sn)
      (broadcastInDim S8x4096x8x64 ![] Facts₀.bcast_S_S8x4096x8x64 (constant S_ .f32 0x3E38AA3B#32)))
    Facts₀.shapeCasts_S8x4096x8x64_S8x4096x512) Facts₀.transposes_S8x4096x512_S8x512x4096_0_2_1) Facts₀.bitsLt_bf16_f32

include hz in
/-- The first mixer's queries, at an index. -/
theorem hqa_apply (cs sn : FVec Ideal S8x4096x32 .f32) (hc : ∀ i, cs (ix3 b s i) = cosA W T i) (hs : ∀ i, sn (ix3 b s i) = sinA W T i) (r : Fin 512) :
    hqa z cs sn (ix3 b r s) = qa W T r := by
  have ht : ∀ e : Fin 64, shapeCast S8x4096x8x64 (extractStridedSlice S8x4096x512 ![0, 0, 0] z Facts₀.slices_S8x4096x3232_S8x4096x512_0_0_0)
      Facts₀.shapeCasts_S8x4096x512_S8x4096x8x64 (ix4 b s (⟨r.val / 64, by omega⟩ : Fin 8) e) = InRow.z W T ⟨64 * (r.val / 64) + e.val, by omega⟩ := fun e => by
    refine (split_apply _ _ b s (⟨64 * (r.val / 64) + e.val, by omega⟩ : Fin 512) _ e (by rfl) (by show 64 * (r.val / 64) + e.val = r.val / 64 * 64 + e.val; omega)).trans ?_
    refine Eq.trans ?_ (hz _)
    pointwise
  unfold hqa
  rw [narrowed]
  refine (turn_apply _ _ b s r).trans ?_
  refine (merge_apply _ _ b s r (⟨r.val / 64, by omega⟩ : Fin 8) (⟨r.val % 64, by omega⟩ : Fin 64) (by rfl) (by show r.val = r.val / 64 * 64 + r.val % 64; omega)).trans ?_
  rw [mulf_apply, hrope8_apply]
  simp only [ht, hc, hs]
  rfl

/-- The first mixer's keys, of the joint projection and the angles' cosines and sines. -/
def hka (z : FVec Ideal S8x4096x3232 .f32) (cs sn : FVec Ideal S8x4096x32 .f32) : FVec Ideal S8x128x4096 .bf16 :=
  truncf .bf16 (transpose S8x128x4096 [0, 2, 1] (shapeCast S8x4096x128 (hrope2 (shapeCast S8x4096x2x64
      (extractStridedSlice S8x4096x128 ![0, 0, 512] z Facts₀.slices_S8x4096x3232_S8x4096x128_0_0_512) Facts₀.shapeCasts_S8x4096x128_S8x4096x2x64) cs sn)
    Facts₀.shapeCasts_S8x4096x2x64_S8x4096x128) Facts₀.transposes_S8x4096x128_S8x128x4096_0_2_1) Facts₀.bitsLt_bf16_f32

include hz in
/-- The first mixer's keys, at an index. -/
theorem hka_apply (cs sn : FVec Ideal S8x4096x32 .f32) (hc : ∀ i, cs (ix3 b s i) = cosA W T i) (hs : ∀ i, sn (ix3 b s i) = sinA W T i) (r : Fin 128) :
    hka z cs sn (ix3 b r s) = ka W T r := by
  have ht : ∀ e : Fin 64, shapeCast S8x4096x2x64 (extractStridedSlice S8x4096x128 ![0, 0, 512] z Facts₀.slices_S8x4096x3232_S8x4096x128_0_0_512)
      Facts₀.shapeCasts_S8x4096x128_S8x4096x2x64 (ix4 b s (⟨r.val / 64, by omega⟩ : Fin 2) e) = InRow.z W T ⟨512 + 64 * (r.val / 64) + e.val, by omega⟩ := fun e => by
    refine (split_apply _ _ b s (⟨64 * (r.val / 64) + e.val, by omega⟩ : Fin 128) _ e (by rfl) (by show 64 * (r.val / 64) + e.val = r.val / 64 * 64 + e.val; omega)).trans ?_
    refine Eq.trans ?_ (hz _)
    refine extractStridedSlice_apply _ _ _ _ _ fun a => ?_
    match a with
    | ⟨0, _⟩ => show b.val = 0 + b.val; omega
    | ⟨1, _⟩ => show s.val = 0 + s.val; omega
    | ⟨2, _⟩ => show 512 + 64 * (r.val / 64) + e.val = 512 + (64 * (r.val / 64) + e.val); omega
  unfold hka
  rw [narrowed]
  refine (turn_apply _ _ b s r).trans ?_
  refine (merge_apply _ _ b s r (⟨r.val / 64, by omega⟩ : Fin 2) (⟨r.val % 64, by omega⟩ : Fin 64) (by rfl) (by show r.val = r.val / 64 * 64 + r.val % 64; omega)).trans ?_
  rw [hrope2_apply]
  simp only [ht, hc, hs]
  rfl

/-- The first mixer's values, of the joint projection. -/
def hva (z : FVec Ideal S8x4096x3232 .f32) : FVec Ideal S8x128x4096 .bf16 :=
  truncf .bf16 (transpose S8x128x4096 [0, 2, 1] (extractStridedSlice S8x4096x128 ![0, 0, 640] z Facts₀.slices_S8x4096x3232_S8x4096x128_0_0_640)
    Facts₀.transposes_S8x4096x128_S8x128x4096_0_2_1) Facts₀.bitsLt_bf16_f32

include hz in
/-- The first mixer's values, at an index. -/
theorem hva_apply (r : Fin 128) : hva z (ix3 b r s) = va W T r := by
  unfold hva
  rw [narrowed]
  refine (turn_apply _ _ b s r).trans ?_
  refine Eq.trans ?_ (hz _)
  pointwise

/-- The second mixer's queries, of the projected query latent and the angles' cosines and sines. -/
def hqb (y : FVec Ideal S8x4096x768 .f32) (cs sn : FVec Ideal S8x4096x16 .f32) : FVec Ideal S8x1024x4096 .bf16 :=
  truncf .bf16 (transpose S8x1024x4096 [0, 2, 1] (shapeCast S8x4096x1024 (hpadded (mulf (hjoin
      (extractStridedSlice S8x4096x8x64 ![0, 0, 0, 0] (shapeCast S8x4096x8x96 y Facts₀.shapeCasts_S8x4096x768_S8x4096x8x96) Facts₀.slices_S8x4096x8x96_S8x4096x8x64_0_0_0_0)
      (hropeQ (extractStridedSlice S8x4096x8x32 ![0, 0, 0, 64] (shapeCast S8x4096x8x96 y Facts₀.shapeCasts_S8x4096x768_S8x4096x8x96) Facts₀.slices_S8x4096x8x96_S8x4096x8x32_0_0_0_64) cs sn))
      (broadcastInDim S8x4096x8x96 ![] Facts₀.bcast_S_S8x4096x8x96 (constant S_ .f32 0x3E16C740#32))))
    Facts₀.shapeCasts_S8x4096x8x128_S8x4096x1024) Facts₀.transposes_S8x4096x1024_S8x1024x4096_0_2_1) Facts₀.bitsLt_bf16_f32

/-- The second mixer's queries, at an index. -/
theorem hqb_apply (y : FVec Ideal S8x4096x768 .f32) (hy : ∀ k, y (ix3 b s k) = q W T k) (cs sn : FVec Ideal S8x4096x16 .f32)
    (hc : ∀ i, cs (ix3 b s i) = cosB W T i) (hs : ∀ i, sn (ix3 b s i) = sinB W T i) (r : Fin 1024) :
    hqb y cs sn (ix3 b r s) = qb W T r := by
  have ht : ∀ e : Fin 96, shapeCast S8x4096x8x96 y Facts₀.shapeCasts_S8x4096x768_S8x4096x8x96 (ix4 b s (⟨r.val / 128, by omega⟩ : Fin 8) e)
      = q W T ⟨96 * (r.val / 128) + e.val, by omega⟩ := fun e =>
    (split_apply _ _ b s (⟨96 * (r.val / 128) + e.val, by omega⟩ : Fin 768) _ e (by rfl) (by show 96 * (r.val / 128) + e.val = r.val / 128 * 96 + e.val; omega)).trans (hy _)
  have hn : ∀ e : Fin 64, extractStridedSlice S8x4096x8x64 ![0, 0, 0, 0] (shapeCast S8x4096x8x96 y Facts₀.shapeCasts_S8x4096x768_S8x4096x8x96)
      Facts₀.slices_S8x4096x8x96_S8x4096x8x64_0_0_0_0 (ix4 b s (⟨r.val / 128, by omega⟩ : Fin 8) e) = q W T ⟨96 * (r.val / 128) + e.val, by omega⟩ := fun e => by
    refine Eq.trans ?_ (ht ⟨e.val, by omega⟩)
    generalize shapeCast S8x4096x8x96 y Facts₀.shapeCasts_S8x4096x768_S8x4096x8x96 = w
    pointwise
  have hp : ∀ e : Fin 32, extractStridedSlice S8x4096x8x32 ![0, 0, 0, 64] (shapeCast S8x4096x8x96 y Facts₀.shapeCasts_S8x4096x768_S8x4096x8x96)
      Facts₀.slices_S8x4096x8x96_S8x4096x8x32_0_0_0_64 (ix4 b s (⟨r.val / 128, by omega⟩ : Fin 8) e) = q W T ⟨96 * (r.val / 128) + 64 + e.val, by omega⟩ := fun e => by
    refine Eq.trans ?_ ((ht ⟨64 + e.val, by omega⟩).trans (congrArg (q W T) (Fin.ext (by show 96 * (r.val / 128) + (64 + e.val) = 96 * (r.val / 128) + 64 + e.val; omega))))
    generalize shapeCast S8x4096x8x96 y Facts₀.shapeCasts_S8x4096x768_S8x4096x8x96 = w
    pointwise
  unfold hqb
  rw [narrowed]
  refine (turn_apply _ _ b s r).trans ?_
  refine (merge_apply _ _ b s r (⟨r.val / 128, by omega⟩ : Fin 8) (⟨r.val % 128, by omega⟩ : Fin 128) (by rfl) (by show r.val = r.val / 128 * 128 + r.val % 128; omega)).trans ?_
  rw [hpadded_apply]
  unfold qb qbHead
  by_cases h1 : r.val % 128 < 64
  · rw [dif_pos (show r.val % 128 < 96 by omega), dif_pos h1, mulf_apply, hjoin_apply, dif_pos h1, hn]
    rfl
  · rw [dif_neg h1]
    by_cases h2 : r.val % 128 < 96
    · rw [dif_pos h2, dif_pos h2, mulf_apply, hjoin_apply, dif_neg h1, hropeQ_apply]
      simp only [hp, hc, hs]
      rfl
    · rw [dif_neg h2, dif_neg h2]

/-- The second mixer's keys, of the joint projection, the projected key-value latent and the angles' cosines and sines. -/
def hkb (z : FVec Ideal S8x4096x3232 .f32) (y : FVec Ideal S8x4096x1024 .f32) (cs sn : FVec Ideal S8x4096x16 .f32) : FVec Ideal S8x4096x1024 .bf16 :=
  truncf .bf16 (shapeCast S8x4096x1024 (hpadded (hjoin
      (extractStridedSlice S8x4096x8x64 ![0, 0, 0, 0] (shapeCast S8x4096x8x128 y Facts₀.shapeCasts_S8x4096x1024_S8x4096x8x128) Facts₀.slices_S8x4096x8x128_S8x4096x8x64_0_0_0_0)
      (hropeK (extractStridedSlice S8x4096x32 ![0, 0, 1152] z Facts₀.slices_S8x4096x3232_S8x4096x32_0_0_1152) cs sn)))
    Facts₀.shapeCasts_S8x4096x8x128_S8x4096x1024) Facts₀.bitsLt_bf16_f32

include hz in
/-- The second mixer's keys, at an index. -/
theorem hkb_apply (y : FVec Ideal S8x4096x1024 .f32) (hy : ∀ k, y (ix3 b s k) = kv W T k) (cs sn : FVec Ideal S8x4096x16 .f32)
    (hc : ∀ i, cs (ix3 b s i) = cosB W T i) (hs : ∀ i, sn (ix3 b s i) = sinB W T i) (r : Fin 1024) :
    hkb z y cs sn (ix3 b s r) = kb W T r := by
  have hn : ∀ e : Fin 64, extractStridedSlice S8x4096x8x64 ![0, 0, 0, 0] (shapeCast S8x4096x8x128 y Facts₀.shapeCasts_S8x4096x1024_S8x4096x8x128)
      Facts₀.slices_S8x4096x8x128_S8x4096x8x64_0_0_0_0 (ix4 b s (⟨r.val / 128, by omega⟩ : Fin 8) e) = kv W T ⟨128 * (r.val / 128) + e.val, by omega⟩ := fun e => by
    refine Eq.trans ?_ ((split_apply y Facts₀.shapeCasts_S8x4096x1024_S8x4096x8x128 b s (⟨128 * (r.val / 128) + e.val, by omega⟩ : Fin 1024) (⟨r.val / 128, by omega⟩ : Fin 8) (⟨e.val, by omega⟩ : Fin 128)
      (by rfl) (by show 128 * (r.val / 128) + e.val = r.val / 128 * 128 + e.val; omega)).trans (hy _))
    generalize shapeCast S8x4096x8x128 y Facts₀.shapeCasts_S8x4096x1024_S8x4096x8x128 = w
    pointwise
  have hp : ∀ e : Fin 32, extractStridedSlice S8x4096x32 ![0, 0, 1152] z Facts₀.slices_S8x4096x3232_S8x4096x32_0_0_1152 (ix3 b s e)
      = InRow.z W T ⟨1152 + e.val, by omega⟩ := fun e => by
    refine Eq.trans ?_ (hz _)
    pointwise
  unfold hkb
  rw [narrowed]
  refine (merge_apply _ _ b s r (⟨r.val / 128, by omega⟩ : Fin 8) (⟨r.val % 128, by omega⟩ : Fin 128) (by rfl) (by show r.val = r.val / 128 * 128 + r.val % 128; omega)).trans ?_
  rw [hpadded_apply]
  unfold kb kbHead
  by_cases h1 : r.val % 128 < 64
  · rw [dif_pos (show r.val % 128 < 96 by omega), dif_pos h1, hjoin_apply, dif_pos h1, hn]
  · rw [dif_neg h1]
    by_cases h2 : r.val % 128 < 96
    · rw [dif_pos h2, dif_pos h2, hjoin_apply, dif_neg h1, hropeK_apply]
      simp only [hp, hc, hs]
      rfl
    · rw [dif_neg h2, dif_neg h2]

/-- The second mixer's values, of the projected key-value latent. -/
def hvb (y : FVec Ideal S8x4096x1024 .f32) : FVec Ideal S8x512x4096 .bf16 :=
  truncf .bf16 (transpose S8x512x4096 [0, 2, 1] (shapeCast S8x4096x512 (extractStridedSlice S8x4096x8x64 ![0, 0, 0, 64]
      (shapeCast S8x4096x8x128 y Facts₀.shapeCasts_S8x4096x1024_S8x4096x8x128) Facts₀.slices_S8x4096x8x128_S8x4096x8x64_0_0_0_64)
    Facts₀.shapeCasts_S8x4096x8x64_S8x4096x512) Facts₀.transposes_S8x4096x512_S8x512x4096_0_2_1) Facts₀.bitsLt_bf16_f32

/-- The second mixer's values, at an index. -/
theorem hvb_apply (y : FVec Ideal S8x4096x1024 .f32) (hy : ∀ k, y (ix3 b s k) = kv W T k) (r : Fin 512) : hvb y (ix3 b r s) = vb W T r := by
  unfold hvb
  rw [narrowed]
  refine (turn_apply _ _ b s r).trans ?_
  refine (merge_apply _ _ b s r (⟨r.val / 64, by omega⟩ : Fin 8) (⟨r.val % 64, by omega⟩ : Fin 64) (by rfl) (by show r.val = r.val / 64 * 64 + r.val % 64; omega)).trans ?_
  refine Eq.trans ?_ ((split_apply y Facts₀.shapeCasts_S8x4096x1024_S8x4096x8x128 b s (⟨128 * (r.val / 64) + 64 + r.val % 64, by omega⟩ : Fin 1024) (⟨r.val / 64, by omega⟩ : Fin 8) (⟨64 + r.val % 64, by omega⟩ : Fin 128)
      (by rfl) (by show 128 * (r.val / 64) + 64 + r.val % 64 = r.val / 64 * 128 + (64 + r.val % 64); omega)).trans (hy _))
  generalize shapeCast S8x4096x8x128 y Facts₀.shapeCasts_S8x4096x1024_S8x4096x8x128 = w
  pointwise

/-- The gates, of the joint projection and the bias. -/
def hgates (z : FVec Ideal S8x4096x3232 .f32) (x6 : FVec Ideal S2048 .f32) : FVec Ideal S8x4096x2048 .bf16 :=
  truncf .bf16 (Host.divf (broadcastInDim S8x4096x2048 ![] Facts₀.bcast_S_S8x4096x2048 (constant S_ .f32 0x3F800000#32))
    (addf (broadcastInDim S8x4096x2048 ![] Facts₀.bcast_S_S8x4096x2048 (constant S_ .f32 0x3F800000#32))
      (Host.exp (Host.negf (addf (extractStridedSlice S8x4096x2048 ![0, 0, 1184] z Facts₀.slices_S8x4096x3232_S8x4096x2048_0_0_1184)
        (broadcastInDim S8x4096x2048 ![0, 1, 2] Facts₀.bcast_S1x1x2048_S8x4096x2048_0_1_2 (broadcastInDim S1x1x2048 ![2] Facts₀.bcast_S2048_S1x1x2048_2 x6))))))) Facts₀.bitsLt_bf16_f32

include hz in
/-- The gates, at an index. -/
theorem hgates_apply (x6 : FVec Ideal S2048 .f32) (h6 : ∀ k, x6 (ix1 k) = W.bg k) (k : Fin 2048) : hgates z x6 (ix3 b s k) = gates W T k := by
  unfold gates
  rw [← hz, ← h6]
  unfold hgates Cert.PostRow.sig Cert.PostRow.one
  pointwise

end

section

variable (x0 : FVec Ideal S8x4096x1024 .f32) (x1 : IVec S8x4096 32) (x2 : FVec Ideal S32 .f32) (x3 : FVec Ideal S16 .f32) (x4 : FVec Ideal S1024 .f32)
  (x5 : FVec Ideal S1024x3232 .f32) (x6 : FVec Ideal S2048 .f32) (x7 : FVec Ideal S256 .f32) (x8 : FVec Ideal S256x768 .f32) (x9 : FVec Ideal S128 .f32)
  (x10 : FVec Ideal S128x1024 .f32) (b : Fin 8) (s : Fin 4096)

/-- The joint projection of a token. -/
theorem z_ref (k : Fin 3232) : hz x0 x4 x5 (ix3 b s k) = InRow.z (weights x2 x3 x4 x5 x6 x7 x8 x9 x10) (token x0 x1 b s) k :=
  hz_apply x0 x4 x5 b s k
/-- The projected query latent of a token. -/
theorem q_ref (k : Fin 768) : hq (hz x0 x4 x5) x7 x8 (ix3 b s k) = q (weights x2 x3 x4 x5 x6 x7 x8 x9 x10) (token x0 x1 b s) k := by
  rw [hq_apply]
  simp only [z_ref x0 x1 x2 x3 x4 x5 x6 x7 x8 x9 x10]
  rfl
/-- The projected key-value latent of a token. -/
theorem kv_ref (k : Fin 1024) : hkv (hz x0 x4 x5) x9 x10 (ix3 b s k) = kv (weights x2 x3 x4 x5 x6 x7 x8 x9 x10) (token x0 x1 b s) k := by
  rw [hkv_apply]
  simp only [z_ref x0 x1 x2 x3 x4 x5 x6 x7 x8 x9 x10]
  rfl
/-- A cosine of the first mixer. -/
theorem cosA_ref (i : Fin 32) : (Host.cos (hangA x1 x2) : FVec Ideal S8x4096x32 .f32) (ix3 b s i) = cosA (weights x2 x3 x4 x5 x6 x7 x8 x9 x10) (token x0 x1 b s) i :=
  congrArg Ideal.cos (hangA_apply x1 x2 b s i)
/-- A sine of the first mixer. -/
theorem sinA_ref (i : Fin 32) : (Host.sin (hangA x1 x2) : FVec Ideal S8x4096x32 .f32) (ix3 b s i) = sinA (weights x2 x3 x4 x5 x6 x7 x8 x9 x10) (token x0 x1 b s) i :=
  congrArg Ideal.sin (hangA_apply x1 x2 b s i)
/-- A cosine of the second mixer. -/
theorem cosB_ref (i : Fin 16) : (Host.cos (hangB x1 x3) : FVec Ideal S8x4096x16 .f32) (ix3 b s i) = cosB (weights x2 x3 x4 x5 x6 x7 x8 x9 x10) (token x0 x1 b s) i :=
  congrArg Ideal.cos (hangB_apply x1 x3 b s i)
/-- A sine of the second mixer. -/
theorem sinB_ref (i : Fin 16) : (Host.sin (hangB x1 x3) : FVec Ideal S8x4096x16 .f32) (ix3 b s i) = sinB (weights x2 x3 x4 x5 x6 x7 x8 x9 x10) (token x0 x1 b s) i :=
  congrArg Ideal.sin (hangB_apply x1 x3 b s i)

/-- The reference's first result, the first mixer's queries. -/
theorem qa_ref (r : Fin 512) : Read.val_main_v137 (F := Ideal) x0 x1 x2 x4 x5 (ix3 b r s) = qa (weights x2 x3 x4 x5 x6 x7 x8 x9 x10) (token x0 x1 b s) r := by
  rw [show Read.val_main_v137 (F := Ideal) x0 x1 x2 x4 x5 = hqa (hz x0 x4 x5) (Host.cos (hangA x1 x2)) (Host.sin (hangA x1 x2)) from rfl]
  exact hqa_apply _ _ _ b s (z_ref x0 x1 x2 x3 x4 x5 x6 x7 x8 x9 x10 b s) _ _ (cosA_ref x0 x1 x2 x3 x4 x5 x6 x7 x8 x9 x10 b s) (sinA_ref x0 x1 x2 x3 x4 x5 x6 x7 x8 x9 x10 b s) r
/-- The reference's second result, the first mixer's keys. -/
theorem ka_ref (r : Fin 128) : Read.val_main_v140 (F := Ideal) x0 x1 x2 x4 x5 (ix3 b r s) = ka (weights x2 x3 x4 x5 x6 x7 x8 x9 x10) (token x0 x1 b s) r := by
  rw [show Read.val_main_v140 (F := Ideal) x0 x1 x2 x4 x5 = hka (hz x0 x4 x5) (Host.cos (hangA x1 x2)) (Host.sin (hangA x1 x2)) from rfl]
  exact hka_apply _ _ _ b s (z_ref x0 x1 x2 x3 x4 x5 x6 x7 x8 x9 x10 b s) _ _ (cosA_ref x0 x1 x2 x3 x4 x5 x6 x7 x8 x9 x10 b s) (sinA_ref x0 x1 x2 x3 x4 x5 x6 x7 x8 x9 x10 b s) r
/-- The reference's third result, the first mixer's values. -/
theorem va_ref (r : Fin 128) : Read.val_main_v142 (F := Ideal) x0 x4 x5 (ix3 b r s) = va (weights x2 x3 x4 x5 x6 x7 x8 x9 x10) (token x0 x1 b s) r := by
  rw [show Read.val_main_v142 (F := Ideal) x0 x4 x5 = hva (hz x0 x4 x5) from rfl]
  exact hva_apply _ _ _ b s (z_ref x0 x1 x2 x3 x4 x5 x6 x7 x8 x9 x10 b s) r
/-- The reference's fourth result, the second mixer's queries. -/
theorem qb_ref (r : Fin 1024) : Read.val_main_v148 (F := Ideal) x0 x1 x3 x4 x5 x7 x8 (ix3 b r s) = qb (weights x2 x3 x4 x5 x6 x7 x8 x9 x10) (token x0 x1 b s) r := by
  rw [show Read.val_main_v148 (F := Ideal) x0 x1 x3 x4 x5 x7 x8 = hqb (hq (hz x0 x4 x5) x7 x8) (Host.cos (hangB x1 x3)) (Host.sin (hangB x1 x3)) from rfl]
  exact hqb_apply _ _ b s _ (q_ref x0 x1 x2 x3 x4 x5 x6 x7 x8 x9 x10 b s) _ _ (cosB_ref x0 x1 x2 x3 x4 x5 x6 x7 x8 x9 x10 b s) (sinB_ref x0 x1 x2 x3 x4 x5 x6 x7 x8 x9 x10 b s) r
/-- The reference's fifth result, the second mixer's keys. -/
theorem kb_ref (r : Fin 1024) : Read.val_main_v151 (F := Ideal) x0 x1 x3 x4 x5 x9 x10 (ix3 b s r) = kb (weights x2 x3 x4 x5 x6 x7 x8 x9 x10) (token x0 x1 b s) r := by
  rw [show Read.val_main_v151 (F := Ideal) x0 x1 x3 x4 x5 x9 x10 = hkb (hz x0 x4 x5) (hkv (hz x0 x4 x5) x9 x10) (Host.cos (hangB x1 x3)) (Host.sin (hangB x1 x3)) from rfl]
  exact hkb_apply _ _ _ b s (z_ref x0 x1 x2 x3 x4 x5 x6 x7 x8 x9 x10 b s) _ (kv_ref x0 x1 x2 x3 x4 x5 x6 x7 x8 x9 x10 b s) _ _ (cosB_ref x0 x1 x2 x3 x4 x5 x6 x7 x8 x9 x10 b s) (sinB_ref x0 x1 x2 x3 x4 x5 x6 x7 x8 x9 x10 b s) r
/-- The reference's sixth result, the second mixer's values. -/
theorem vb_ref (r : Fin 512) : Read.val_main_v154 (F := Ideal) x0 x4 x5 x9 x10 (ix3 b r s) = vb (weights x2 x3 x4 x5 x6 x7 x8 x9 x10) (token x0 x1 b s) r := by
  rw [show Read.val_main_v154 (F := Ideal) x0 x4 x5 x9 x10 = hvb (hkv (hz x0 x4 x5) x9 x10) from rfl]
  exact hvb_apply _ _ b s _ (kv_ref x0 x1 x2 x3 x4 x5 x6 x7 x8 x9 x10 b s) r
/-- The reference's seventh result, the gates. -/
theorem gates_ref (k : Fin 2048) : Read.val_main_v164 (F := Ideal) x0 x4 x5 x6 (ix3 b s k) = gates (weights x2 x3 x4 x5 x6 x7 x8 x9 x10) (token x0 x1 b s) k := by
  rw [show Read.val_main_v164 (F := Ideal) x0 x4 x5 x6 = hgates (hz x0 x4 x5) x6 from rfl]
  exact hgates_apply _ _ _ b s (z_ref x0 x1 x2 x3 x4 x5 x6 x7 x8 x9 x10 b s) x6 (fun _ => rfl) k

end

end Cert.InRow

end
-- ==== Proof.InClaims.lean ====
module

public import proofs.«01_k».proof.Defs
public import proofs.«01_k».proof.Proof.InArray
public import proofs.«01_k».proof.Proof.InRefRows
public import Idealize.ShloMosaic.Lib.Quiescent

@[expose] public section

/-!
# The claims about the input projection

The reference's frame, the empty list of rewrites, and the equality of the kernel's and the reference's seven results.
-/

set_option maxRecDepth 16384

noncomputable section

namespace Cert.InRun

open Idealize.ShloMosaic Idealize.ShloMosaic.TcCoe Idealize.SL.Sem
open Cert.InIdeal Cert.InIdeal.Gen Cert.InIdeal.Value
open Cert.InRow

/-- An array of rank three is known by its entries. -/
theorem ext3 {p q r : ℕ} {x y : (⟨3, ![p, q, r]⟩ : Shape).Idx → EReal} (h : ∀ i j k, x (ix3 i j k) = y (ix3 i j k)) : x = y := by
  funext j
  have hj : j = ix3 (j 0) (j 1) (j 2) := by
    funext a
    match a with
    | ⟨0, _⟩ => rfl
    | ⟨1, _⟩ => rfl
    | ⟨2, _⟩ => rfl
  rw [hj]
  exact h _ _ _

section

variable (m : (ℓ : Loc nD τ sig) → Buf (Elt Ideal) ℓ) (c : Dev nD)

/-- The first mixer's queries are one array. -/
theorem qa_eq : (dats m 0 c).arrAt 12 cfg0.N = Cert.InRefIdeal.Read.val_main_v137 (F := Ideal) (m ((c : Thread nD τ).loc main_arg0)) (m ((c : Thread nD τ).loc main_arg1)) (m ((c : Thread nD τ).loc main_arg2)) (m ((c : Thread nD τ).loc main_arg4)) (m ((c : Thread nD τ).loc main_arg5)) :=
  ext3 fun b r s => (qa_arr m c b s r).trans (qa_ref _ _ _ _ _ _ _ _ _ _ _ b s r).symm

/-- The first mixer's keys are one array. -/
theorem ka_eq : (dats m 0 c).arrAt 13 cfg0.N = Cert.InRefIdeal.Read.val_main_v140 (F := Ideal) (m ((c : Thread nD τ).loc main_arg0)) (m ((c : Thread nD τ).loc main_arg1)) (m ((c : Thread nD τ).loc main_arg2)) (m ((c : Thread nD τ).loc main_arg4)) (m ((c : Thread nD τ).loc main_arg5)) :=
  ext3 fun b r s => (ka_arr m c b s r).trans (ka_ref _ _ _ _ _ _ _ _ _ _ _ b s r).symm

/-- The first mixer's values are one array. -/
theorem va_eq : (dats m 0 c).arrAt 14 cfg0.N = Cert.InRefIdeal.Read.val_main_v142 (F := Ideal) (m ((c : Thread nD τ).loc main_arg0)) (m ((c : Thread nD τ).loc main_arg4)) (m ((c : Thread nD τ).loc main_arg5)) :=
  ext3 fun b r s => (va_arr m c b s r).trans (va_ref _ _ _ _ _ _ _ _ _ _ _ b s r).symm

/-- The second mixer's queries are one array. -/
theorem qb_eq : (dats m 0 c).arrAt 15 cfg0.N = Cert.InRefIdeal.Read.val_main_v148 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg7)) (m ((c : Thread nD τ).loc main_arg8)) :=
  ext3 fun b r s => (qb_arr m c b s r).trans (qb_ref _ _ _ _ _ _ _ _ _ _ _ b s r).symm

/-- The second mixer's keys are one array. -/
theorem kb_eq : (dats m 0 c).arrAt 16 cfg0.N = Cert.InRefIdeal.Read.val_main_v151 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg9)) (m ((c : Thread nD τ).loc main_arg10)) :=
  ext3 fun b s r => (kb_arr m c b s r).trans (kb_ref _ _ _ _ _ _ _ _ _ _ _ b s r).symm

/-- The second mixer's values are one array. -/
theorem vb_eq : (dats m 0 c).arrAt 17 cfg0.N = Cert.InRefIdeal.Read.val_main_v154 (F := Ideal) (m ((c : Thread nD τ).loc main_arg0)) (m ((c : Thread nD τ).loc main_arg4)) (m ((c : Thread nD τ).loc main_arg5)) (m ((c : Thread nD τ).loc main_arg9)) (m ((c : Thread nD τ).loc main_arg10)) :=
  ext3 fun b r s => (vb_arr m c b s r).trans (vb_ref _ _ _ _ _ _ _ _ _ _ _ b s r).symm

/-- The gates are one array. -/
theorem gates_eq : (dats m 0 c).arrAt 18 cfg0.N = Cert.InRefIdeal.Read.val_main_v164 (F := Ideal) (m ((c : Thread nD τ).loc main_arg0)) (m ((c : Thread nD τ).loc main_arg4)) (m ((c : Thread nD τ).loc main_arg5)) (m ((c : Thread nD τ).loc main_arg6)) :=
  ext3 fun b s r => (gates_arr m c b s r).trans (gates_ref _ _ _ _ _ _ _ _ _ _ _ b s r).symm

end

/-- The ideal reference runs to the end and leaves its arguments alone. -/
theorem frame_reference : Cert.quiescent_InRefIdeal := fun m ρ _ =>
  (θ_run Cert.InRefIdeal.defs _ _).mono (fun r h => ⟨fun c => (h c).2.2.2.2.2.2.2, sem_eq_zero_of_no_sems (by decide) r.2⟩)
    (Cert.InRefIdeal.Value.run (F := Ideal) m ρ)

/-- The ideal kernel is the kernel with no operation rewritten. -/
theorem preserves : Cert.preserves_In_InIdeal := trivial

/-- **From equal arguments the ideal kernel and the ideal reference end with equal results**, all seven. -/
theorem algebraic : Cert.algebraic_InIdeal_InRefIdeal := by
  intro m ρ m' ρ' _ hagree
  refine ⟨_, _, _, _, _, _, _, Cert.InIdeal.Value.run_blocks (F := Ideal) m ρ, ?_⟩
  refine (θ_run Cert.InRefIdeal.defs _ _).mono (fun _ h c => ?_) (Cert.InRefIdeal.Value.run (F := Ideal) m' ρ')
  obtain ⟨e0, e1, e2, e3, e4, e5, e6, hargs⟩ := h c
  obtain ⟨h0, h1, h2, h3, h4, h5, h6, h7, h8, h9, h10⟩ := hagree c
  refine ⟨e0.trans ?_, e1.trans ?_, e2.trans ?_, e3.trans ?_, e4.trans ?_, e5.trans ?_, e6.trans ?_, hargs⟩
  · refine (Cert.InRefIdeal.Read.val_main_v137_eq (StableHlo.launchContents m' c)).trans ?_
    refine Eq.trans ?_ (qa_eq m c).symm
    rw [← h0, ← h1, ← h2, ← h4, ← h5]
  · refine (Cert.InRefIdeal.Read.val_main_v140_eq (StableHlo.launchContents m' c)).trans ?_
    refine Eq.trans ?_ (ka_eq m c).symm
    rw [← h0, ← h1, ← h2, ← h4, ← h5]
  · refine (Cert.InRefIdeal.Read.val_main_v142_eq (StableHlo.launchContents m' c)).trans ?_
    refine Eq.trans ?_ (va_eq m c).symm
    rw [← h0, ← h4, ← h5]
  · refine (Cert.InRefIdeal.Read.val_main_v148_eq (StableHlo.launchContents m' c)).trans ?_
    refine Eq.trans ?_ (qb_eq m c).symm
    rw [← h0, ← h1, ← h3, ← h4, ← h5, ← h7, ← h8]
  · refine (Cert.InRefIdeal.Read.val_main_v151_eq (StableHlo.launchContents m' c)).trans ?_
    refine Eq.trans ?_ (kb_eq m c).symm
    rw [← h0, ← h1, ← h3, ← h4, ← h5, ← h9, ← h10]
  · refine (Cert.InRefIdeal.Read.val_main_v154_eq (StableHlo.launchContents m' c)).trans ?_
    refine Eq.trans ?_ (vb_eq m c).symm
    rw [← h0, ← h4, ← h5, ← h9, ← h10]
  · refine (Cert.InRefIdeal.Read.val_main_v164_eq (StableHlo.launchContents m' c)).trans ?_
    refine Eq.trans ?_ (gates_eq m c).symm
    rw [← h0, ← h4, ← h5, ← h6]

end Cert.InRun

end
-- ==== Proof.lean ====
module

public import proofs.«01_k».proof.Defs
public import proofs.«01_k».proof.Proof.Gen.Post
public import proofs.«01_k».proof.Proof.Gen.Post.Frame
public import proofs.«01_k».proof.Proof.Gen.PostIdeal
public import proofs.«01_k».proof.Proof.Gen.PostIdeal.Value
public import proofs.«01_k».proof.Proof.Gen.PostRefIdeal
public import proofs.«01_k».proof.Proof.Gen.PostRefIdeal.Run
public import proofs.«01_k».proof.Proof.Gen.PostRefIdeal.Read
public import proofs.«01_k».proof.Proof.PostClaims
public import proofs.«01_k».proof.Proof.Gen.In
public import proofs.«01_k».proof.Proof.Gen.In.Frame
public import proofs.«01_k».proof.Proof.Gen.InIdeal
public import proofs.«01_k».proof.Proof.Gen.InIdeal.Value
public import proofs.«01_k».proof.Proof.Gen.InRefIdeal
public import proofs.«01_k».proof.Proof.Gen.InRefIdeal.Run
public import proofs.«01_k».proof.Proof.Gen.InRefIdeal.Read
public import proofs.«01_k».proof.Proof.InClaims

@[expose] public section

/-- **Everything the certificate claims.** -/
theorem Cert.Proof.claim : Cert.Claim :=
  ⟨Cert.Post.Gen.facts, Cert.PostIdeal.Gen.facts, Cert.PostRefIdeal.Gen.facts,
    Cert.In.Gen.facts, Cert.InIdeal.Gen.facts, Cert.InRefIdeal.Gen.facts,
    fun m ρ _ => Cert.Post.Gen.frame m ρ, fun m ρ _ => Cert.PostIdeal.Gen.frame m ρ, Cert.PostRun.frame_reference,
    fun m ρ _ => Cert.In.Gen.frame m ρ, fun m ρ _ => Cert.InIdeal.Gen.frame m ρ, Cert.InRun.frame_reference,
    Cert.PostRun.preserves, Cert.PostRun.algebraic, Cert.InRun.preserves, Cert.InRun.algebraic⟩

end
